-- ==== Defs.lean ====
def Pre_Kernel [hPre_tokens_in_range : Cert.Pre_tokens_in_range.Facts] (m : (ℓ : Loc Cert.Kernel.nD Cert.Kernel.τ Cert.Kernel.sig) → Buf (Elt Bits) ℓ) : Prop :=
  ∀ c : Dev Cert.Kernel.nD,
    (Cert.Pre_tokens_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_tokens_in_range : Cert.Pre_tokens_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_tokens_in_range [hPre_tokens_in_range : Cert.Pre_tokens_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] [hPre_tokens_in_range : Cert.Pre_tokens_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8)
      ∧ r.2.mem ((c.tc : Thread Cert.Reference.nD Cert.Reference.τ).loc Cert.Reference.main_arg9) = m ((c.tc : Thread Cert.Reference.nD Cert.Reference.τ).loc Cert.Reference.main_arg9)
      ∧ r.2.mem ((c.tc : Thread Cert.Reference.nD Cert.Reference.τ).loc Cert.Reference.main_arg10) = m ((c.tc : Thread Cert.Reference.nD Cert.Reference.τ).loc Cert.Reference.main_arg10)
      ∧ r.2.mem ((c.tc : Thread Cert.Reference.nD Cert.Reference.τ).loc Cert.Reference.main_arg11) = m ((c.tc : Thread Cert.Reference.nD Cert.Reference.τ).loc Cert.Reference.main_arg11)
      ∧ r.2.mem ((c.tc : Thread Cert.Reference.nD Cert.Reference.τ).loc Cert.Reference.main_arg12) = m ((c.tc : Thread Cert.Reference.nD Cert.Reference.τ).loc Cert.Reference.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_tokens_in_range [hReferenceIdeal : Cert.ReferenceIdeal.Facts] [hPre_tokens_in_range : Cert.Pre_tokens_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "floor2" .f32 0x2B8CBCCC#32 ((1 / 1000000000000 : ℝ) : EReal)
  ∧ IdealRules.named_const.Statement Cert.KernelIdeal.κ "vel2" .f32 0x3C23D70A#32 ((1 / 100 : ℝ) : EReal)

def algebraic_KernelIdeal_ReferenceIdeal [hKernelIdeal : Cert.KernelIdeal.Facts] [hReferenceIdeal : Cert.ReferenceIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReference : Cert.Reference.Facts) (hReferenceIdeal : Cert.ReferenceIdeal.Facts) (hPre_tokens_in_range : Cert.Pre_tokens_in_range.Facts),
    quiescent_Kernel (hKernel := hKernel) (hPre_tokens_in_range := hPre_tokens_in_range)
    ∧ quiescent_KernelIdeal (hKernelIdeal := hKernelIdeal) (hPre_tokens_in_range := hPre_tokens_in_range)
    ∧ quiescent_Reference (hReference := hReference)
    ∧ quiescent_ReferenceIdeal (hReferenceIdeal := hReferenceIdeal)
    ∧ quiescent_ReferenceIdeal_pre_tokens_in_range (hReferenceIdeal := hReferenceIdeal) (hPre_tokens_in_range := hPre_tokens_in_range)
    ∧ preserves_Kernel_KernelIdeal
    ∧ algebraic_KernelIdeal_ReferenceIdeal (hKernelIdeal := hKernelIdeal) (hReferenceIdeal := hReferenceIdeal) (hPre_tokens_in_range := hPre_tokens_in_range)
-- ==== Pre_tokens_in_range.lean ====
abbrev S64x512 : Shape := ⟨2, ![64, 512]⟩
abbrev S32000x128 : Shape := ⟨2, ![32000, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x32000 : Shape := ⟨2, ![128, 32000]⟩
abbrev S32000 : Shape := ⟨1, ![32000]⟩
abbrev S_ : Shape := ⟨0, ![]⟩

class Facts : Prop where
  bcast_S_S64x512 : S_.BroadcastsInDim S64x512 (![] : Fin 0 → Fin S64x512.rank)

variable [Facts]

def fn {F : FTy → Type} [FloatOps F] (main_arg0 : IVec S64x512 32) (main_arg1 : FVec F S32000x128 .f32) (main_arg2 : FVec F S128x256 .f32) (main_arg3 : FVec F S256 .f32) (main_arg4 : FVec F S256x128 .f32) (main_arg5 : FVec F S128 .f32) (main_arg6 : FVec F S128 .f32) (main_arg7 : FVec F S128 .f32) (main_arg8 : FVec F S128x128 .f32) (main_arg9 : FVec F S128x128 .f32) (main_arg10 : FVec F S128 .f32) (main_arg11 : FVec F S128x32000 .f32) (main_arg12 : FVec F S32000 .f32) : IVec S64x512 1 :=
  let main_c : IVec S_ 32 := constantI S_ 32 0#32
  let main_v0 : IVec S64x512 32 := broadcastInDim S64x512 ![] bcast_S_S64x512 main_c
  let main_v1 : IVec S64x512 1 := cmpi .sge main_arg0 main_v0
  let main_c_0 : IVec S_ 32 := constantI S_ 32 32000#32
  let main_v2 : IVec S64x512 32 := broadcastInDim S64x512 ![] bcast_S_S64x512 main_c_0
  let main_v3 : IVec S64x512 1 := cmpi .slt main_arg0 main_v2
  let main_v4 : IVec S64x512 1 := andi main_v1 main_v3
  main_v4
-- ==== Kernel.lean ====
abbrev S64x512 : Shape := ⟨2, ![64, 512]⟩
abbrev S32000x128 : Shape := ⟨2, ![32000, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x32000 : Shape := ⟨2, ![128, 32000]⟩
abbrev S32000 : Shape := ⟨1, ![32000]⟩
abbrev S32768 : Shape := ⟨1, ![32768]⟩
abbrev S1x256 : Shape := ⟨2, ![1, 256]⟩
abbrev S1x128 : Shape := ⟨2, ![1, 128]⟩
abbrev S32768x128 : Shape := ⟨2, ![32768, 128]⟩
abbrev S1 : Shape := ⟨1, ![1]⟩
abbrev S256x256 : Shape := ⟨2, ![256, 256]⟩
abbrev S256x1 : Shape := ⟨2, ![256, 1]⟩
abbrev S64x512x128 : Shape := ⟨3, ![64, 512, 128]⟩
abbrev S64x128 : Shape := ⟨2, ![64, 128]⟩
abbrev S32x64x128 : Shape := ⟨3, ![32, 64, 128]⟩
abbrev S32x128 : Shape := ⟨2, ![32, 128]⟩
abbrev S32x128x128 : Shape := ⟨3, ![32, 128, 128]⟩
abbrev S32x64x64 : Shape := ⟨3, ![32, 64, 64]⟩
abbrev S32x64 : Shape := ⟨2, ![32, 64]⟩
abbrev S32x64x1 : Shape := ⟨3, ![32, 64, 1]⟩
abbrev S1x64x128 : Shape := ⟨3, ![1, 64, 128]⟩
abbrev S1x128x128 : Shape := ⟨3, ![1, 128, 128]⟩
abbrev S64x64 : Shape := ⟨2, ![64, 64]⟩
abbrev S1x64x64 : Shape := ⟨3, ![1, 64, 64]⟩
abbrev S32x8x128 : Shape := ⟨3, ![32, 8, 128]⟩
abbrev S32x1x128 : Shape := ⟨3, ![32, 1, 128]⟩
abbrev S32 : Shape := ⟨1, ![32]⟩
abbrev S32x1 : Shape := ⟨2, ![32, 1]⟩
abbrev S32x1x64 : Shape := ⟨3, ![32, 1, 64]⟩
abbrev S1x8x64 : Shape := ⟨3, ![1, 8, 64]⟩
abbrev S8x64 : Shape := ⟨2, ![8, 64]⟩
abbrev S8x8 : Shape := ⟨2, ![8, 8]⟩
abbrev S1x8x128 : Shape := ⟨3, ![1, 8, 128]⟩
abbrev S8x128 : Shape := ⟨2, ![8, 128]⟩
abbrev S8x16 : Shape := ⟨2, ![8, 16]⟩
abbrev S1x16x128 : Shape := ⟨3, ![1, 16, 128]⟩
abbrev S16x128 : Shape := ⟨2, ![16, 128]⟩
abbrev S8x24 : Shape := ⟨2, ![8, 24]⟩
abbrev S1x24x128 : Shape := ⟨3, ![1, 24, 128]⟩
abbrev S24x128 : Shape := ⟨2, ![24, 128]⟩
abbrev S8x32 : Shape := ⟨2, ![8, 32]⟩
abbrev S1x32x128 : Shape := ⟨3, ![1, 32, 128]⟩
abbrev S8x40 : Shape := ⟨2, ![8, 40]⟩
abbrev S1x40x128 : Shape := ⟨3, ![1, 40, 128]⟩
abbrev S40x128 : Shape := ⟨2, ![40, 128]⟩
abbrev S8x48 : Shape := ⟨2, ![8, 48]⟩
abbrev S1x48x128 : Shape := ⟨3, ![1, 48, 128]⟩
abbrev S48x128 : Shape := ⟨2, ![48, 128]⟩
abbrev S8x56 : Shape := ⟨2, ![8, 56]⟩
abbrev S1x56x128 : Shape := ⟨3, ![1, 56, 128]⟩
abbrev S56x128 : Shape := ⟨2, ![56, 128]⟩
abbrev S1x32000 : Shape := ⟨2, ![1, 32000]⟩
abbrev S64x32000 : Shape := ⟨2, ![64, 32000]⟩
abbrev S128x3200 : Shape := ⟨2, ![128, 3200]⟩
abbrev S1x3200 : Shape := ⟨2, ![1, 3200]⟩
abbrev S64x3200 : Shape := ⟨2, ![64, 3200]⟩

abbrev nBuf : Space → Nat
  | .hbm => 24
  | .vmem => 30
  | .smem => 1
  | _ => 0

abbrev bufTy : (tb : Table) → Fin (tcTables nBuf tb) → BufTy
  | .hbm, ⟨0, _⟩ => ⟨S64x512, .i32⟩
  | .hbm, ⟨1, _⟩ => ⟨S32000x128, .f32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x32000, .f32⟩
  | .hbm, ⟨12, _⟩ => ⟨S32000, .f32⟩
  | .hbm, ⟨13, _⟩ => ⟨S32768, .i32⟩
  | .hbm, ⟨14, _⟩ => ⟨S1x256, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S32768x128, .f32⟩
  | .hbm, ⟨19, _⟩ => ⟨S64x512x128, .f32⟩
  | .hbm, ⟨20, _⟩ => ⟨S64x128, .f32⟩
  | .hbm, ⟨21, _⟩ => ⟨S1x128, .f32⟩
  | .hbm, ⟨22, _⟩ => ⟨S1x32000, .f32⟩
  | .hbm, ⟨23, _⟩ => ⟨S64x32000, .f32⟩
  | .local _ .vmem, ⟨0, _⟩ => ⟨S32000x128, .f32⟩
  | .local _ .vmem, ⟨1, _⟩ => ⟨S128x256, .f32⟩
  | .local _ .vmem, ⟨2, _⟩ => ⟨S1x256, .f32⟩
  | .local _ .vmem, ⟨3, _⟩ => ⟨S256x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S128x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S32x64x128, .f32⟩
  | .local _ .vmem, ⟨12, _⟩ => ⟨S32x64x128, .f32⟩
  | .local _ .vmem, ⟨13, _⟩ => ⟨S32x128, .f32⟩
  | .local _ .vmem, ⟨14, _⟩ => ⟨S32x128, .f32⟩
  | .local _ .vmem, ⟨15, _⟩ => ⟨S32x128x128, .f32⟩
  | .local _ .vmem, ⟨16, _⟩ => ⟨S32x64x128, .f32⟩
  | .local _ .vmem, ⟨17, _⟩ => ⟨S32x64x128, .f32⟩
  | .local _ .vmem, ⟨18, _⟩ => ⟨S32x64x64, .f32⟩
  | .local _ .vmem, ⟨19, _⟩ => ⟨S32x64x128, .f32⟩
  | .local _ .vmem, ⟨20, _⟩ => ⟨S32x128, .f32⟩
  | .local _ .vmem, ⟨21, _⟩ => ⟨S64x128, .f32⟩
  | .local _ .vmem, ⟨22, _⟩ => ⟨S128x128, .f32⟩
  | .local _ .vmem, ⟨23, _⟩ => ⟨S1x128, .f32⟩
  | .local _ .vmem, ⟨24, _⟩ => ⟨S128x3200, .f32⟩
  | .local _ .vmem, ⟨25, _⟩ => ⟨S128x3200, .f32⟩
  | .local _ .vmem, ⟨26, _⟩ => ⟨S1x3200, .f32⟩
  | .local _ .vmem, ⟨27, _⟩ => ⟨S1x3200, .f32⟩
  | .local _ .vmem, ⟨28, _⟩ => ⟨S64x3200, .f32⟩
  | .local _ .vmem, ⟨29, _⟩ => ⟨S64x3200, .f32⟩
  | .local _ .smem, ⟨0, _⟩ => ⟨S32768, .i32⟩
  | _, _ => ⟨S64x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg9_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_scratch0 : Ref sig .tc := ⟨.vmem, 15, rfl⟩
abbrev cc1_scratch1 : Ref sig .tc := ⟨.vmem, 16, rfl⟩
abbrev cc1_scratch2 : Ref sig .tc := ⟨.vmem, 17, rfl⟩
abbrev cc1_scratch3 : Ref sig .tc := ⟨.vmem, 18, rfl⟩
abbrev cc1_scratch4 : Ref sig .tc := ⟨.vmem, 19, rfl⟩
abbrev cc1_scratch5 : Ref sig .tc := ⟨.vmem, 20, rfl⟩
abbrev cc2_stg0_0 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem9_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc2_sem0_0 : DmaSem sig := 15
abbrev cc2_sem1_0 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨2, ![2, 64], ![false, false]⟩

def k0_off1 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c0_i32 : BitVec 32 := 0#32
  let v3 : BitVec 32 := Scalar.addi v2 c0_i32
  let v4 : Index := Scalar.indexCast v3
  ![v4.toNat]
def k0_off2 (v5 : BitVec 32) : Fin 2 → Nat :=
  let v6 : Index := Scalar.indexCast v5
  let c0 : Index := 0#32
  ![v6.toNat, 0]

def k0_chk1 (v5 : BitVec 32) : Prop :=
  (∀ a, (k0_off2 v5) a + S1x128.size a ≤ S32000x128.size a)
theorem k0_off2_inb : ∀ (v5 : BitVec 32) (k0_hw1 : k0_chk1 v5), ∀ a, (k0_off2 v5) a + S1x128.size a ≤ S32000x128.size a := fun v5 k0_hw1 => k0_hw1

def k0_off3 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c1_i32 : BitVec 32 := 1#32
  let v12 : BitVec 32 := Scalar.addi v2 c1_i32
  let v13 : Index := Scalar.indexCast v12
  ![v13.toNat]
def k0_off4 (v14 : BitVec 32) : Fin 2 → Nat :=
  let v15 : Index := Scalar.indexCast v14
  let c0_2 : Index := 0#32
  ![v15.toNat, 0]

def k0_chk2 (v14 : BitVec 32) : Prop :=
  (∀ a, (k0_off4 v14) a + S1x128.size a ≤ S32000x128.size a)
theorem k0_off4_inb : ∀ (v14 : BitVec 32) (k0_hw2 : k0_chk2 v14), ∀ a, (k0_off4 v14) a + S1x128.size a ≤ S32000x128.size a := fun v14 k0_hw2 => k0_hw2

def k0_off5 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c2_i32 : BitVec 32 := 2#32
  let v21 : BitVec 32 := Scalar.addi v2 c2_i32
  let v22 : Index := Scalar.indexCast v21
  ![v22.toNat]
def k0_off6 (v23 : BitVec 32) : Fin 2 → Nat :=
  let v24 : Index := Scalar.indexCast v23
  let c0_4 : Index := 0#32
  ![v24.toNat, 0]

def k0_chk3 (v23 : BitVec 32) : Prop :=
  (∀ a, (k0_off6 v23) a + S1x128.size a ≤ S32000x128.size a)
theorem k0_off6_inb : ∀ (v23 : BitVec 32) (k0_hw3 : k0_chk3 v23), ∀ a, (k0_off6 v23) a + S1x128.size a ≤ S32000x128.size a := fun v23 k0_hw3 => k0_hw3

def k0_off7 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c3_i32 : BitVec 32 := 3#32
  let v30 : BitVec 32 := Scalar.addi v2 c3_i32
  let v31 : Index := Scalar.indexCast v30
  ![v31.toNat]
def k0_off8 (v32 : BitVec 32) : Fin 2 → Nat :=
  let v33 : Index := Scalar.indexCast v32
  let c0_6 : Index := 0#32
  ![v33.toNat, 0]

def k0_chk4 (v32 : BitVec 32) : Prop :=
  (∀ a, (k0_off8 v32) a + S1x128.size a ≤ S32000x128.size a)
theorem k0_off8_inb : ∀ (v32 : BitVec 32) (k0_hw4 : k0_chk4 v32), ∀ a, (k0_off8 v32) a + S1x128.size a ≤ S32000x128.size a := fun v32 k0_hw4 => k0_hw4

def k0_off9 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c4_i32 : BitVec 32 := 4#32
  let v39 : BitVec 32 := Scalar.addi v2 c4_i32
  let v40 : Index := Scalar.indexCast v39
  ![v40.toNat]
def k0_off10 (v41 : BitVec 32) : Fin 2 → Nat :=
  let v42 : Index := Scalar.indexCast v41
  let c0_8 : Index := 0#32
  ![v42.toNat, 0]

def k0_chk5 (v41 : BitVec 32) : Prop :=
  (∀ a, (k0_off10 v41) a + S1x128.size a ≤ S32000x128.size a)
theorem k0_off10_inb : ∀ (v41 : BitVec 32) (k0_hw5 : k0_chk5 v41), ∀ a, (k0_off10 v41) a + S1x128.size a ≤ S32000x128.size a := fun v41 k0_hw5 => k0_hw5

def k0_off11 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c5_i32 : BitVec 32 := 5#32
  let v48 : BitVec 32 := Scalar.addi v2 c5_i32
  let v49 : Index := Scalar.indexCast v48
  ![v49.toNat]
def k0_off12 (v50 : BitVec 32) : Fin 2 → Nat :=
  let v51 : Index := Scalar.indexCast v50
  let c0_10 : Index := 0#32
  ![v51.toNat, 0]

def k0_chk6 (v50 : BitVec 32) : Prop :=
  (∀ a, (k0_off12 v50) a + S1x128.size a ≤ S32000x128.size a)
theorem k0_off12_inb : ∀ (v50 : BitVec 32) (k0_hw6 : k0_chk6 v50), ∀ a, (k0_off12 v50) a + S1x128.size a ≤ S32000x128.size a := fun v50 k0_hw6 => k0_hw6

def k0_off13 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c6_i32 : BitVec 32 := 6#32
  let v57 : BitVec 32 := Scalar.addi v2 c6_i32
  let v58 : Index := Scalar.indexCast v57
  ![v58.toNat]
def k0_off14 (v59 : BitVec 32) : Fin 2 → Nat :=
  let v60 : Index := Scalar.indexCast v59
  let c0_12 : Index := 0#32
  ![v60.toNat, 0]

def k0_chk7 (v59 : BitVec 32) : Prop :=
  (∀ a, (k0_off14 v59) a + S1x128.size a ≤ S32000x128.size a)
theorem k0_off14_inb : ∀ (v59 : BitVec 32) (k0_hw7 : k0_chk7 v59), ∀ a, (k0_off14 v59) a + S1x128.size a ≤ S32000x128.size a := fun v59 k0_hw7 => k0_hw7

def k0_off15 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c7_i32 : BitVec 32 := 7#32
  let v66 : BitVec 32 := Scalar.addi v2 c7_i32
  let v67 : Index := Scalar.indexCast v66
  ![v67.toNat]
def k0_off16 (v68 : BitVec 32) : Fin 2 → Nat :=
  let v69 : Index := Scalar.indexCast v68
  let c0_14 : Index := 0#32
  ![v69.toNat, 0]

def k0_chk8 (v68 : BitVec 32) : Prop :=
  (∀ a, (k0_off16 v68) a + S1x128.size a ≤ S32000x128.size a)
theorem k0_off16_inb : ∀ (v68 : BitVec 32) (k0_hw8 : k0_chk8 v68), ∀ a, (k0_off16 v68) a + S1x128.size a ≤ S32000x128.size a := fun v68 k0_hw8 => k0_hw8

def k0_off17 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c8_i32 : BitVec 32 := 8#32
  let v75 : BitVec 32 := Scalar.addi v2 c8_i32
  let v76 : Index := Scalar.indexCast v75
  ![v76.toNat]
def k0_off18 (v77 : BitVec 32) : Fin 2 → Nat :=
  let v78 : Index := Scalar.indexCast v77
  let c0_16 : Index := 0#32
  ![v78.toNat, 0]

def k0_chk9 (v77 : BitVec 32) : Prop :=
  (∀ a, (k0_off18 v77) a + S1x128.size a ≤ S32000x128.size a)
theorem k0_off18_inb : ∀ (v77 : BitVec 32) (k0_hw9 : k0_chk9 v77), ∀ a, (k0_off18 v77) a + S1x128.size a ≤ S32000x128.size a := fun v77 k0_hw9 => k0_hw9

def k0_off19 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c9_i32 : BitVec 32 := 9#32
  let v84 : BitVec 32 := Scalar.addi v2 c9_i32
  let v85 : Index := Scalar.indexCast v84
  ![v85.toNat]
def k0_off20 (v86 : BitVec 32) : Fin 2 → Nat :=
  let v87 : Index := Scalar.indexCast v86
  let c0_18 : Index := 0#32
  ![v87.toNat, 0]

def k0_chk10 (v86 : BitVec 32) : Prop :=
  (∀ a, (k0_off20 v86) a + S1x128.size a ≤ S32000x128.size a)
theorem k0_off20_inb : ∀ (v86 : BitVec 32) (k0_hw10 : k0_chk10 v86), ∀ a, (k0_off20 v86) a + S1x128.size a ≤ S32000x128.size a := fun v86 k0_hw10 => k0_hw10

def k0_off21 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c10_i32 : BitVec 32 := 10#32
  let v93 : BitVec 32 := Scalar.addi v2 c10_i32
  let v94 : Index := Scalar.indexCast v93
  ![v94.toNat]
def k0_off22 (v95 : BitVec 32) : Fin 2 → Nat :=
  let v96 : Index := Scalar.indexCast v95
  let c0_20 : Index := 0#32
  ![v96.toNat, 0]

def k0_chk11 (v95 : BitVec 32) : Prop :=
  (∀ a, (k0_off22 v95) a + S1x128.size a ≤ S32000x128.size a)
theorem k0_off22_inb : ∀ (v95 : BitVec 32) (k0_hw11 : k0_chk11 v95), ∀ a, (k0_off22 v95) a + S1x128.size a ≤ S32000x128.size a := fun v95 k0_hw11 => k0_hw11

def k0_off23 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c11_i32 : BitVec 32 := 11#32
  let v102 : BitVec 32 := Scalar.addi v2 c11_i32
  let v103 : Index := Scalar.indexCast v102
  ![v103.toNat]
def k0_off24 (v104 : BitVec 32) : Fin 2 → Nat :=
  let v105 : Index := Scalar.indexCast v104
  let c0_22 : Index := 0#32
  ![v105.toNat, 0]

def k0_chk12 (v104 : BitVec 32) : Prop :=
  (∀ a, (k0_off24 v104) a + S1x128.size a ≤ S32000x128.size a)
theorem k0_off24_inb : ∀ (v104 : BitVec 32) (k0_hw12 : k0_chk12 v104), ∀ a, (k0_off24 v104) a + S1x128.size a ≤ S32000x128.size a := fun v104 k0_hw12 => k0_hw12

def k0_off25 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c12_i32 : BitVec 32 := 12#32
  let v111 : BitVec 32 := Scalar.addi v2 c12_i32
  let v112 : Index := Scalar.indexCast v111
  ![v112.toNat]
def k0_off26 (v113 : BitVec 32) : Fin 2 → Nat :=
  let v114 : Index := Scalar.indexCast v113
  let c0_24 : Index := 0#32
  ![v114.toNat, 0]

def k0_chk13 (v113 : BitVec 32) : Prop :=
  (∀ a, (k0_off26 v113) a + S1x128.size a ≤ S32000x128.size a)
theorem k0_off26_inb : ∀ (v113 : BitVec 32) (k0_hw13 : k0_chk13 v113), ∀ a, (k0_off26 v113) a + S1x128.size a ≤ S32000x128.size a := fun v113 k0_hw13 => k0_hw13

def k0_off27 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c13_i32 : BitVec 32 := 13#32
  let v120 : BitVec 32 := Scalar.addi v2 c13_i32
  let v121 : Index := Scalar.indexCast v120
  ![v121.toNat]
def k0_off28 (v122 : BitVec 32) : Fin 2 → Nat :=
  let v123 : Index := Scalar.indexCast v122
  let c0_26 : Index := 0#32
  ![v123.toNat, 0]

def k0_chk14 (v122 : BitVec 32) : Prop :=
  (∀ a, (k0_off28 v122) a + S1x128.size a ≤ S32000x128.size a)
theorem k0_off28_inb : ∀ (v122 : BitVec 32) (k0_hw14 : k0_chk14 v122), ∀ a, (k0_off28 v122) a + S1x128.size a ≤ S32000x128.size a := fun v122 k0_hw14 => k0_hw14

def k0_off29 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c14_i32 : BitVec 32 := 14#32
  let v129 : BitVec 32 := Scalar.addi v2 c14_i32
  let v130 : Index := Scalar.indexCast v129
  ![v130.toNat]
def k0_off30 (v131 : BitVec 32) : Fin 2 → Nat :=
  let v132 : Index := Scalar.indexCast v131
  let c0_28 : Index := 0#32
  ![v132.toNat, 0]

def k0_chk15 (v131 : BitVec 32) : Prop :=
  (∀ a, (k0_off30 v131) a + S1x128.size a ≤ S32000x128.size a)
theorem k0_off30_inb : ∀ (v131 : BitVec 32) (k0_hw15 : k0_chk15 v131), ∀ a, (k0_off30 v131) a + S1x128.size a ≤ S32000x128.size a := fun v131 k0_hw15 => k0_hw15

def k0_off31 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c15_i32 : BitVec 32 := 15#32
  let v138 : BitVec 32 := Scalar.addi v2 c15_i32
  let v139 : Index := Scalar.indexCast v138
  ![v139.toNat]
def k0_off32 (v140 : BitVec 32) : Fin 2 → Nat :=
  let v141 : Index := Scalar.indexCast v140
  let c0_30 : Index := 0#32
  ![v141.toNat, 0]

def k0_chk16 (v140 : BitVec 32) : Prop :=
  (∀ a, (k0_off32 v140) a + S1x128.size a ≤ S32000x128.size a)
theorem k0_off32_inb : ∀ (v140 : BitVec 32) (k0_hw16 : k0_chk16 v140), ∀ a, (k0_off32 v140) a + S1x128.size a ≤ S32000x128.size a := fun v140 k0_hw16 => k0_hw16

def k0_off33 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c16_i32 : BitVec 32 := 16#32
  let v147 : BitVec 32 := Scalar.addi v2 c16_i32
  let v148 : Index := Scalar.indexCast v147
  ![v148.toNat]
def k0_off34 (v149 : BitVec 32) : Fin 2 → Nat :=
  let v150 : Index := Scalar.indexCast v149
  let c0_32 : Index := 0#32
  ![v150.toNat, 0]

def k0_chk17 (v149 : BitVec 32) : Prop :=
  (∀ a, (k0_off34 v149) a + S1x128.size a ≤ S32000x128.size a)
theorem k0_off34_inb : ∀ (v149 : BitVec 32) (k0_hw17 : k0_chk17 v149), ∀ a, (k0_off34 v149) a + S1x128.size a ≤ S32000x128.size a := fun v149 k0_hw17 => k0_hw17

def k0_off35 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c17_i32 : BitVec 32 := 17#32
  let v156 : BitVec 32 := Scalar.addi v2 c17_i32
  let v157 : Index := Scalar.indexCast v156
  ![v157.toNat]
def k0_off36 (v158 : BitVec 32) : Fin 2 → Nat :=
  let v159 : Index := Scalar.indexCast v158
  let c0_34 : Index := 0#32
  ![v159.toNat, 0]

def k0_chk18 (v158 : BitVec 32) : Prop :=
  (∀ a, (k0_off36 v158) a + S1x128.size a ≤ S32000x128.size a)
theorem k0_off36_inb : ∀ (v158 : BitVec 32) (k0_hw18 : k0_chk18 v158), ∀ a, (k0_off36 v158) a + S1x128.size a ≤ S32000x128.size a := fun v158 k0_hw18 => k0_hw18

def k0_off37 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c18_i32 : BitVec 32 := 18#32
  let v165 : BitVec 32 := Scalar.addi v2 c18_i32
  let v166 : Index := Scalar.indexCast v165
  ![v166.toNat]
def k0_off38 (v167 : BitVec 32) : Fin 2 → Nat :=
  let v168 : Index := Scalar.indexCast v167
  let c0_36 : Index := 0#32
  ![v168.toNat, 0]

def k0_chk19 (v167 : BitVec 32) : Prop :=
  (∀ a, (k0_off38 v167) a + S1x128.size a ≤ S32000x128.size a)
theorem k0_off38_inb : ∀ (v167 : BitVec 32) (k0_hw19 : k0_chk19 v167), ∀ a, (k0_off38 v167) a + S1x128.size a ≤ S32000x128.size a := fun v167 k0_hw19 => k0_hw19

def k0_off39 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c19_i32 : BitVec 32 := 19#32
  let v174 : BitVec 32 := Scalar.addi v2 c19_i32
  let v175 : Index := Scalar.indexCast v174
  ![v175.toNat]
def k0_off40 (v176 : BitVec 32) : Fin 2 → Nat :=
  let v177 : Index := Scalar.indexCast v176
  let c0_38 : Index := 0#32
  ![v177.toNat, 0]

def k0_chk20 (v176 : BitVec 32) : Prop :=
  (∀ a, (k0_off40 v176) a + S1x128.size a ≤ S32000x128.size a)
theorem k0_off40_inb : ∀ (v176 : BitVec 32) (k0_hw20 : k0_chk20 v176), ∀ a, (k0_off40 v176) a + S1x128.size a ≤ S32000x128.size a := fun v176 k0_hw20 => k0_hw20

def k0_off41 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c20_i32 : BitVec 32 := 20#32
  let v183 : BitVec 32 := Scalar.addi v2 c20_i32
  let v184 : Index := Scalar.indexCast v183
  ![v184.toNat]
def k0_off42 (v185 : BitVec 32) : Fin 2 → Nat :=
  let v186 : Index := Scalar.indexCast v185
  let c0_40 : Index := 0#32
  ![v186.toNat, 0]

def k0_chk21 (v185 : BitVec 32) : Prop :=
  (∀ a, (k0_off42 v185) a + S1x128.size a ≤ S32000x128.size a)
theorem k0_off42_inb : ∀ (v185 : BitVec 32) (k0_hw21 : k0_chk21 v185), ∀ a, (k0_off42 v185) a + S1x128.size a ≤ S32000x128.size a := fun v185 k0_hw21 => k0_hw21

def k0_off43 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c21_i32 : BitVec 32 := 21#32
  let v192 : BitVec 32 := Scalar.addi v2 c21_i32
  let v193 : Index := Scalar.indexCast v192
  ![v193.toNat]
def k0_off44 (v194 : BitVec 32) : Fin 2 → Nat :=
  let v195 : Index := Scalar.indexCast v194
  let c0_42 : Index := 0#32
  ![v195.toNat, 0]

def k0_chk22 (v194 : BitVec 32) : Prop :=
  (∀ a, (k0_off44 v194) a + S1x128.size a ≤ S32000x128.size a)
theorem k0_off44_inb : ∀ (v194 : BitVec 32) (k0_hw22 : k0_chk22 v194), ∀ a, (k0_off44 v194) a + S1x128.size a ≤ S32000x128.size a := fun v194 k0_hw22 => k0_hw22

def k0_off45 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c22_i32 : BitVec 32 := 22#32
  let v201 : BitVec 32 := Scalar.addi v2 c22_i32
  let v202 : Index := Scalar.indexCast v201
  ![v202.toNat]
def k0_off46 (v203 : BitVec 32) : Fin 2 → Nat :=
  let v204 : Index := Scalar.indexCast v203
  let c0_44 : Index := 0#32
  ![v204.toNat, 0]

def k0_chk23 (v203 : BitVec 32) : Prop :=
  (∀ a, (k0_off46 v203) a + S1x128.size a ≤ S32000x128.size a)
theorem k0_off46_inb : ∀ (v203 : BitVec 32) (k0_hw23 : k0_chk23 v203), ∀ a, (k0_off46 v203) a + S1x128.size a ≤ S32000x128.size a := fun v203 k0_hw23 => k0_hw23

def k0_off47 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c23_i32 : BitVec 32 := 23#32
  let v210 : BitVec 32 := Scalar.addi v2 c23_i32
  let v211 : Index := Scalar.indexCast v210
  ![v211.toNat]
def k0_off48 (v212 : BitVec 32) : Fin 2 → Nat :=
  let v213 : Index := Scalar.indexCast v212
  let c0_46 : Index := 0#32
  ![v213.toNat, 0]

def k0_chk24 (v212 : BitVec 32) : Prop :=
  (∀ a, (k0_off48 v212) a + S1x128.size a ≤ S32000x128.size a)
theorem k0_off48_inb : ∀ (v212 : BitVec 32) (k0_hw24 : k0_chk24 v212), ∀ a, (k0_off48 v212) a + S1x128.size a ≤ S32000x128.size a := fun v212 k0_hw24 => k0_hw24

def k0_off49 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c24_i32 : BitVec 32 := 24#32
  let v219 : BitVec 32 := Scalar.addi v2 c24_i32
  let v220 : Index := Scalar.indexCast v219
  ![v220.toNat]
def k0_off50 (v221 : BitVec 32) : Fin 2 → Nat :=
  let v222 : Index := Scalar.indexCast v221
  let c0_48 : Index := 0#32
  ![v222.toNat, 0]

def k0_chk25 (v221 : BitVec 32) : Prop :=
  (∀ a, (k0_off50 v221) a + S1x128.size a ≤ S32000x128.size a)
theorem k0_off50_inb : ∀ (v221 : BitVec 32) (k0_hw25 : k0_chk25 v221), ∀ a, (k0_off50 v221) a + S1x128.size a ≤ S32000x128.size a := fun v221 k0_hw25 => k0_hw25

def k0_off51 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c25_i32 : BitVec 32 := 25#32
  let v228 : BitVec 32 := Scalar.addi v2 c25_i32
  let v229 : Index := Scalar.indexCast v228
  ![v229.toNat]
def k0_off52 (v230 : BitVec 32) : Fin 2 → Nat :=
  let v231 : Index := Scalar.indexCast v230
  let c0_50 : Index := 0#32
  ![v231.toNat, 0]

def k0_chk26 (v230 : BitVec 32) : Prop :=
  (∀ a, (k0_off52 v230) a + S1x128.size a ≤ S32000x128.size a)
theorem k0_off52_inb : ∀ (v230 : BitVec 32) (k0_hw26 : k0_chk26 v230), ∀ a, (k0_off52 v230) a + S1x128.size a ≤ S32000x128.size a := fun v230 k0_hw26 => k0_hw26

def k0_off53 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c26_i32 : BitVec 32 := 26#32
  let v237 : BitVec 32 := Scalar.addi v2 c26_i32
  let v238 : Index := Scalar.indexCast v237
  ![v238.toNat]
def k0_off54 (v239 : BitVec 32) : Fin 2 → Nat :=
  let v240 : Index := Scalar.indexCast v239
  let c0_52 : Index := 0#32
  ![v240.toNat, 0]

def k0_chk27 (v239 : BitVec 32) : Prop :=
  (∀ a, (k0_off54 v239) a + S1x128.size a ≤ S32000x128.size a)
theorem k0_off54_inb : ∀ (v239 : BitVec 32) (k0_hw27 : k0_chk27 v239), ∀ a, (k0_off54 v239) a + S1x128.size a ≤ S32000x128.size a := fun v239 k0_hw27 => k0_hw27

def k0_off55 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c27_i32 : BitVec 32 := 27#32
  let v246 : BitVec 32 := Scalar.addi v2 c27_i32
  let v247 : Index := Scalar.indexCast v246
  ![v247.toNat]
def k0_off56 (v248 : BitVec 32) : Fin 2 → Nat :=
  let v249 : Index := Scalar.indexCast v248
  let c0_54 : Index := 0#32
  ![v249.toNat, 0]

def k0_chk28 (v248 : BitVec 32) : Prop :=
  (∀ a, (k0_off56 v248) a + S1x128.size a ≤ S32000x128.size a)
theorem k0_off56_inb : ∀ (v248 : BitVec 32) (k0_hw28 : k0_chk28 v248), ∀ a, (k0_off56 v248) a + S1x128.size a ≤ S32000x128.size a := fun v248 k0_hw28 => k0_hw28

def k0_off57 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c28_i32 : BitVec 32 := 28#32
  let v255 : BitVec 32 := Scalar.addi v2 c28_i32
  let v256 : Index := Scalar.indexCast v255
  ![v256.toNat]
def k0_off58 (v257 : BitVec 32) : Fin 2 → Nat :=
  let v258 : Index := Scalar.indexCast v257
  let c0_56 : Index := 0#32
  ![v258.toNat, 0]

def k0_chk29 (v257 : BitVec 32) : Prop :=
  (∀ a, (k0_off58 v257) a + S1x128.size a ≤ S32000x128.size a)
theorem k0_off58_inb : ∀ (v257 : BitVec 32) (k0_hw29 : k0_chk29 v257), ∀ a, (k0_off58 v257) a + S1x128.size a ≤ S32000x128.size a := fun v257 k0_hw29 => k0_hw29

def k0_off59 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c29_i32 : BitVec 32 := 29#32
  let v264 : BitVec 32 := Scalar.addi v2 c29_i32
  let v265 : Index := Scalar.indexCast v264
  ![v265.toNat]
def k0_off60 (v266 : BitVec 32) : Fin 2 → Nat :=
  let v267 : Index := Scalar.indexCast v266
  let c0_58 : Index := 0#32
  ![v267.toNat, 0]

def k0_chk30 (v266 : BitVec 32) : Prop :=
  (∀ a, (k0_off60 v266) a + S1x128.size a ≤ S32000x128.size a)
theorem k0_off60_inb : ∀ (v266 : BitVec 32) (k0_hw30 : k0_chk30 v266), ∀ a, (k0_off60 v266) a + S1x128.size a ≤ S32000x128.size a := fun v266 k0_hw30 => k0_hw30

def k0_off61 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c30_i32 : BitVec 32 := 30#32
  let v273 : BitVec 32 := Scalar.addi v2 c30_i32
  let v274 : Index := Scalar.indexCast v273
  ![v274.toNat]
def k0_off62 (v275 : BitVec 32) : Fin 2 → Nat :=
  let v276 : Index := Scalar.indexCast v275
  let c0_60 : Index := 0#32
  ![v276.toNat, 0]

def k0_chk31 (v275 : BitVec 32) : Prop :=
  (∀ a, (k0_off62 v275) a + S1x128.size a ≤ S32000x128.size a)
theorem k0_off62_inb : ∀ (v275 : BitVec 32) (k0_hw31 : k0_chk31 v275), ∀ a, (k0_off62 v275) a + S1x128.size a ≤ S32000x128.size a := fun v275 k0_hw31 => k0_hw31

def k0_off63 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c31_i32 : BitVec 32 := 31#32
  let v282 : BitVec 32 := Scalar.addi v2 c31_i32
  let v283 : Index := Scalar.indexCast v282
  ![v283.toNat]
def k0_off64 (v284 : BitVec 32) : Fin 2 → Nat :=
  let v285 : Index := Scalar.indexCast v284
  let c0_62 : Index := 0#32
  ![v285.toNat, 0]

def k0_chk32 (v284 : BitVec 32) : Prop :=
  (∀ a, (k0_off64 v284) a + S1x128.size a ≤ S32000x128.size a)
theorem k0_off64_inb : ∀ (v284 : BitVec 32) (k0_hw32 : k0_chk32 v284), ∀ a, (k0_off64 v284) a + S1x128.size a ≤ S32000x128.size a := fun v284 k0_hw32 => k0_hw32

def k0_off65 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c32_i32 : BitVec 32 := 32#32
  let v291 : BitVec 32 := Scalar.addi v2 c32_i32
  let v292 : Index := Scalar.indexCast v291
  ![v292.toNat]
def k0_off66 (v293 : BitVec 32) : Fin 2 → Nat :=
  let v294 : Index := Scalar.indexCast v293
  let c0_64 : Index := 0#32
  ![v294.toNat, 0]

def k0_chk33 (v293 : BitVec 32) : Prop :=
  (∀ a, (k0_off66 v293) a + S1x128.size a ≤ S32000x128.size a)
theorem k0_off66_inb : ∀ (v293 : BitVec 32) (k0_hw33 : k0_chk33 v293), ∀ a, (k0_off66 v293) a + S1x128.size a ≤ S32000x128.size a := fun v293 k0_hw33 => k0_hw33

def k0_off67 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c33_i32 : BitVec 32 := 33#32
  let v300 : BitVec 32 := Scalar.addi v2 c33_i32
  let v301 : Index := Scalar.indexCast v300
  ![v301.toNat]
def k0_off68 (v302 : BitVec 32) : Fin 2 → Nat :=
  let v303 : Index := Scalar.indexCast v302
  let c0_66 : Index := 0#32
  ![v303.toNat, 0]

def k0_chk34 (v302 : BitVec 32) : Prop :=
  (∀ a, (k0_off68 v302) a + S1x128.size a ≤ S32000x128.size a)
theorem k0_off68_inb : ∀ (v302 : BitVec 32) (k0_hw34 : k0_chk34 v302), ∀ a, (k0_off68 v302) a + S1x128.size a ≤ S32000x128.size a := fun v302 k0_hw34 => k0_hw34

def k0_off69 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c34_i32 : BitVec 32 := 34#32
  let v309 : BitVec 32 := Scalar.addi v2 c34_i32
  let v310 : Index := Scalar.indexCast v309
  ![v310.toNat]
def k0_off70 (v311 : BitVec 32) : Fin 2 → Nat :=
  let v312 : Index := Scalar.indexCast v311
  let c0_68 : Index := 0#32
  ![v312.toNat, 0]

def k0_chk35 (v311 : BitVec 32) : Prop :=
  (∀ a, (k0_off70 v311) a + S1x128.size a ≤ S32000x128.size a)
theorem k0_off70_inb : ∀ (v311 : BitVec 32) (k0_hw35 : k0_chk35 v311), ∀ a, (k0_off70 v311) a + S1x128.size a ≤ S32000x128.size a := fun v311 k0_hw35 => k0_hw35

def k0_off71 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c35_i32 : BitVec 32 := 35#32
  let v318 : BitVec 32 := Scalar.addi v2 c35_i32
  let v319 : Index := Scalar.indexCast v318
  ![v319.toNat]
def k0_off72 (v320 : BitVec 32) : Fin 2 → Nat :=
  let v321 : Index := Scalar.indexCast v320
  let c0_70 : Index := 0#32
  ![v321.toNat, 0]

def k0_chk36 (v320 : BitVec 32) : Prop :=
  (∀ a, (k0_off72 v320) a + S1x128.size a ≤ S32000x128.size a)
theorem k0_off72_inb : ∀ (v320 : BitVec 32) (k0_hw36 : k0_chk36 v320), ∀ a, (k0_off72 v320) a + S1x128.size a ≤ S32000x128.size a := fun v320 k0_hw36 => k0_hw36

def k0_off73 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c36_i32 : BitVec 32 := 36#32
  let v327 : BitVec 32 := Scalar.addi v2 c36_i32
  let v328 : Index := Scalar.indexCast v327
  ![v328.toNat]
def k0_off74 (v329 : BitVec 32) : Fin 2 → Nat :=
  let v330 : Index := Scalar.indexCast v329
  let c0_72 : Index := 0#32
  ![v330.toNat, 0]

def k0_chk37 (v329 : BitVec 32) : Prop :=
  (∀ a, (k0_off74 v329) a + S1x128.size a ≤ S32000x128.size a)
theorem k0_off74_inb : ∀ (v329 : BitVec 32) (k0_hw37 : k0_chk37 v329), ∀ a, (k0_off74 v329) a + S1x128.size a ≤ S32000x128.size a := fun v329 k0_hw37 => k0_hw37

def k0_off75 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c37_i32 : BitVec 32 := 37#32
  let v336 : BitVec 32 := Scalar.addi v2 c37_i32
  let v337 : Index := Scalar.indexCast v336
  ![v337.toNat]
def k0_off76 (v338 : BitVec 32) : Fin 2 → Nat :=
  let v339 : Index := Scalar.indexCast v338
  let c0_74 : Index := 0#32
  ![v339.toNat, 0]

def k0_chk38 (v338 : BitVec 32) : Prop :=
  (∀ a, (k0_off76 v338) a + S1x128.size a ≤ S32000x128.size a)
theorem k0_off76_inb : ∀ (v338 : BitVec 32) (k0_hw38 : k0_chk38 v338), ∀ a, (k0_off76 v338) a + S1x128.size a ≤ S32000x128.size a := fun v338 k0_hw38 => k0_hw38

def k0_off77 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c38_i32 : BitVec 32 := 38#32
  let v345 : BitVec 32 := Scalar.addi v2 c38_i32
  let v346 : Index := Scalar.indexCast v345
  ![v346.toNat]
def k0_off78 (v347 : BitVec 32) : Fin 2 → Nat :=
  let v348 : Index := Scalar.indexCast v347
  let c0_76 : Index := 0#32
  ![v348.toNat, 0]

def k0_chk39 (v347 : BitVec 32) : Prop :=
  (∀ a, (k0_off78 v347) a + S1x128.size a ≤ S32000x128.size a)
theorem k0_off78_inb : ∀ (v347 : BitVec 32) (k0_hw39 : k0_chk39 v347), ∀ a, (k0_off78 v347) a + S1x128.size a ≤ S32000x128.size a := fun v347 k0_hw39 => k0_hw39

def k0_off79 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c39_i32 : BitVec 32 := 39#32
  let v354 : BitVec 32 := Scalar.addi v2 c39_i32
  let v355 : Index := Scalar.indexCast v354
  ![v355.toNat]
def k0_off80 (v356 : BitVec 32) : Fin 2 → Nat :=
  let v357 : Index := Scalar.indexCast v356
  let c0_78 : Index := 0#32
  ![v357.toNat, 0]

def k0_chk40 (v356 : BitVec 32) : Prop :=
  (∀ a, (k0_off80 v356) a + S1x128.size a ≤ S32000x128.size a)
theorem k0_off80_inb : ∀ (v356 : BitVec 32) (k0_hw40 : k0_chk40 v356), ∀ a, (k0_off80 v356) a + S1x128.size a ≤ S32000x128.size a := fun v356 k0_hw40 => k0_hw40

def k0_off81 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c40_i32 : BitVec 32 := 40#32
  let v363 : BitVec 32 := Scalar.addi v2 c40_i32
  let v364 : Index := Scalar.indexCast v363
  ![v364.toNat]
def k0_off82 (v365 : BitVec 32) : Fin 2 → Nat :=
  let v366 : Index := Scalar.indexCast v365
  let c0_80 : Index := 0#32
  ![v366.toNat, 0]

def k0_chk41 (v365 : BitVec 32) : Prop :=
  (∀ a, (k0_off82 v365) a + S1x128.size a ≤ S32000x128.size a)
theorem k0_off82_inb : ∀ (v365 : BitVec 32) (k0_hw41 : k0_chk41 v365), ∀ a, (k0_off82 v365) a + S1x128.size a ≤ S32000x128.size a := fun v365 k0_hw41 => k0_hw41

def k0_off83 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c41_i32 : BitVec 32 := 41#32
  let v372 : BitVec 32 := Scalar.addi v2 c41_i32
  let v373 : Index := Scalar.indexCast v372
  ![v373.toNat]
def k0_off84 (v374 : BitVec 32) : Fin 2 → Nat :=
  let v375 : Index := Scalar.indexCast v374
  let c0_82 : Index := 0#32
  ![v375.toNat, 0]

def k0_chk42 (v374 : BitVec 32) : Prop :=
  (∀ a, (k0_off84 v374) a + S1x128.size a ≤ S32000x128.size a)
theorem k0_off84_inb : ∀ (v374 : BitVec 32) (k0_hw42 : k0_chk42 v374), ∀ a, (k0_off84 v374) a + S1x128.size a ≤ S32000x128.size a := fun v374 k0_hw42 => k0_hw42

def k0_off85 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c42_i32 : BitVec 32 := 42#32
  let v381 : BitVec 32 := Scalar.addi v2 c42_i32
  let v382 : Index := Scalar.indexCast v381
  ![v382.toNat]
def k0_off86 (v383 : BitVec 32) : Fin 2 → Nat :=
  let v384 : Index := Scalar.indexCast v383
  let c0_84 : Index := 0#32
  ![v384.toNat, 0]

def k0_chk43 (v383 : BitVec 32) : Prop :=
  (∀ a, (k0_off86 v383) a + S1x128.size a ≤ S32000x128.size a)
theorem k0_off86_inb : ∀ (v383 : BitVec 32) (k0_hw43 : k0_chk43 v383), ∀ a, (k0_off86 v383) a + S1x128.size a ≤ S32000x128.size a := fun v383 k0_hw43 => k0_hw43

def k0_off87 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c43_i32 : BitVec 32 := 43#32
  let v390 : BitVec 32 := Scalar.addi v2 c43_i32
  let v391 : Index := Scalar.indexCast v390
  ![v391.toNat]
def k0_off88 (v392 : BitVec 32) : Fin 2 → Nat :=
  let v393 : Index := Scalar.indexCast v392
  let c0_86 : Index := 0#32
  ![v393.toNat, 0]

def k0_chk44 (v392 : BitVec 32) : Prop :=
  (∀ a, (k0_off88 v392) a + S1x128.size a ≤ S32000x128.size a)
theorem k0_off88_inb : ∀ (v392 : BitVec 32) (k0_hw44 : k0_chk44 v392), ∀ a, (k0_off88 v392) a + S1x128.size a ≤ S32000x128.size a := fun v392 k0_hw44 => k0_hw44

def k0_off89 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c44_i32 : BitVec 32 := 44#32
  let v399 : BitVec 32 := Scalar.addi v2 c44_i32
  let v400 : Index := Scalar.indexCast v399
  ![v400.toNat]
def k0_off90 (v401 : BitVec 32) : Fin 2 → Nat :=
  let v402 : Index := Scalar.indexCast v401
  let c0_88 : Index := 0#32
  ![v402.toNat, 0]

def k0_chk45 (v401 : BitVec 32) : Prop :=
  (∀ a, (k0_off90 v401) a + S1x128.size a ≤ S32000x128.size a)
theorem k0_off90_inb : ∀ (v401 : BitVec 32) (k0_hw45 : k0_chk45 v401), ∀ a, (k0_off90 v401) a + S1x128.size a ≤ S32000x128.size a := fun v401 k0_hw45 => k0_hw45

def k0_off91 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c45_i32 : BitVec 32 := 45#32
  let v408 : BitVec 32 := Scalar.addi v2 c45_i32
  let v409 : Index := Scalar.indexCast v408
  ![v409.toNat]
def k0_off92 (v410 : BitVec 32) : Fin 2 → Nat :=
  let v411 : Index := Scalar.indexCast v410
  let c0_90 : Index := 0#32
  ![v411.toNat, 0]

def k0_chk46 (v410 : BitVec 32) : Prop :=
  (∀ a, (k0_off92 v410) a + S1x128.size a ≤ S32000x128.size a)
theorem k0_off92_inb : ∀ (v410 : BitVec 32) (k0_hw46 : k0_chk46 v410), ∀ a, (k0_off92 v410) a + S1x128.size a ≤ S32000x128.size a := fun v410 k0_hw46 => k0_hw46

def k0_off93 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c46_i32 : BitVec 32 := 46#32
  let v417 : BitVec 32 := Scalar.addi v2 c46_i32
  let v418 : Index := Scalar.indexCast v417
  ![v418.toNat]
def k0_off94 (v419 : BitVec 32) : Fin 2 → Nat :=
  let v420 : Index := Scalar.indexCast v419
  let c0_92 : Index := 0#32
  ![v420.toNat, 0]

def k0_chk47 (v419 : BitVec 32) : Prop :=
  (∀ a, (k0_off94 v419) a + S1x128.size a ≤ S32000x128.size a)
theorem k0_off94_inb : ∀ (v419 : BitVec 32) (k0_hw47 : k0_chk47 v419), ∀ a, (k0_off94 v419) a + S1x128.size a ≤ S32000x128.size a := fun v419 k0_hw47 => k0_hw47

def k0_off95 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c47_i32 : BitVec 32 := 47#32
  let v426 : BitVec 32 := Scalar.addi v2 c47_i32
  let v427 : Index := Scalar.indexCast v426
  ![v427.toNat]
def k0_off96 (v428 : BitVec 32) : Fin 2 → Nat :=
  let v429 : Index := Scalar.indexCast v428
  let c0_94 : Index := 0#32
  ![v429.toNat, 0]

def k0_chk48 (v428 : BitVec 32) : Prop :=
  (∀ a, (k0_off96 v428) a + S1x128.size a ≤ S32000x128.size a)
theorem k0_off96_inb : ∀ (v428 : BitVec 32) (k0_hw48 : k0_chk48 v428), ∀ a, (k0_off96 v428) a + S1x128.size a ≤ S32000x128.size a := fun v428 k0_hw48 => k0_hw48

def k0_off97 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c48_i32 : BitVec 32 := 48#32
  let v435 : BitVec 32 := Scalar.addi v2 c48_i32
  let v436 : Index := Scalar.indexCast v435
  ![v436.toNat]
def k0_off98 (v437 : BitVec 32) : Fin 2 → Nat :=
  let v438 : Index := Scalar.indexCast v437
  let c0_96 : Index := 0#32
  ![v438.toNat, 0]

def k0_chk49 (v437 : BitVec 32) : Prop :=
  (∀ a, (k0_off98 v437) a + S1x128.size a ≤ S32000x128.size a)
theorem k0_off98_inb : ∀ (v437 : BitVec 32) (k0_hw49 : k0_chk49 v437), ∀ a, (k0_off98 v437) a + S1x128.size a ≤ S32000x128.size a := fun v437 k0_hw49 => k0_hw49

def k0_off99 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c49_i32 : BitVec 32 := 49#32
  let v444 : BitVec 32 := Scalar.addi v2 c49_i32
  let v445 : Index := Scalar.indexCast v444
  ![v445.toNat]
def k0_off100 (v446 : BitVec 32) : Fin 2 → Nat :=
  let v447 : Index := Scalar.indexCast v446
  let c0_98 : Index := 0#32
  ![v447.toNat, 0]

def k0_chk50 (v446 : BitVec 32) : Prop :=
  (∀ a, (k0_off100 v446) a + S1x128.size a ≤ S32000x128.size a)
theorem k0_off100_inb : ∀ (v446 : BitVec 32) (k0_hw50 : k0_chk50 v446), ∀ a, (k0_off100 v446) a + S1x128.size a ≤ S32000x128.size a := fun v446 k0_hw50 => k0_hw50

def k0_off101 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c50_i32 : BitVec 32 := 50#32
  let v453 : BitVec 32 := Scalar.addi v2 c50_i32
  let v454 : Index := Scalar.indexCast v453
  ![v454.toNat]
def k0_off102 (v455 : BitVec 32) : Fin 2 → Nat :=
  let v456 : Index := Scalar.indexCast v455
  let c0_100 : Index := 0#32
  ![v456.toNat, 0]

def k0_chk51 (v455 : BitVec 32) : Prop :=
  (∀ a, (k0_off102 v455) a + S1x128.size a ≤ S32000x128.size a)
theorem k0_off102_inb : ∀ (v455 : BitVec 32) (k0_hw51 : k0_chk51 v455), ∀ a, (k0_off102 v455) a + S1x128.size a ≤ S32000x128.size a := fun v455 k0_hw51 => k0_hw51

def k0_off103 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c51_i32 : BitVec 32 := 51#32
  let v462 : BitVec 32 := Scalar.addi v2 c51_i32
  let v463 : Index := Scalar.indexCast v462
  ![v463.toNat]
def k0_off104 (v464 : BitVec 32) : Fin 2 → Nat :=
  let v465 : Index := Scalar.indexCast v464
  let c0_102 : Index := 0#32
  ![v465.toNat, 0]

def k0_chk52 (v464 : BitVec 32) : Prop :=
  (∀ a, (k0_off104 v464) a + S1x128.size a ≤ S32000x128.size a)
theorem k0_off104_inb : ∀ (v464 : BitVec 32) (k0_hw52 : k0_chk52 v464), ∀ a, (k0_off104 v464) a + S1x128.size a ≤ S32000x128.size a := fun v464 k0_hw52 => k0_hw52

def k0_off105 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c52_i32 : BitVec 32 := 52#32
  let v471 : BitVec 32 := Scalar.addi v2 c52_i32
  let v472 : Index := Scalar.indexCast v471
  ![v472.toNat]
def k0_off106 (v473 : BitVec 32) : Fin 2 → Nat :=
  let v474 : Index := Scalar.indexCast v473
  let c0_104 : Index := 0#32
  ![v474.toNat, 0]

def k0_chk53 (v473 : BitVec 32) : Prop :=
  (∀ a, (k0_off106 v473) a + S1x128.size a ≤ S32000x128.size a)
theorem k0_off106_inb : ∀ (v473 : BitVec 32) (k0_hw53 : k0_chk53 v473), ∀ a, (k0_off106 v473) a + S1x128.size a ≤ S32000x128.size a := fun v473 k0_hw53 => k0_hw53

def k0_off107 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c53_i32 : BitVec 32 := 53#32
  let v480 : BitVec 32 := Scalar.addi v2 c53_i32
  let v481 : Index := Scalar.indexCast v480
  ![v481.toNat]
def k0_off108 (v482 : BitVec 32) : Fin 2 → Nat :=
  let v483 : Index := Scalar.indexCast v482
  let c0_106 : Index := 0#32
  ![v483.toNat, 0]

def k0_chk54 (v482 : BitVec 32) : Prop :=
  (∀ a, (k0_off108 v482) a + S1x128.size a ≤ S32000x128.size a)
theorem k0_off108_inb : ∀ (v482 : BitVec 32) (k0_hw54 : k0_chk54 v482), ∀ a, (k0_off108 v482) a + S1x128.size a ≤ S32000x128.size a := fun v482 k0_hw54 => k0_hw54

def k0_off109 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c54_i32 : BitVec 32 := 54#32
  let v489 : BitVec 32 := Scalar.addi v2 c54_i32
  let v490 : Index := Scalar.indexCast v489
  ![v490.toNat]
def k0_off110 (v491 : BitVec 32) : Fin 2 → Nat :=
  let v492 : Index := Scalar.indexCast v491
  let c0_108 : Index := 0#32
  ![v492.toNat, 0]

def k0_chk55 (v491 : BitVec 32) : Prop :=
  (∀ a, (k0_off110 v491) a + S1x128.size a ≤ S32000x128.size a)
theorem k0_off110_inb : ∀ (v491 : BitVec 32) (k0_hw55 : k0_chk55 v491), ∀ a, (k0_off110 v491) a + S1x128.size a ≤ S32000x128.size a := fun v491 k0_hw55 => k0_hw55

def k0_off111 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c55_i32 : BitVec 32 := 55#32
  let v498 : BitVec 32 := Scalar.addi v2 c55_i32
  let v499 : Index := Scalar.indexCast v498
  ![v499.toNat]
def k0_off112 (v500 : BitVec 32) : Fin 2 → Nat :=
  let v501 : Index := Scalar.indexCast v500
  let c0_110 : Index := 0#32
  ![v501.toNat, 0]

def k0_chk56 (v500 : BitVec 32) : Prop :=
  (∀ a, (k0_off112 v500) a + S1x128.size a ≤ S32000x128.size a)
theorem k0_off112_inb : ∀ (v500 : BitVec 32) (k0_hw56 : k0_chk56 v500), ∀ a, (k0_off112 v500) a + S1x128.size a ≤ S32000x128.size a := fun v500 k0_hw56 => k0_hw56

def k0_off113 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c56_i32 : BitVec 32 := 56#32
  let v507 : BitVec 32 := Scalar.addi v2 c56_i32
  let v508 : Index := Scalar.indexCast v507
  ![v508.toNat]
def k0_off114 (v509 : BitVec 32) : Fin 2 → Nat :=
  let v510 : Index := Scalar.indexCast v509
  let c0_112 : Index := 0#32
  ![v510.toNat, 0]

def k0_chk57 (v509 : BitVec 32) : Prop :=
  (∀ a, (k0_off114 v509) a + S1x128.size a ≤ S32000x128.size a)
theorem k0_off114_inb : ∀ (v509 : BitVec 32) (k0_hw57 : k0_chk57 v509), ∀ a, (k0_off114 v509) a + S1x128.size a ≤ S32000x128.size a := fun v509 k0_hw57 => k0_hw57

def k0_off115 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c57_i32 : BitVec 32 := 57#32
  let v516 : BitVec 32 := Scalar.addi v2 c57_i32
  let v517 : Index := Scalar.indexCast v516
  ![v517.toNat]
def k0_off116 (v518 : BitVec 32) : Fin 2 → Nat :=
  let v519 : Index := Scalar.indexCast v518
  let c0_114 : Index := 0#32
  ![v519.toNat, 0]

def k0_chk58 (v518 : BitVec 32) : Prop :=
  (∀ a, (k0_off116 v518) a + S1x128.size a ≤ S32000x128.size a)
theorem k0_off116_inb : ∀ (v518 : BitVec 32) (k0_hw58 : k0_chk58 v518), ∀ a, (k0_off116 v518) a + S1x128.size a ≤ S32000x128.size a := fun v518 k0_hw58 => k0_hw58

def k0_off117 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c58_i32 : BitVec 32 := 58#32
  let v525 : BitVec 32 := Scalar.addi v2 c58_i32
  let v526 : Index := Scalar.indexCast v525
  ![v526.toNat]
def k0_off118 (v527 : BitVec 32) : Fin 2 → Nat :=
  let v528 : Index := Scalar.indexCast v527
  let c0_116 : Index := 0#32
  ![v528.toNat, 0]

def k0_chk59 (v527 : BitVec 32) : Prop :=
  (∀ a, (k0_off118 v527) a + S1x128.size a ≤ S32000x128.size a)
theorem k0_off118_inb : ∀ (v527 : BitVec 32) (k0_hw59 : k0_chk59 v527), ∀ a, (k0_off118 v527) a + S1x128.size a ≤ S32000x128.size a := fun v527 k0_hw59 => k0_hw59

def k0_off119 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c59_i32 : BitVec 32 := 59#32
  let v534 : BitVec 32 := Scalar.addi v2 c59_i32
  let v535 : Index := Scalar.indexCast v534
  ![v535.toNat]
def k0_off120 (v536 : BitVec 32) : Fin 2 → Nat :=
  let v537 : Index := Scalar.indexCast v536
  let c0_118 : Index := 0#32
  ![v537.toNat, 0]

def k0_chk60 (v536 : BitVec 32) : Prop :=
  (∀ a, (k0_off120 v536) a + S1x128.size a ≤ S32000x128.size a)
theorem k0_off120_inb : ∀ (v536 : BitVec 32) (k0_hw60 : k0_chk60 v536), ∀ a, (k0_off120 v536) a + S1x128.size a ≤ S32000x128.size a := fun v536 k0_hw60 => k0_hw60

def k0_off121 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c60_i32 : BitVec 32 := 60#32
  let v543 : BitVec 32 := Scalar.addi v2 c60_i32
  let v544 : Index := Scalar.indexCast v543
  ![v544.toNat]
def k0_off122 (v545 : BitVec 32) : Fin 2 → Nat :=
  let v546 : Index := Scalar.indexCast v545
  let c0_120 : Index := 0#32
  ![v546.toNat, 0]

def k0_chk61 (v545 : BitVec 32) : Prop :=
  (∀ a, (k0_off122 v545) a + S1x128.size a ≤ S32000x128.size a)
theorem k0_off122_inb : ∀ (v545 : BitVec 32) (k0_hw61 : k0_chk61 v545), ∀ a, (k0_off122 v545) a + S1x128.size a ≤ S32000x128.size a := fun v545 k0_hw61 => k0_hw61

def k0_off123 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c61_i32 : BitVec 32 := 61#32
  let v552 : BitVec 32 := Scalar.addi v2 c61_i32
  let v553 : Index := Scalar.indexCast v552
  ![v553.toNat]
def k0_off124 (v554 : BitVec 32) : Fin 2 → Nat :=
  let v555 : Index := Scalar.indexCast v554
  let c0_122 : Index := 0#32
  ![v555.toNat, 0]

def k0_chk62 (v554 : BitVec 32) : Prop :=
  (∀ a, (k0_off124 v554) a + S1x128.size a ≤ S32000x128.size a)
theorem k0_off124_inb : ∀ (v554 : BitVec 32) (k0_hw62 : k0_chk62 v554), ∀ a, (k0_off124 v554) a + S1x128.size a ≤ S32000x128.size a := fun v554 k0_hw62 => k0_hw62

def k0_off125 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c62_i32 : BitVec 32 := 62#32
  let v561 : BitVec 32 := Scalar.addi v2 c62_i32
  let v562 : Index := Scalar.indexCast v561
  ![v562.toNat]
def k0_off126 (v563 : BitVec 32) : Fin 2 → Nat :=
  let v564 : Index := Scalar.indexCast v563
  let c0_124 : Index := 0#32
  ![v564.toNat, 0]

def k0_chk63 (v563 : BitVec 32) : Prop :=
  (∀ a, (k0_off126 v563) a + S1x128.size a ≤ S32000x128.size a)
theorem k0_off126_inb : ∀ (v563 : BitVec 32) (k0_hw63 : k0_chk63 v563), ∀ a, (k0_off126 v563) a + S1x128.size a ≤ S32000x128.size a := fun v563 k0_hw63 => k0_hw63

def k0_off127 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c63_i32 : BitVec 32 := 63#32
  let v570 : BitVec 32 := Scalar.addi v2 c63_i32
  let v571 : Index := Scalar.indexCast v570
  ![v571.toNat]
def k0_off128 (v572 : BitVec 32) : Fin 2 → Nat :=
  let v573 : Index := Scalar.indexCast v572
  let c0_126 : Index := 0#32
  ![v573.toNat, 0]

def k0_chk64 (v572 : BitVec 32) : Prop :=
  (∀ a, (k0_off128 v572) a + S1x128.size a ≤ S32000x128.size a)
theorem k0_off128_inb : ∀ (v572 : BitVec 32) (k0_hw64 : k0_chk64 v572), ∀ a, (k0_off128 v572) a + S1x128.size a ≤ S32000x128.size a := fun v572 k0_hw64 => k0_hw64

def k0_off129 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c64_i32_128 : BitVec 32 := 64#32
  let v579 : BitVec 32 := Scalar.addi v2 c64_i32_128
  let v580 : Index := Scalar.indexCast v579
  ![v580.toNat]
def k0_off130 (v581 : BitVec 32) : Fin 2 → Nat :=
  let v582 : Index := Scalar.indexCast v581
  let c0_129 : Index := 0#32
  ![v582.toNat, 0]

def k0_chk65 (v581 : BitVec 32) : Prop :=
  (∀ a, (k0_off130 v581) a + S1x128.size a ≤ S32000x128.size a)
theorem k0_off130_inb : ∀ (v581 : BitVec 32) (k0_hw65 : k0_chk65 v581), ∀ a, (k0_off130 v581) a + S1x128.size a ≤ S32000x128.size a := fun v581 k0_hw65 => k0_hw65

def k0_off131 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c65_i32 : BitVec 32 := 65#32
  let v588 : BitVec 32 := Scalar.addi v2 c65_i32
  let v589 : Index := Scalar.indexCast v588
  ![v589.toNat]
def k0_off132 (v590 : BitVec 32) : Fin 2 → Nat :=
  let v591 : Index := Scalar.indexCast v590
  let c0_131 : Index := 0#32
  ![v591.toNat, 0]

def k0_chk66 (v590 : BitVec 32) : Prop :=
  (∀ a, (k0_off132 v590) a + S1x128.size a ≤ S32000x128.size a)
theorem k0_off132_inb : ∀ (v590 : BitVec 32) (k0_hw66 : k0_chk66 v590), ∀ a, (k0_off132 v590) a + S1x128.size a ≤ S32000x128.size a := fun v590 k0_hw66 => k0_hw66

def k0_off133 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c66_i32 : BitVec 32 := 66#32
  let v597 : BitVec 32 := Scalar.addi v2 c66_i32
  let v598 : Index := Scalar.indexCast v597
  ![v598.toNat]
def k0_off134 (v599 : BitVec 32) : Fin 2 → Nat :=
  let v600 : Index := Scalar.indexCast v599
  let c0_133 : Index := 0#32
  ![v600.toNat, 0]

def k0_chk67 (v599 : BitVec 32) : Prop :=
  (∀ a, (k0_off134 v599) a + S1x128.size a ≤ S32000x128.size a)
theorem k0_off134_inb : ∀ (v599 : BitVec 32) (k0_hw67 : k0_chk67 v599), ∀ a, (k0_off134 v599) a + S1x128.size a ≤ S32000x128.size a := fun v599 k0_hw67 => k0_hw67

def k0_off135 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c67_i32 : BitVec 32 := 67#32
  let v606 : BitVec 32 := Scalar.addi v2 c67_i32
  let v607 : Index := Scalar.indexCast v606
  ![v607.toNat]
def k0_off136 (v608 : BitVec 32) : Fin 2 → Nat :=
  let v609 : Index := Scalar.indexCast v608
  let c0_135 : Index := 0#32
  ![v609.toNat, 0]

def k0_chk68 (v608 : BitVec 32) : Prop :=
  (∀ a, (k0_off136 v608) a + S1x128.size a ≤ S32000x128.size a)
theorem k0_off136_inb : ∀ (v608 : BitVec 32) (k0_hw68 : k0_chk68 v608), ∀ a, (k0_off136 v608) a + S1x128.size a ≤ S32000x128.size a := fun v608 k0_hw68 => k0_hw68

def k0_off137 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c68_i32 : BitVec 32 := 68#32
  let v615 : BitVec 32 := Scalar.addi v2 c68_i32
  let v616 : Index := Scalar.indexCast v615
  ![v616.toNat]
def k0_off138 (v617 : BitVec 32) : Fin 2 → Nat :=
  let v618 : Index := Scalar.indexCast v617
  let c0_137 : Index := 0#32
  ![v618.toNat, 0]

def k0_chk69 (v617 : BitVec 32) : Prop :=
  (∀ a, (k0_off138 v617) a + S1x128.size a ≤ S32000x128.size a)
theorem k0_off138_inb : ∀ (v617 : BitVec 32) (k0_hw69 : k0_chk69 v617), ∀ a, (k0_off138 v617) a + S1x128.size a ≤ S32000x128.size a := fun v617 k0_hw69 => k0_hw69

def k0_off139 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c69_i32 : BitVec 32 := 69#32
  let v624 : BitVec 32 := Scalar.addi v2 c69_i32
  let v625 : Index := Scalar.indexCast v624
  ![v625.toNat]
def k0_off140 (v626 : BitVec 32) : Fin 2 → Nat :=
  let v627 : Index := Scalar.indexCast v626
  let c0_139 : Index := 0#32
  ![v627.toNat, 0]

def k0_chk70 (v626 : BitVec 32) : Prop :=
  (∀ a, (k0_off140 v626) a + S1x128.size a ≤ S32000x128.size a)
theorem k0_off140_inb : ∀ (v626 : BitVec 32) (k0_hw70 : k0_chk70 v626), ∀ a, (k0_off140 v626) a + S1x128.size a ≤ S32000x128.size a := fun v626 k0_hw70 => k0_hw70

def k0_off141 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c70_i32 : BitVec 32 := 70#32
  let v633 : BitVec 32 := Scalar.addi v2 c70_i32
  let v634 : Index := Scalar.indexCast v633
  ![v634.toNat]
def k0_off142 (v635 : BitVec 32) : Fin 2 → Nat :=
  let v636 : Index := Scalar.indexCast v635
  let c0_141 : Index := 0#32
  ![v636.toNat, 0]

def k0_chk71 (v635 : BitVec 32) : Prop :=
  (∀ a, (k0_off142 v635) a + S1x128.size a ≤ S32000x128.size a)
theorem k0_off142_inb : ∀ (v635 : BitVec 32) (k0_hw71 : k0_chk71 v635), ∀ a, (k0_off142 v635) a + S1x128.size a ≤ S32000x128.size a := fun v635 k0_hw71 => k0_hw71

def k0_off143 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c71_i32 : BitVec 32 := 71#32
  let v642 : BitVec 32 := Scalar.addi v2 c71_i32
  let v643 : Index := Scalar.indexCast v642
  ![v643.toNat]
def k0_off144 (v644 : BitVec 32) : Fin 2 → Nat :=
  let v645 : Index := Scalar.indexCast v644
  let c0_143 : Index := 0#32
  ![v645.toNat, 0]

def k0_chk72 (v644 : BitVec 32) : Prop :=
  (∀ a, (k0_off144 v644) a + S1x128.size a ≤ S32000x128.size a)
theorem k0_off144_inb : ∀ (v644 : BitVec 32) (k0_hw72 : k0_chk72 v644), ∀ a, (k0_off144 v644) a + S1x128.size a ≤ S32000x128.size a := fun v644 k0_hw72 => k0_hw72

def k0_off145 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c72_i32 : BitVec 32 := 72#32
  let v651 : BitVec 32 := Scalar.addi v2 c72_i32
  let v652 : Index := Scalar.indexCast v651
  ![v652.toNat]
def k0_off146 (v653 : BitVec 32) : Fin 2 → Nat :=
  let v654 : Index := Scalar.indexCast v653
  let c0_145 : Index := 0#32
  ![v654.toNat, 0]

def k0_chk73 (v653 : BitVec 32) : Prop :=
  (∀ a, (k0_off146 v653) a + S1x128.size a ≤ S32000x128.size a)
theorem k0_off146_inb : ∀ (v653 : BitVec 32) (k0_hw73 : k0_chk73 v653), ∀ a, (k0_off146 v653) a + S1x128.size a ≤ S32000x128.size a := fun v653 k0_hw73 => k0_hw73

def k0_off147 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c73_i32 : BitVec 32 := 73#32
  let v660 : BitVec 32 := Scalar.addi v2 c73_i32
  let v661 : Index := Scalar.indexCast v660
  ![v661.toNat]
def k0_off148 (v662 : BitVec 32) : Fin 2 → Nat :=
  let v663 : Index := Scalar.indexCast v662
  let c0_147 : Index := 0#32
  ![v663.toNat, 0]

def k0_chk74 (v662 : BitVec 32) : Prop :=
  (∀ a, (k0_off148 v662) a + S1x128.size a ≤ S32000x128.size a)
theorem k0_off148_inb : ∀ (v662 : BitVec 32) (k0_hw74 : k0_chk74 v662), ∀ a, (k0_off148 v662) a + S1x128.size a ≤ S32000x128.size a := fun v662 k0_hw74 => k0_hw74

def k0_off149 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c74_i32 : BitVec 32 := 74#32
  let v669 : BitVec 32 := Scalar.addi v2 c74_i32
  let v670 : Index := Scalar.indexCast v669
  ![v670.toNat]
def k0_off150 (v671 : BitVec 32) : Fin 2 → Nat :=
  let v672 : Index := Scalar.indexCast v671
  let c0_149 : Index := 0#32
  ![v672.toNat, 0]

def k0_chk75 (v671 : BitVec 32) : Prop :=
  (∀ a, (k0_off150 v671) a + S1x128.size a ≤ S32000x128.size a)
theorem k0_off150_inb : ∀ (v671 : BitVec 32) (k0_hw75 : k0_chk75 v671), ∀ a, (k0_off150 v671) a + S1x128.size a ≤ S32000x128.size a := fun v671 k0_hw75 => k0_hw75

def k0_off151 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c75_i32 : BitVec 32 := 75#32
  let v678 : BitVec 32 := Scalar.addi v2 c75_i32
  let v679 : Index := Scalar.indexCast v678
  ![v679.toNat]
def k0_off152 (v680 : BitVec 32) : Fin 2 → Nat :=
  let v681 : Index := Scalar.indexCast v680
  let c0_151 : Index := 0#32
  ![v681.toNat, 0]

def k0_chk76 (v680 : BitVec 32) : Prop :=
  (∀ a, (k0_off152 v680) a + S1x128.size a ≤ S32000x128.size a)
theorem k0_off152_inb : ∀ (v680 : BitVec 32) (k0_hw76 : k0_chk76 v680), ∀ a, (k0_off152 v680) a + S1x128.size a ≤ S32000x128.size a := fun v680 k0_hw76 => k0_hw76

def k0_off153 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c76_i32 : BitVec 32 := 76#32
  let v687 : BitVec 32 := Scalar.addi v2 c76_i32
  let v688 : Index := Scalar.indexCast v687
  ![v688.toNat]
def k0_off154 (v689 : BitVec 32) : Fin 2 → Nat :=
  let v690 : Index := Scalar.indexCast v689
  let c0_153 : Index := 0#32
  ![v690.toNat, 0]

def k0_chk77 (v689 : BitVec 32) : Prop :=
  (∀ a, (k0_off154 v689) a + S1x128.size a ≤ S32000x128.size a)
theorem k0_off154_inb : ∀ (v689 : BitVec 32) (k0_hw77 : k0_chk77 v689), ∀ a, (k0_off154 v689) a + S1x128.size a ≤ S32000x128.size a := fun v689 k0_hw77 => k0_hw77

def k0_off155 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c77_i32 : BitVec 32 := 77#32
  let v696 : BitVec 32 := Scalar.addi v2 c77_i32
  let v697 : Index := Scalar.indexCast v696
  ![v697.toNat]
def k0_off156 (v698 : BitVec 32) : Fin 2 → Nat :=
  let v699 : Index := Scalar.indexCast v698
  let c0_155 : Index := 0#32
  ![v699.toNat, 0]

def k0_chk78 (v698 : BitVec 32) : Prop :=
  (∀ a, (k0_off156 v698) a + S1x128.size a ≤ S32000x128.size a)
theorem k0_off156_inb : ∀ (v698 : BitVec 32) (k0_hw78 : k0_chk78 v698), ∀ a, (k0_off156 v698) a + S1x128.size a ≤ S32000x128.size a := fun v698 k0_hw78 => k0_hw78

def k0_off157 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c78_i32 : BitVec 32 := 78#32
  let v705 : BitVec 32 := Scalar.addi v2 c78_i32
  let v706 : Index := Scalar.indexCast v705
  ![v706.toNat]
def k0_off158 (v707 : BitVec 32) : Fin 2 → Nat :=
  let v708 : Index := Scalar.indexCast v707
  let c0_157 : Index := 0#32
  ![v708.toNat, 0]

def k0_chk79 (v707 : BitVec 32) : Prop :=
  (∀ a, (k0_off158 v707) a + S1x128.size a ≤ S32000x128.size a)
theorem k0_off158_inb : ∀ (v707 : BitVec 32) (k0_hw79 : k0_chk79 v707), ∀ a, (k0_off158 v707) a + S1x128.size a ≤ S32000x128.size a := fun v707 k0_hw79 => k0_hw79

def k0_off159 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c79_i32 : BitVec 32 := 79#32
  let v714 : BitVec 32 := Scalar.addi v2 c79_i32
  let v715 : Index := Scalar.indexCast v714
  ![v715.toNat]
def k0_off160 (v716 : BitVec 32) : Fin 2 → Nat :=
  let v717 : Index := Scalar.indexCast v716
  let c0_159 : Index := 0#32
  ![v717.toNat, 0]

def k0_chk80 (v716 : BitVec 32) : Prop :=
  (∀ a, (k0_off160 v716) a + S1x128.size a ≤ S32000x128.size a)
theorem k0_off160_inb : ∀ (v716 : BitVec 32) (k0_hw80 : k0_chk80 v716), ∀ a, (k0_off160 v716) a + S1x128.size a ≤ S32000x128.size a := fun v716 k0_hw80 => k0_hw80

def k0_off161 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c80_i32 : BitVec 32 := 80#32
  let v723 : BitVec 32 := Scalar.addi v2 c80_i32
  let v724 : Index := Scalar.indexCast v723
  ![v724.toNat]
def k0_off162 (v725 : BitVec 32) : Fin 2 → Nat :=
  let v726 : Index := Scalar.indexCast v725
  let c0_161 : Index := 0#32
  ![v726.toNat, 0]

def k0_chk81 (v725 : BitVec 32) : Prop :=
  (∀ a, (k0_off162 v725) a + S1x128.size a ≤ S32000x128.size a)
theorem k0_off162_inb : ∀ (v725 : BitVec 32) (k0_hw81 : k0_chk81 v725), ∀ a, (k0_off162 v725) a + S1x128.size a ≤ S32000x128.size a := fun v725 k0_hw81 => k0_hw81

def k0_off163 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c81_i32 : BitVec 32 := 81#32
  let v732 : BitVec 32 := Scalar.addi v2 c81_i32
  let v733 : Index := Scalar.indexCast v732
  ![v733.toNat]
def k0_off164 (v734 : BitVec 32) : Fin 2 → Nat :=
  let v735 : Index := Scalar.indexCast v734
  let c0_163 : Index := 0#32
  ![v735.toNat, 0]

def k0_chk82 (v734 : BitVec 32) : Prop :=
  (∀ a, (k0_off164 v734) a + S1x128.size a ≤ S32000x128.size a)
theorem k0_off164_inb : ∀ (v734 : BitVec 32) (k0_hw82 : k0_chk82 v734), ∀ a, (k0_off164 v734) a + S1x128.size a ≤ S32000x128.size a := fun v734 k0_hw82 => k0_hw82

def k0_off165 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c82_i32 : BitVec 32 := 82#32
  let v741 : BitVec 32 := Scalar.addi v2 c82_i32
  let v742 : Index := Scalar.indexCast v741
  ![v742.toNat]
def k0_off166 (v743 : BitVec 32) : Fin 2 → Nat :=
  let v744 : Index := Scalar.indexCast v743
  let c0_165 : Index := 0#32
  ![v744.toNat, 0]

def k0_chk83 (v743 : BitVec 32) : Prop :=
  (∀ a, (k0_off166 v743) a + S1x128.size a ≤ S32000x128.size a)
theorem k0_off166_inb : ∀ (v743 : BitVec 32) (k0_hw83 : k0_chk83 v743), ∀ a, (k0_off166 v743) a + S1x128.size a ≤ S32000x128.size a := fun v743 k0_hw83 => k0_hw83

def k0_off167 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c83_i32 : BitVec 32 := 83#32
  let v750 : BitVec 32 := Scalar.addi v2 c83_i32
  let v751 : Index := Scalar.indexCast v750
  ![v751.toNat]
def k0_off168 (v752 : BitVec 32) : Fin 2 → Nat :=
  let v753 : Index := Scalar.indexCast v752
  let c0_167 : Index := 0#32
  ![v753.toNat, 0]

def k0_chk84 (v752 : BitVec 32) : Prop :=
  (∀ a, (k0_off168 v752) a + S1x128.size a ≤ S32000x128.size a)
theorem k0_off168_inb : ∀ (v752 : BitVec 32) (k0_hw84 : k0_chk84 v752), ∀ a, (k0_off168 v752) a + S1x128.size a ≤ S32000x128.size a := fun v752 k0_hw84 => k0_hw84

def k0_off169 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c84_i32 : BitVec 32 := 84#32
  let v759 : BitVec 32 := Scalar.addi v2 c84_i32
  let v760 : Index := Scalar.indexCast v759
  ![v760.toNat]
def k0_off170 (v761 : BitVec 32) : Fin 2 → Nat :=
  let v762 : Index := Scalar.indexCast v761
  let c0_169 : Index := 0#32
  ![v762.toNat, 0]

def k0_chk85 (v761 : BitVec 32) : Prop :=
  (∀ a, (k0_off170 v761) a + S1x128.size a ≤ S32000x128.size a)
theorem k0_off170_inb : ∀ (v761 : BitVec 32) (k0_hw85 : k0_chk85 v761), ∀ a, (k0_off170 v761) a + S1x128.size a ≤ S32000x128.size a := fun v761 k0_hw85 => k0_hw85

def k0_off171 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c85_i32 : BitVec 32 := 85#32
  let v768 : BitVec 32 := Scalar.addi v2 c85_i32
  let v769 : Index := Scalar.indexCast v768
  ![v769.toNat]
def k0_off172 (v770 : BitVec 32) : Fin 2 → Nat :=
  let v771 : Index := Scalar.indexCast v770
  let c0_171 : Index := 0#32
  ![v771.toNat, 0]

def k0_chk86 (v770 : BitVec 32) : Prop :=
  (∀ a, (k0_off172 v770) a + S1x128.size a ≤ S32000x128.size a)
theorem k0_off172_inb : ∀ (v770 : BitVec 32) (k0_hw86 : k0_chk86 v770), ∀ a, (k0_off172 v770) a + S1x128.size a ≤ S32000x128.size a := fun v770 k0_hw86 => k0_hw86

def k0_off173 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c86_i32 : BitVec 32 := 86#32
  let v777 : BitVec 32 := Scalar.addi v2 c86_i32
  let v778 : Index := Scalar.indexCast v777
  ![v778.toNat]
def k0_off174 (v779 : BitVec 32) : Fin 2 → Nat :=
  let v780 : Index := Scalar.indexCast v779
  let c0_173 : Index := 0#32
  ![v780.toNat, 0]

def k0_chk87 (v779 : BitVec 32) : Prop :=
  (∀ a, (k0_off174 v779) a + S1x128.size a ≤ S32000x128.size a)
theorem k0_off174_inb : ∀ (v779 : BitVec 32) (k0_hw87 : k0_chk87 v779), ∀ a, (k0_off174 v779) a + S1x128.size a ≤ S32000x128.size a := fun v779 k0_hw87 => k0_hw87

def k0_off175 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c87_i32 : BitVec 32 := 87#32
  let v786 : BitVec 32 := Scalar.addi v2 c87_i32
  let v787 : Index := Scalar.indexCast v786
  ![v787.toNat]
def k0_off176 (v788 : BitVec 32) : Fin 2 → Nat :=
  let v789 : Index := Scalar.indexCast v788
  let c0_175 : Index := 0#32
  ![v789.toNat, 0]

def k0_chk88 (v788 : BitVec 32) : Prop :=
  (∀ a, (k0_off176 v788) a + S1x128.size a ≤ S32000x128.size a)
theorem k0_off176_inb : ∀ (v788 : BitVec 32) (k0_hw88 : k0_chk88 v788), ∀ a, (k0_off176 v788) a + S1x128.size a ≤ S32000x128.size a := fun v788 k0_hw88 => k0_hw88

def k0_off177 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c88_i32 : BitVec 32 := 88#32
  let v795 : BitVec 32 := Scalar.addi v2 c88_i32
  let v796 : Index := Scalar.indexCast v795
  ![v796.toNat]
def k0_off178 (v797 : BitVec 32) : Fin 2 → Nat :=
  let v798 : Index := Scalar.indexCast v797
  let c0_177 : Index := 0#32
  ![v798.toNat, 0]

def k0_chk89 (v797 : BitVec 32) : Prop :=
  (∀ a, (k0_off178 v797) a + S1x128.size a ≤ S32000x128.size a)
theorem k0_off178_inb : ∀ (v797 : BitVec 32) (k0_hw89 : k0_chk89 v797), ∀ a, (k0_off178 v797) a + S1x128.size a ≤ S32000x128.size a := fun v797 k0_hw89 => k0_hw89

def k0_off179 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c89_i32 : BitVec 32 := 89#32
  let v804 : BitVec 32 := Scalar.addi v2 c89_i32
  let v805 : Index := Scalar.indexCast v804
  ![v805.toNat]
def k0_off180 (v806 : BitVec 32) : Fin 2 → Nat :=
  let v807 : Index := Scalar.indexCast v806
  let c0_179 : Index := 0#32
  ![v807.toNat, 0]

def k0_chk90 (v806 : BitVec 32) : Prop :=
  (∀ a, (k0_off180 v806) a + S1x128.size a ≤ S32000x128.size a)
theorem k0_off180_inb : ∀ (v806 : BitVec 32) (k0_hw90 : k0_chk90 v806), ∀ a, (k0_off180 v806) a + S1x128.size a ≤ S32000x128.size a := fun v806 k0_hw90 => k0_hw90

def k0_off181 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c90_i32 : BitVec 32 := 90#32
  let v813 : BitVec 32 := Scalar.addi v2 c90_i32
  let v814 : Index := Scalar.indexCast v813
  ![v814.toNat]
def k0_off182 (v815 : BitVec 32) : Fin 2 → Nat :=
  let v816 : Index := Scalar.indexCast v815
  let c0_181 : Index := 0#32
  ![v816.toNat, 0]

def k0_chk91 (v815 : BitVec 32) : Prop :=
  (∀ a, (k0_off182 v815) a + S1x128.size a ≤ S32000x128.size a)
theorem k0_off182_inb : ∀ (v815 : BitVec 32) (k0_hw91 : k0_chk91 v815), ∀ a, (k0_off182 v815) a + S1x128.size a ≤ S32000x128.size a := fun v815 k0_hw91 => k0_hw91

def k0_off183 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c91_i32 : BitVec 32 := 91#32
  let v822 : BitVec 32 := Scalar.addi v2 c91_i32
  let v823 : Index := Scalar.indexCast v822
  ![v823.toNat]
def k0_off184 (v824 : BitVec 32) : Fin 2 → Nat :=
  let v825 : Index := Scalar.indexCast v824
  let c0_183 : Index := 0#32
  ![v825.toNat, 0]

def k0_chk92 (v824 : BitVec 32) : Prop :=
  (∀ a, (k0_off184 v824) a + S1x128.size a ≤ S32000x128.size a)
theorem k0_off184_inb : ∀ (v824 : BitVec 32) (k0_hw92 : k0_chk92 v824), ∀ a, (k0_off184 v824) a + S1x128.size a ≤ S32000x128.size a := fun v824 k0_hw92 => k0_hw92

def k0_off185 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c92_i32 : BitVec 32 := 92#32
  let v831 : BitVec 32 := Scalar.addi v2 c92_i32
  let v832 : Index := Scalar.indexCast v831
  ![v832.toNat]
def k0_off186 (v833 : BitVec 32) : Fin 2 → Nat :=
  let v834 : Index := Scalar.indexCast v833
  let c0_185 : Index := 0#32
  ![v834.toNat, 0]

def k0_chk93 (v833 : BitVec 32) : Prop :=
  (∀ a, (k0_off186 v833) a + S1x128.size a ≤ S32000x128.size a)
theorem k0_off186_inb : ∀ (v833 : BitVec 32) (k0_hw93 : k0_chk93 v833), ∀ a, (k0_off186 v833) a + S1x128.size a ≤ S32000x128.size a := fun v833 k0_hw93 => k0_hw93

def k0_off187 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c93_i32 : BitVec 32 := 93#32
  let v840 : BitVec 32 := Scalar.addi v2 c93_i32
  let v841 : Index := Scalar.indexCast v840
  ![v841.toNat]
def k0_off188 (v842 : BitVec 32) : Fin 2 → Nat :=
  let v843 : Index := Scalar.indexCast v842
  let c0_187 : Index := 0#32
  ![v843.toNat, 0]

def k0_chk94 (v842 : BitVec 32) : Prop :=
  (∀ a, (k0_off188 v842) a + S1x128.size a ≤ S32000x128.size a)
theorem k0_off188_inb : ∀ (v842 : BitVec 32) (k0_hw94 : k0_chk94 v842), ∀ a, (k0_off188 v842) a + S1x128.size a ≤ S32000x128.size a := fun v842 k0_hw94 => k0_hw94

def k0_off189 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c94_i32 : BitVec 32 := 94#32
  let v849 : BitVec 32 := Scalar.addi v2 c94_i32
  let v850 : Index := Scalar.indexCast v849
  ![v850.toNat]
def k0_off190 (v851 : BitVec 32) : Fin 2 → Nat :=
  let v852 : Index := Scalar.indexCast v851
  let c0_189 : Index := 0#32
  ![v852.toNat, 0]

def k0_chk95 (v851 : BitVec 32) : Prop :=
  (∀ a, (k0_off190 v851) a + S1x128.size a ≤ S32000x128.size a)
theorem k0_off190_inb : ∀ (v851 : BitVec 32) (k0_hw95 : k0_chk95 v851), ∀ a, (k0_off190 v851) a + S1x128.size a ≤ S32000x128.size a := fun v851 k0_hw95 => k0_hw95

def k0_off191 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c95_i32 : BitVec 32 := 95#32
  let v858 : BitVec 32 := Scalar.addi v2 c95_i32
  let v859 : Index := Scalar.indexCast v858
  ![v859.toNat]
def k0_off192 (v860 : BitVec 32) : Fin 2 → Nat :=
  let v861 : Index := Scalar.indexCast v860
  let c0_191 : Index := 0#32
  ![v861.toNat, 0]

def k0_chk96 (v860 : BitVec 32) : Prop :=
  (∀ a, (k0_off192 v860) a + S1x128.size a ≤ S32000x128.size a)
theorem k0_off192_inb : ∀ (v860 : BitVec 32) (k0_hw96 : k0_chk96 v860), ∀ a, (k0_off192 v860) a + S1x128.size a ≤ S32000x128.size a := fun v860 k0_hw96 => k0_hw96

def k0_off193 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c96_i32 : BitVec 32 := 96#32
  let v867 : BitVec 32 := Scalar.addi v2 c96_i32
  let v868 : Index := Scalar.indexCast v867
  ![v868.toNat]
def k0_off194 (v869 : BitVec 32) : Fin 2 → Nat :=
  let v870 : Index := Scalar.indexCast v869
  let c0_193 : Index := 0#32
  ![v870.toNat, 0]

def k0_chk97 (v869 : BitVec 32) : Prop :=
  (∀ a, (k0_off194 v869) a + S1x128.size a ≤ S32000x128.size a)
theorem k0_off194_inb : ∀ (v869 : BitVec 32) (k0_hw97 : k0_chk97 v869), ∀ a, (k0_off194 v869) a + S1x128.size a ≤ S32000x128.size a := fun v869 k0_hw97 => k0_hw97

def k0_off195 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c97_i32 : BitVec 32 := 97#32
  let v876 : BitVec 32 := Scalar.addi v2 c97_i32
  let v877 : Index := Scalar.indexCast v876
  ![v877.toNat]
def k0_off196 (v878 : BitVec 32) : Fin 2 → Nat :=
  let v879 : Index := Scalar.indexCast v878
  let c0_195 : Index := 0#32
  ![v879.toNat, 0]

def k0_chk98 (v878 : BitVec 32) : Prop :=
  (∀ a, (k0_off196 v878) a + S1x128.size a ≤ S32000x128.size a)
theorem k0_off196_inb : ∀ (v878 : BitVec 32) (k0_hw98 : k0_chk98 v878), ∀ a, (k0_off196 v878) a + S1x128.size a ≤ S32000x128.size a := fun v878 k0_hw98 => k0_hw98

def k0_off197 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c98_i32 : BitVec 32 := 98#32
  let v885 : BitVec 32 := Scalar.addi v2 c98_i32
  let v886 : Index := Scalar.indexCast v885
  ![v886.toNat]
def k0_off198 (v887 : BitVec 32) : Fin 2 → Nat :=
  let v888 : Index := Scalar.indexCast v887
  let c0_197 : Index := 0#32
  ![v888.toNat, 0]

def k0_chk99 (v887 : BitVec 32) : Prop :=
  (∀ a, (k0_off198 v887) a + S1x128.size a ≤ S32000x128.size a)
theorem k0_off198_inb : ∀ (v887 : BitVec 32) (k0_hw99 : k0_chk99 v887), ∀ a, (k0_off198 v887) a + S1x128.size a ≤ S32000x128.size a := fun v887 k0_hw99 => k0_hw99

def k0_off199 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c99_i32 : BitVec 32 := 99#32
  let v894 : BitVec 32 := Scalar.addi v2 c99_i32
  let v895 : Index := Scalar.indexCast v894
  ![v895.toNat]
def k0_off200 (v896 : BitVec 32) : Fin 2 → Nat :=
  let v897 : Index := Scalar.indexCast v896
  let c0_199 : Index := 0#32
  ![v897.toNat, 0]

def k0_chk100 (v896 : BitVec 32) : Prop :=
  (∀ a, (k0_off200 v896) a + S1x128.size a ≤ S32000x128.size a)
theorem k0_off200_inb : ∀ (v896 : BitVec 32) (k0_hw100 : k0_chk100 v896), ∀ a, (k0_off200 v896) a + S1x128.size a ≤ S32000x128.size a := fun v896 k0_hw100 => k0_hw100

def k0_off201 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c100_i32 : BitVec 32 := 100#32
  let v903 : BitVec 32 := Scalar.addi v2 c100_i32
  let v904 : Index := Scalar.indexCast v903
  ![v904.toNat]
def k0_off202 (v905 : BitVec 32) : Fin 2 → Nat :=
  let v906 : Index := Scalar.indexCast v905
  let c0_201 : Index := 0#32
  ![v906.toNat, 0]

def k0_chk101 (v905 : BitVec 32) : Prop :=
  (∀ a, (k0_off202 v905) a + S1x128.size a ≤ S32000x128.size a)
theorem k0_off202_inb : ∀ (v905 : BitVec 32) (k0_hw101 : k0_chk101 v905), ∀ a, (k0_off202 v905) a + S1x128.size a ≤ S32000x128.size a := fun v905 k0_hw101 => k0_hw101

def k0_off203 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c101_i32 : BitVec 32 := 101#32
  let v912 : BitVec 32 := Scalar.addi v2 c101_i32
  let v913 : Index := Scalar.indexCast v912
  ![v913.toNat]
def k0_off204 (v914 : BitVec 32) : Fin 2 → Nat :=
  let v915 : Index := Scalar.indexCast v914
  let c0_203 : Index := 0#32
  ![v915.toNat, 0]

def k0_chk102 (v914 : BitVec 32) : Prop :=
  (∀ a, (k0_off204 v914) a + S1x128.size a ≤ S32000x128.size a)
theorem k0_off204_inb : ∀ (v914 : BitVec 32) (k0_hw102 : k0_chk102 v914), ∀ a, (k0_off204 v914) a + S1x128.size a ≤ S32000x128.size a := fun v914 k0_hw102 => k0_hw102

def k0_off205 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c102_i32 : BitVec 32 := 102#32
  let v921 : BitVec 32 := Scalar.addi v2 c102_i32
  let v922 : Index := Scalar.indexCast v921
  ![v922.toNat]
def k0_off206 (v923 : BitVec 32) : Fin 2 → Nat :=
  let v924 : Index := Scalar.indexCast v923
  let c0_205 : Index := 0#32
  ![v924.toNat, 0]

def k0_chk103 (v923 : BitVec 32) : Prop :=
  (∀ a, (k0_off206 v923) a + S1x128.size a ≤ S32000x128.size a)
theorem k0_off206_inb : ∀ (v923 : BitVec 32) (k0_hw103 : k0_chk103 v923), ∀ a, (k0_off206 v923) a + S1x128.size a ≤ S32000x128.size a := fun v923 k0_hw103 => k0_hw103

def k0_off207 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c103_i32 : BitVec 32 := 103#32
  let v930 : BitVec 32 := Scalar.addi v2 c103_i32
  let v931 : Index := Scalar.indexCast v930
  ![v931.toNat]
def k0_off208 (v932 : BitVec 32) : Fin 2 → Nat :=
  let v933 : Index := Scalar.indexCast v932
  let c0_207 : Index := 0#32
  ![v933.toNat, 0]

def k0_chk104 (v932 : BitVec 32) : Prop :=
  (∀ a, (k0_off208 v932) a + S1x128.size a ≤ S32000x128.size a)
theorem k0_off208_inb : ∀ (v932 : BitVec 32) (k0_hw104 : k0_chk104 v932), ∀ a, (k0_off208 v932) a + S1x128.size a ≤ S32000x128.size a := fun v932 k0_hw104 => k0_hw104

def k0_off209 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c104_i32 : BitVec 32 := 104#32
  let v939 : BitVec 32 := Scalar.addi v2 c104_i32
  let v940 : Index := Scalar.indexCast v939
  ![v940.toNat]
def k0_off210 (v941 : BitVec 32) : Fin 2 → Nat :=
  let v942 : Index := Scalar.indexCast v941
  let c0_209 : Index := 0#32
  ![v942.toNat, 0]

def k0_chk105 (v941 : BitVec 32) : Prop :=
  (∀ a, (k0_off210 v941) a + S1x128.size a ≤ S32000x128.size a)
theorem k0_off210_inb : ∀ (v941 : BitVec 32) (k0_hw105 : k0_chk105 v941), ∀ a, (k0_off210 v941) a + S1x128.size a ≤ S32000x128.size a := fun v941 k0_hw105 => k0_hw105

def k0_off211 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c105_i32 : BitVec 32 := 105#32
  let v948 : BitVec 32 := Scalar.addi v2 c105_i32
  let v949 : Index := Scalar.indexCast v948
  ![v949.toNat]
def k0_off212 (v950 : BitVec 32) : Fin 2 → Nat :=
  let v951 : Index := Scalar.indexCast v950
  let c0_211 : Index := 0#32
  ![v951.toNat, 0]

def k0_chk106 (v950 : BitVec 32) : Prop :=
  (∀ a, (k0_off212 v950) a + S1x128.size a ≤ S32000x128.size a)
theorem k0_off212_inb : ∀ (v950 : BitVec 32) (k0_hw106 : k0_chk106 v950), ∀ a, (k0_off212 v950) a + S1x128.size a ≤ S32000x128.size a := fun v950 k0_hw106 => k0_hw106

def k0_off213 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c106_i32 : BitVec 32 := 106#32
  let v957 : BitVec 32 := Scalar.addi v2 c106_i32
  let v958 : Index := Scalar.indexCast v957
  ![v958.toNat]
def k0_off214 (v959 : BitVec 32) : Fin 2 → Nat :=
  let v960 : Index := Scalar.indexCast v959
  let c0_213 : Index := 0#32
  ![v960.toNat, 0]

def k0_chk107 (v959 : BitVec 32) : Prop :=
  (∀ a, (k0_off214 v959) a + S1x128.size a ≤ S32000x128.size a)
theorem k0_off214_inb : ∀ (v959 : BitVec 32) (k0_hw107 : k0_chk107 v959), ∀ a, (k0_off214 v959) a + S1x128.size a ≤ S32000x128.size a := fun v959 k0_hw107 => k0_hw107

def k0_off215 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c107_i32 : BitVec 32 := 107#32
  let v966 : BitVec 32 := Scalar.addi v2 c107_i32
  let v967 : Index := Scalar.indexCast v966
  ![v967.toNat]
def k0_off216 (v968 : BitVec 32) : Fin 2 → Nat :=
  let v969 : Index := Scalar.indexCast v968
  let c0_215 : Index := 0#32
  ![v969.toNat, 0]

def k0_chk108 (v968 : BitVec 32) : Prop :=
  (∀ a, (k0_off216 v968) a + S1x128.size a ≤ S32000x128.size a)
theorem k0_off216_inb : ∀ (v968 : BitVec 32) (k0_hw108 : k0_chk108 v968), ∀ a, (k0_off216 v968) a + S1x128.size a ≤ S32000x128.size a := fun v968 k0_hw108 => k0_hw108

def k0_off217 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c108_i32 : BitVec 32 := 108#32
  let v975 : BitVec 32 := Scalar.addi v2 c108_i32
  let v976 : Index := Scalar.indexCast v975
  ![v976.toNat]
def k0_off218 (v977 : BitVec 32) : Fin 2 → Nat :=
  let v978 : Index := Scalar.indexCast v977
  let c0_217 : Index := 0#32
  ![v978.toNat, 0]

def k0_chk109 (v977 : BitVec 32) : Prop :=
  (∀ a, (k0_off218 v977) a + S1x128.size a ≤ S32000x128.size a)
theorem k0_off218_inb : ∀ (v977 : BitVec 32) (k0_hw109 : k0_chk109 v977), ∀ a, (k0_off218 v977) a + S1x128.size a ≤ S32000x128.size a := fun v977 k0_hw109 => k0_hw109

def k0_off219 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c109_i32 : BitVec 32 := 109#32
  let v984 : BitVec 32 := Scalar.addi v2 c109_i32
  let v985 : Index := Scalar.indexCast v984
  ![v985.toNat]
def k0_off220 (v986 : BitVec 32) : Fin 2 → Nat :=
  let v987 : Index := Scalar.indexCast v986
  let c0_219 : Index := 0#32
  ![v987.toNat, 0]

def k0_chk110 (v986 : BitVec 32) : Prop :=
  (∀ a, (k0_off220 v986) a + S1x128.size a ≤ S32000x128.size a)
theorem k0_off220_inb : ∀ (v986 : BitVec 32) (k0_hw110 : k0_chk110 v986), ∀ a, (k0_off220 v986) a + S1x128.size a ≤ S32000x128.size a := fun v986 k0_hw110 => k0_hw110

def k0_off221 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c110_i32 : BitVec 32 := 110#32
  let v993 : BitVec 32 := Scalar.addi v2 c110_i32
  let v994 : Index := Scalar.indexCast v993
  ![v994.toNat]
def k0_off222 (v995 : BitVec 32) : Fin 2 → Nat :=
  let v996 : Index := Scalar.indexCast v995
  let c0_221 : Index := 0#32
  ![v996.toNat, 0]

def k0_chk111 (v995 : BitVec 32) : Prop :=
  (∀ a, (k0_off222 v995) a + S1x128.size a ≤ S32000x128.size a)
theorem k0_off222_inb : ∀ (v995 : BitVec 32) (k0_hw111 : k0_chk111 v995), ∀ a, (k0_off222 v995) a + S1x128.size a ≤ S32000x128.size a := fun v995 k0_hw111 => k0_hw111

def k0_off223 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c111_i32 : BitVec 32 := 111#32
  let v1002 : BitVec 32 := Scalar.addi v2 c111_i32
  let v1003 : Index := Scalar.indexCast v1002
  ![v1003.toNat]
def k0_off224 (v1004 : BitVec 32) : Fin 2 → Nat :=
  let v1005 : Index := Scalar.indexCast v1004
  let c0_223 : Index := 0#32
  ![v1005.toNat, 0]

def k0_chk112 (v1004 : BitVec 32) : Prop :=
  (∀ a, (k0_off224 v1004) a + S1x128.size a ≤ S32000x128.size a)
theorem k0_off224_inb : ∀ (v1004 : BitVec 32) (k0_hw112 : k0_chk112 v1004), ∀ a, (k0_off224 v1004) a + S1x128.size a ≤ S32000x128.size a := fun v1004 k0_hw112 => k0_hw112

def k0_off225 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c112_i32 : BitVec 32 := 112#32
  let v1011 : BitVec 32 := Scalar.addi v2 c112_i32
  let v1012 : Index := Scalar.indexCast v1011
  ![v1012.toNat]
def k0_off226 (v1013 : BitVec 32) : Fin 2 → Nat :=
  let v1014 : Index := Scalar.indexCast v1013
  let c0_225 : Index := 0#32
  ![v1014.toNat, 0]

def k0_chk113 (v1013 : BitVec 32) : Prop :=
  (∀ a, (k0_off226 v1013) a + S1x128.size a ≤ S32000x128.size a)
theorem k0_off226_inb : ∀ (v1013 : BitVec 32) (k0_hw113 : k0_chk113 v1013), ∀ a, (k0_off226 v1013) a + S1x128.size a ≤ S32000x128.size a := fun v1013 k0_hw113 => k0_hw113

def k0_off227 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c113_i32 : BitVec 32 := 113#32
  let v1020 : BitVec 32 := Scalar.addi v2 c113_i32
  let v1021 : Index := Scalar.indexCast v1020
  ![v1021.toNat]
def k0_off228 (v1022 : BitVec 32) : Fin 2 → Nat :=
  let v1023 : Index := Scalar.indexCast v1022
  let c0_227 : Index := 0#32
  ![v1023.toNat, 0]

def k0_chk114 (v1022 : BitVec 32) : Prop :=
  (∀ a, (k0_off228 v1022) a + S1x128.size a ≤ S32000x128.size a)
theorem k0_off228_inb : ∀ (v1022 : BitVec 32) (k0_hw114 : k0_chk114 v1022), ∀ a, (k0_off228 v1022) a + S1x128.size a ≤ S32000x128.size a := fun v1022 k0_hw114 => k0_hw114

def k0_off229 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c114_i32 : BitVec 32 := 114#32
  let v1029 : BitVec 32 := Scalar.addi v2 c114_i32
  let v1030 : Index := Scalar.indexCast v1029
  ![v1030.toNat]
def k0_off230 (v1031 : BitVec 32) : Fin 2 → Nat :=
  let v1032 : Index := Scalar.indexCast v1031
  let c0_229 : Index := 0#32
  ![v1032.toNat, 0]

def k0_chk115 (v1031 : BitVec 32) : Prop :=
  (∀ a, (k0_off230 v1031) a + S1x128.size a ≤ S32000x128.size a)
theorem k0_off230_inb : ∀ (v1031 : BitVec 32) (k0_hw115 : k0_chk115 v1031), ∀ a, (k0_off230 v1031) a + S1x128.size a ≤ S32000x128.size a := fun v1031 k0_hw115 => k0_hw115

def k0_off231 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c115_i32 : BitVec 32 := 115#32
  let v1038 : BitVec 32 := Scalar.addi v2 c115_i32
  let v1039 : Index := Scalar.indexCast v1038
  ![v1039.toNat]
def k0_off232 (v1040 : BitVec 32) : Fin 2 → Nat :=
  let v1041 : Index := Scalar.indexCast v1040
  let c0_231 : Index := 0#32
  ![v1041.toNat, 0]

def k0_chk116 (v1040 : BitVec 32) : Prop :=
  (∀ a, (k0_off232 v1040) a + S1x128.size a ≤ S32000x128.size a)
theorem k0_off232_inb : ∀ (v1040 : BitVec 32) (k0_hw116 : k0_chk116 v1040), ∀ a, (k0_off232 v1040) a + S1x128.size a ≤ S32000x128.size a := fun v1040 k0_hw116 => k0_hw116

def k0_off233 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c116_i32 : BitVec 32 := 116#32
  let v1047 : BitVec 32 := Scalar.addi v2 c116_i32
  let v1048 : Index := Scalar.indexCast v1047
  ![v1048.toNat]
def k0_off234 (v1049 : BitVec 32) : Fin 2 → Nat :=
  let v1050 : Index := Scalar.indexCast v1049
  let c0_233 : Index := 0#32
  ![v1050.toNat, 0]

def k0_chk117 (v1049 : BitVec 32) : Prop :=
  (∀ a, (k0_off234 v1049) a + S1x128.size a ≤ S32000x128.size a)
theorem k0_off234_inb : ∀ (v1049 : BitVec 32) (k0_hw117 : k0_chk117 v1049), ∀ a, (k0_off234 v1049) a + S1x128.size a ≤ S32000x128.size a := fun v1049 k0_hw117 => k0_hw117

def k0_off235 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c117_i32 : BitVec 32 := 117#32
  let v1056 : BitVec 32 := Scalar.addi v2 c117_i32
  let v1057 : Index := Scalar.indexCast v1056
  ![v1057.toNat]
def k0_off236 (v1058 : BitVec 32) : Fin 2 → Nat :=
  let v1059 : Index := Scalar.indexCast v1058
  let c0_235 : Index := 0#32
  ![v1059.toNat, 0]

def k0_chk118 (v1058 : BitVec 32) : Prop :=
  (∀ a, (k0_off236 v1058) a + S1x128.size a ≤ S32000x128.size a)
theorem k0_off236_inb : ∀ (v1058 : BitVec 32) (k0_hw118 : k0_chk118 v1058), ∀ a, (k0_off236 v1058) a + S1x128.size a ≤ S32000x128.size a := fun v1058 k0_hw118 => k0_hw118

def k0_off237 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c118_i32 : BitVec 32 := 118#32
  let v1065 : BitVec 32 := Scalar.addi v2 c118_i32
  let v1066 : Index := Scalar.indexCast v1065
  ![v1066.toNat]
def k0_off238 (v1067 : BitVec 32) : Fin 2 → Nat :=
  let v1068 : Index := Scalar.indexCast v1067
  let c0_237 : Index := 0#32
  ![v1068.toNat, 0]

def k0_chk119 (v1067 : BitVec 32) : Prop :=
  (∀ a, (k0_off238 v1067) a + S1x128.size a ≤ S32000x128.size a)
theorem k0_off238_inb : ∀ (v1067 : BitVec 32) (k0_hw119 : k0_chk119 v1067), ∀ a, (k0_off238 v1067) a + S1x128.size a ≤ S32000x128.size a := fun v1067 k0_hw119 => k0_hw119

def k0_off239 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c119_i32 : BitVec 32 := 119#32
  let v1074 : BitVec 32 := Scalar.addi v2 c119_i32
  let v1075 : Index := Scalar.indexCast v1074
  ![v1075.toNat]
def k0_off240 (v1076 : BitVec 32) : Fin 2 → Nat :=
  let v1077 : Index := Scalar.indexCast v1076
  let c0_239 : Index := 0#32
  ![v1077.toNat, 0]

def k0_chk120 (v1076 : BitVec 32) : Prop :=
  (∀ a, (k0_off240 v1076) a + S1x128.size a ≤ S32000x128.size a)
theorem k0_off240_inb : ∀ (v1076 : BitVec 32) (k0_hw120 : k0_chk120 v1076), ∀ a, (k0_off240 v1076) a + S1x128.size a ≤ S32000x128.size a := fun v1076 k0_hw120 => k0_hw120

def k0_off241 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c120_i32 : BitVec 32 := 120#32
  let v1083 : BitVec 32 := Scalar.addi v2 c120_i32
  let v1084 : Index := Scalar.indexCast v1083
  ![v1084.toNat]
def k0_off242 (v1085 : BitVec 32) : Fin 2 → Nat :=
  let v1086 : Index := Scalar.indexCast v1085
  let c0_241 : Index := 0#32
  ![v1086.toNat, 0]

def k0_chk121 (v1085 : BitVec 32) : Prop :=
  (∀ a, (k0_off242 v1085) a + S1x128.size a ≤ S32000x128.size a)
theorem k0_off242_inb : ∀ (v1085 : BitVec 32) (k0_hw121 : k0_chk121 v1085), ∀ a, (k0_off242 v1085) a + S1x128.size a ≤ S32000x128.size a := fun v1085 k0_hw121 => k0_hw121

def k0_off243 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c121_i32 : BitVec 32 := 121#32
  let v1092 : BitVec 32 := Scalar.addi v2 c121_i32
  let v1093 : Index := Scalar.indexCast v1092
  ![v1093.toNat]
def k0_off244 (v1094 : BitVec 32) : Fin 2 → Nat :=
  let v1095 : Index := Scalar.indexCast v1094
  let c0_243 : Index := 0#32
  ![v1095.toNat, 0]

def k0_chk122 (v1094 : BitVec 32) : Prop :=
  (∀ a, (k0_off244 v1094) a + S1x128.size a ≤ S32000x128.size a)
theorem k0_off244_inb : ∀ (v1094 : BitVec 32) (k0_hw122 : k0_chk122 v1094), ∀ a, (k0_off244 v1094) a + S1x128.size a ≤ S32000x128.size a := fun v1094 k0_hw122 => k0_hw122

def k0_off245 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c122_i32 : BitVec 32 := 122#32
  let v1101 : BitVec 32 := Scalar.addi v2 c122_i32
  let v1102 : Index := Scalar.indexCast v1101
  ![v1102.toNat]
def k0_off246 (v1103 : BitVec 32) : Fin 2 → Nat :=
  let v1104 : Index := Scalar.indexCast v1103
  let c0_245 : Index := 0#32
  ![v1104.toNat, 0]

def k0_chk123 (v1103 : BitVec 32) : Prop :=
  (∀ a, (k0_off246 v1103) a + S1x128.size a ≤ S32000x128.size a)
theorem k0_off246_inb : ∀ (v1103 : BitVec 32) (k0_hw123 : k0_chk123 v1103), ∀ a, (k0_off246 v1103) a + S1x128.size a ≤ S32000x128.size a := fun v1103 k0_hw123 => k0_hw123

def k0_off247 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c123_i32 : BitVec 32 := 123#32
  let v1110 : BitVec 32 := Scalar.addi v2 c123_i32
  let v1111 : Index := Scalar.indexCast v1110
  ![v1111.toNat]
def k0_off248 (v1112 : BitVec 32) : Fin 2 → Nat :=
  let v1113 : Index := Scalar.indexCast v1112
  let c0_247 : Index := 0#32
  ![v1113.toNat, 0]

def k0_chk124 (v1112 : BitVec 32) : Prop :=
  (∀ a, (k0_off248 v1112) a + S1x128.size a ≤ S32000x128.size a)
theorem k0_off248_inb : ∀ (v1112 : BitVec 32) (k0_hw124 : k0_chk124 v1112), ∀ a, (k0_off248 v1112) a + S1x128.size a ≤ S32000x128.size a := fun v1112 k0_hw124 => k0_hw124

def k0_off249 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c124_i32 : BitVec 32 := 124#32
  let v1119 : BitVec 32 := Scalar.addi v2 c124_i32
  let v1120 : Index := Scalar.indexCast v1119
  ![v1120.toNat]
def k0_off250 (v1121 : BitVec 32) : Fin 2 → Nat :=
  let v1122 : Index := Scalar.indexCast v1121
  let c0_249 : Index := 0#32
  ![v1122.toNat, 0]

def k0_chk125 (v1121 : BitVec 32) : Prop :=
  (∀ a, (k0_off250 v1121) a + S1x128.size a ≤ S32000x128.size a)
theorem k0_off250_inb : ∀ (v1121 : BitVec 32) (k0_hw125 : k0_chk125 v1121), ∀ a, (k0_off250 v1121) a + S1x128.size a ≤ S32000x128.size a := fun v1121 k0_hw125 => k0_hw125

def k0_off251 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c125_i32 : BitVec 32 := 125#32
  let v1128 : BitVec 32 := Scalar.addi v2 c125_i32
  let v1129 : Index := Scalar.indexCast v1128
  ![v1129.toNat]
def k0_off252 (v1130 : BitVec 32) : Fin 2 → Nat :=
  let v1131 : Index := Scalar.indexCast v1130
  let c0_251 : Index := 0#32
  ![v1131.toNat, 0]

def k0_chk126 (v1130 : BitVec 32) : Prop :=
  (∀ a, (k0_off252 v1130) a + S1x128.size a ≤ S32000x128.size a)
theorem k0_off252_inb : ∀ (v1130 : BitVec 32) (k0_hw126 : k0_chk126 v1130), ∀ a, (k0_off252 v1130) a + S1x128.size a ≤ S32000x128.size a := fun v1130 k0_hw126 => k0_hw126

def k0_off253 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c126_i32 : BitVec 32 := 126#32
  let v1137 : BitVec 32 := Scalar.addi v2 c126_i32
  let v1138 : Index := Scalar.indexCast v1137
  ![v1138.toNat]
def k0_off254 (v1139 : BitVec 32) : Fin 2 → Nat :=
  let v1140 : Index := Scalar.indexCast v1139
  let c0_253 : Index := 0#32
  ![v1140.toNat, 0]

def k0_chk127 (v1139 : BitVec 32) : Prop :=
  (∀ a, (k0_off254 v1139) a + S1x128.size a ≤ S32000x128.size a)
theorem k0_off254_inb : ∀ (v1139 : BitVec 32) (k0_hw127 : k0_chk127 v1139), ∀ a, (k0_off254 v1139) a + S1x128.size a ≤ S32000x128.size a := fun v1139 k0_hw127 => k0_hw127

def k0_off255 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c127_i32 : BitVec 32 := 127#32
  let v1146 : BitVec 32 := Scalar.addi v2 c127_i32
  let v1147 : Index := Scalar.indexCast v1146
  ![v1147.toNat]
def k0_off256 (v1148 : BitVec 32) : Fin 2 → Nat :=
  let v1149 : Index := Scalar.indexCast v1148
  let c0_255 : Index := 0#32
  ![v1149.toNat, 0]

def k0_chk128 (v1148 : BitVec 32) : Prop :=
  (∀ a, (k0_off256 v1148) a + S1x128.size a ≤ S32000x128.size a)
theorem k0_off256_inb : ∀ (v1148 : BitVec 32) (k0_hw128 : k0_chk128 v1148), ∀ a, (k0_off256 v1148) a + S1x128.size a ≤ S32000x128.size a := fun v1148 k0_hw128 => k0_hw128

def k0_off257 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c128_i32 : BitVec 32 := 128#32
  let v1155 : BitVec 32 := Scalar.addi v2 c128_i32
  let v1156 : Index := Scalar.indexCast v1155
  ![v1156.toNat]
def k0_off258 (v1157 : BitVec 32) : Fin 2 → Nat :=
  let v1158 : Index := Scalar.indexCast v1157
  let c0_257 : Index := 0#32
  ![v1158.toNat, 0]

def k0_chk129 (v1157 : BitVec 32) : Prop :=
  (∀ a, (k0_off258 v1157) a + S1x128.size a ≤ S32000x128.size a)
theorem k0_off258_inb : ∀ (v1157 : BitVec 32) (k0_hw129 : k0_chk129 v1157), ∀ a, (k0_off258 v1157) a + S1x128.size a ≤ S32000x128.size a := fun v1157 k0_hw129 => k0_hw129

def k0_off259 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c129_i32 : BitVec 32 := 129#32
  let v1164 : BitVec 32 := Scalar.addi v2 c129_i32
  let v1165 : Index := Scalar.indexCast v1164
  ![v1165.toNat]
def k0_off260 (v1166 : BitVec 32) : Fin 2 → Nat :=
  let v1167 : Index := Scalar.indexCast v1166
  let c0_259 : Index := 0#32
  ![v1167.toNat, 0]

def k0_chk130 (v1166 : BitVec 32) : Prop :=
  (∀ a, (k0_off260 v1166) a + S1x128.size a ≤ S32000x128.size a)
theorem k0_off260_inb : ∀ (v1166 : BitVec 32) (k0_hw130 : k0_chk130 v1166), ∀ a, (k0_off260 v1166) a + S1x128.size a ≤ S32000x128.size a := fun v1166 k0_hw130 => k0_hw130

def k0_off261 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c130_i32 : BitVec 32 := 130#32
  let v1173 : BitVec 32 := Scalar.addi v2 c130_i32
  let v1174 : Index := Scalar.indexCast v1173
  ![v1174.toNat]
def k0_off262 (v1175 : BitVec 32) : Fin 2 → Nat :=
  let v1176 : Index := Scalar.indexCast v1175
  let c0_261 : Index := 0#32
  ![v1176.toNat, 0]

def k0_chk131 (v1175 : BitVec 32) : Prop :=
  (∀ a, (k0_off262 v1175) a + S1x128.size a ≤ S32000x128.size a)
theorem k0_off262_inb : ∀ (v1175 : BitVec 32) (k0_hw131 : k0_chk131 v1175), ∀ a, (k0_off262 v1175) a + S1x128.size a ≤ S32000x128.size a := fun v1175 k0_hw131 => k0_hw131

def k0_off263 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c131_i32 : BitVec 32 := 131#32
  let v1182 : BitVec 32 := Scalar.addi v2 c131_i32
  let v1183 : Index := Scalar.indexCast v1182
  ![v1183.toNat]
def k0_off264 (v1184 : BitVec 32) : Fin 2 → Nat :=
  let v1185 : Index := Scalar.indexCast v1184
  let c0_263 : Index := 0#32
  ![v1185.toNat, 0]

def k0_chk132 (v1184 : BitVec 32) : Prop :=
  (∀ a, (k0_off264 v1184) a + S1x128.size a ≤ S32000x128.size a)
theorem k0_off264_inb : ∀ (v1184 : BitVec 32) (k0_hw132 : k0_chk132 v1184), ∀ a, (k0_off264 v1184) a + S1x128.size a ≤ S32000x128.size a := fun v1184 k0_hw132 => k0_hw132

def k0_off265 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c132_i32 : BitVec 32 := 132#32
  let v1191 : BitVec 32 := Scalar.addi v2 c132_i32
  let v1192 : Index := Scalar.indexCast v1191
  ![v1192.toNat]
def k0_off266 (v1193 : BitVec 32) : Fin 2 → Nat :=
  let v1194 : Index := Scalar.indexCast v1193
  let c0_265 : Index := 0#32
  ![v1194.toNat, 0]

def k0_chk133 (v1193 : BitVec 32) : Prop :=
  (∀ a, (k0_off266 v1193) a + S1x128.size a ≤ S32000x128.size a)
theorem k0_off266_inb : ∀ (v1193 : BitVec 32) (k0_hw133 : k0_chk133 v1193), ∀ a, (k0_off266 v1193) a + S1x128.size a ≤ S32000x128.size a := fun v1193 k0_hw133 => k0_hw133

def k0_off267 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c133_i32 : BitVec 32 := 133#32
  let v1200 : BitVec 32 := Scalar.addi v2 c133_i32
  let v1201 : Index := Scalar.indexCast v1200
  ![v1201.toNat]
def k0_off268 (v1202 : BitVec 32) : Fin 2 → Nat :=
  let v1203 : Index := Scalar.indexCast v1202
  let c0_267 : Index := 0#32
  ![v1203.toNat, 0]

def k0_chk134 (v1202 : BitVec 32) : Prop :=
  (∀ a, (k0_off268 v1202) a + S1x128.size a ≤ S32000x128.size a)
theorem k0_off268_inb : ∀ (v1202 : BitVec 32) (k0_hw134 : k0_chk134 v1202), ∀ a, (k0_off268 v1202) a + S1x128.size a ≤ S32000x128.size a := fun v1202 k0_hw134 => k0_hw134

def k0_off269 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c134_i32 : BitVec 32 := 134#32
  let v1209 : BitVec 32 := Scalar.addi v2 c134_i32
  let v1210 : Index := Scalar.indexCast v1209
  ![v1210.toNat]
def k0_off270 (v1211 : BitVec 32) : Fin 2 → Nat :=
  let v1212 : Index := Scalar.indexCast v1211
  let c0_269 : Index := 0#32
  ![v1212.toNat, 0]

def k0_chk135 (v1211 : BitVec 32) : Prop :=
  (∀ a, (k0_off270 v1211) a + S1x128.size a ≤ S32000x128.size a)
theorem k0_off270_inb : ∀ (v1211 : BitVec 32) (k0_hw135 : k0_chk135 v1211), ∀ a, (k0_off270 v1211) a + S1x128.size a ≤ S32000x128.size a := fun v1211 k0_hw135 => k0_hw135

def k0_off271 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c135_i32 : BitVec 32 := 135#32
  let v1218 : BitVec 32 := Scalar.addi v2 c135_i32
  let v1219 : Index := Scalar.indexCast v1218
  ![v1219.toNat]
def k0_off272 (v1220 : BitVec 32) : Fin 2 → Nat :=
  let v1221 : Index := Scalar.indexCast v1220
  let c0_271 : Index := 0#32
  ![v1221.toNat, 0]

def k0_chk136 (v1220 : BitVec 32) : Prop :=
  (∀ a, (k0_off272 v1220) a + S1x128.size a ≤ S32000x128.size a)
theorem k0_off272_inb : ∀ (v1220 : BitVec 32) (k0_hw136 : k0_chk136 v1220), ∀ a, (k0_off272 v1220) a + S1x128.size a ≤ S32000x128.size a := fun v1220 k0_hw136 => k0_hw136

def k0_off273 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c136_i32 : BitVec 32 := 136#32
  let v1227 : BitVec 32 := Scalar.addi v2 c136_i32
  let v1228 : Index := Scalar.indexCast v1227
  ![v1228.toNat]
def k0_off274 (v1229 : BitVec 32) : Fin 2 → Nat :=
  let v1230 : Index := Scalar.indexCast v1229
  let c0_273 : Index := 0#32
  ![v1230.toNat, 0]

def k0_chk137 (v1229 : BitVec 32) : Prop :=
  (∀ a, (k0_off274 v1229) a + S1x128.size a ≤ S32000x128.size a)
theorem k0_off274_inb : ∀ (v1229 : BitVec 32) (k0_hw137 : k0_chk137 v1229), ∀ a, (k0_off274 v1229) a + S1x128.size a ≤ S32000x128.size a := fun v1229 k0_hw137 => k0_hw137

def k0_off275 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c137_i32 : BitVec 32 := 137#32
  let v1236 : BitVec 32 := Scalar.addi v2 c137_i32
  let v1237 : Index := Scalar.indexCast v1236
  ![v1237.toNat]
def k0_off276 (v1238 : BitVec 32) : Fin 2 → Nat :=
  let v1239 : Index := Scalar.indexCast v1238
  let c0_275 : Index := 0#32
  ![v1239.toNat, 0]

def k0_chk138 (v1238 : BitVec 32) : Prop :=
  (∀ a, (k0_off276 v1238) a + S1x128.size a ≤ S32000x128.size a)
theorem k0_off276_inb : ∀ (v1238 : BitVec 32) (k0_hw138 : k0_chk138 v1238), ∀ a, (k0_off276 v1238) a + S1x128.size a ≤ S32000x128.size a := fun v1238 k0_hw138 => k0_hw138

def k0_off277 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c138_i32 : BitVec 32 := 138#32
  let v1245 : BitVec 32 := Scalar.addi v2 c138_i32
  let v1246 : Index := Scalar.indexCast v1245
  ![v1246.toNat]
def k0_off278 (v1247 : BitVec 32) : Fin 2 → Nat :=
  let v1248 : Index := Scalar.indexCast v1247
  let c0_277 : Index := 0#32
  ![v1248.toNat, 0]

def k0_chk139 (v1247 : BitVec 32) : Prop :=
  (∀ a, (k0_off278 v1247) a + S1x128.size a ≤ S32000x128.size a)
theorem k0_off278_inb : ∀ (v1247 : BitVec 32) (k0_hw139 : k0_chk139 v1247), ∀ a, (k0_off278 v1247) a + S1x128.size a ≤ S32000x128.size a := fun v1247 k0_hw139 => k0_hw139

def k0_off279 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c139_i32 : BitVec 32 := 139#32
  let v1254 : BitVec 32 := Scalar.addi v2 c139_i32
  let v1255 : Index := Scalar.indexCast v1254
  ![v1255.toNat]
def k0_off280 (v1256 : BitVec 32) : Fin 2 → Nat :=
  let v1257 : Index := Scalar.indexCast v1256
  let c0_279 : Index := 0#32
  ![v1257.toNat, 0]

def k0_chk140 (v1256 : BitVec 32) : Prop :=
  (∀ a, (k0_off280 v1256) a + S1x128.size a ≤ S32000x128.size a)
theorem k0_off280_inb : ∀ (v1256 : BitVec 32) (k0_hw140 : k0_chk140 v1256), ∀ a, (k0_off280 v1256) a + S1x128.size a ≤ S32000x128.size a := fun v1256 k0_hw140 => k0_hw140

def k0_off281 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c140_i32 : BitVec 32 := 140#32
  let v1263 : BitVec 32 := Scalar.addi v2 c140_i32
  let v1264 : Index := Scalar.indexCast v1263
  ![v1264.toNat]
def k0_off282 (v1265 : BitVec 32) : Fin 2 → Nat :=
  let v1266 : Index := Scalar.indexCast v1265
  let c0_281 : Index := 0#32
  ![v1266.toNat, 0]

def k0_chk141 (v1265 : BitVec 32) : Prop :=
  (∀ a, (k0_off282 v1265) a + S1x128.size a ≤ S32000x128.size a)
theorem k0_off282_inb : ∀ (v1265 : BitVec 32) (k0_hw141 : k0_chk141 v1265), ∀ a, (k0_off282 v1265) a + S1x128.size a ≤ S32000x128.size a := fun v1265 k0_hw141 => k0_hw141

def k0_off283 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c141_i32 : BitVec 32 := 141#32
  let v1272 : BitVec 32 := Scalar.addi v2 c141_i32
  let v1273 : Index := Scalar.indexCast v1272
  ![v1273.toNat]
def k0_off284 (v1274 : BitVec 32) : Fin 2 → Nat :=
  let v1275 : Index := Scalar.indexCast v1274
  let c0_283 : Index := 0#32
  ![v1275.toNat, 0]

def k0_chk142 (v1274 : BitVec 32) : Prop :=
  (∀ a, (k0_off284 v1274) a + S1x128.size a ≤ S32000x128.size a)
theorem k0_off284_inb : ∀ (v1274 : BitVec 32) (k0_hw142 : k0_chk142 v1274), ∀ a, (k0_off284 v1274) a + S1x128.size a ≤ S32000x128.size a := fun v1274 k0_hw142 => k0_hw142

def k0_off285 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c142_i32 : BitVec 32 := 142#32
  let v1281 : BitVec 32 := Scalar.addi v2 c142_i32
  let v1282 : Index := Scalar.indexCast v1281
  ![v1282.toNat]
def k0_off286 (v1283 : BitVec 32) : Fin 2 → Nat :=
  let v1284 : Index := Scalar.indexCast v1283
  let c0_285 : Index := 0#32
  ![v1284.toNat, 0]

def k0_chk143 (v1283 : BitVec 32) : Prop :=
  (∀ a, (k0_off286 v1283) a + S1x128.size a ≤ S32000x128.size a)
theorem k0_off286_inb : ∀ (v1283 : BitVec 32) (k0_hw143 : k0_chk143 v1283), ∀ a, (k0_off286 v1283) a + S1x128.size a ≤ S32000x128.size a := fun v1283 k0_hw143 => k0_hw143

def k0_off287 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c143_i32 : BitVec 32 := 143#32
  let v1290 : BitVec 32 := Scalar.addi v2 c143_i32
  let v1291 : Index := Scalar.indexCast v1290
  ![v1291.toNat]
def k0_off288 (v1292 : BitVec 32) : Fin 2 → Nat :=
  let v1293 : Index := Scalar.indexCast v1292
  let c0_287 : Index := 0#32
  ![v1293.toNat, 0]

def k0_chk144 (v1292 : BitVec 32) : Prop :=
  (∀ a, (k0_off288 v1292) a + S1x128.size a ≤ S32000x128.size a)
theorem k0_off288_inb : ∀ (v1292 : BitVec 32) (k0_hw144 : k0_chk144 v1292), ∀ a, (k0_off288 v1292) a + S1x128.size a ≤ S32000x128.size a := fun v1292 k0_hw144 => k0_hw144

def k0_off289 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c144_i32 : BitVec 32 := 144#32
  let v1299 : BitVec 32 := Scalar.addi v2 c144_i32
  let v1300 : Index := Scalar.indexCast v1299
  ![v1300.toNat]
def k0_off290 (v1301 : BitVec 32) : Fin 2 → Nat :=
  let v1302 : Index := Scalar.indexCast v1301
  let c0_289 : Index := 0#32
  ![v1302.toNat, 0]

def k0_chk145 (v1301 : BitVec 32) : Prop :=
  (∀ a, (k0_off290 v1301) a + S1x128.size a ≤ S32000x128.size a)
theorem k0_off290_inb : ∀ (v1301 : BitVec 32) (k0_hw145 : k0_chk145 v1301), ∀ a, (k0_off290 v1301) a + S1x128.size a ≤ S32000x128.size a := fun v1301 k0_hw145 => k0_hw145

def k0_off291 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c145_i32 : BitVec 32 := 145#32
  let v1308 : BitVec 32 := Scalar.addi v2 c145_i32
  let v1309 : Index := Scalar.indexCast v1308
  ![v1309.toNat]
def k0_off292 (v1310 : BitVec 32) : Fin 2 → Nat :=
  let v1311 : Index := Scalar.indexCast v1310
  let c0_291 : Index := 0#32
  ![v1311.toNat, 0]

def k0_chk146 (v1310 : BitVec 32) : Prop :=
  (∀ a, (k0_off292 v1310) a + S1x128.size a ≤ S32000x128.size a)
theorem k0_off292_inb : ∀ (v1310 : BitVec 32) (k0_hw146 : k0_chk146 v1310), ∀ a, (k0_off292 v1310) a + S1x128.size a ≤ S32000x128.size a := fun v1310 k0_hw146 => k0_hw146

def k0_off293 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c146_i32 : BitVec 32 := 146#32
  let v1317 : BitVec 32 := Scalar.addi v2 c146_i32
  let v1318 : Index := Scalar.indexCast v1317
  ![v1318.toNat]
def k0_off294 (v1319 : BitVec 32) : Fin 2 → Nat :=
  let v1320 : Index := Scalar.indexCast v1319
  let c0_293 : Index := 0#32
  ![v1320.toNat, 0]

def k0_chk147 (v1319 : BitVec 32) : Prop :=
  (∀ a, (k0_off294 v1319) a + S1x128.size a ≤ S32000x128.size a)
theorem k0_off294_inb : ∀ (v1319 : BitVec 32) (k0_hw147 : k0_chk147 v1319), ∀ a, (k0_off294 v1319) a + S1x128.size a ≤ S32000x128.size a := fun v1319 k0_hw147 => k0_hw147

def k0_off295 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c147_i32 : BitVec 32 := 147#32
  let v1326 : BitVec 32 := Scalar.addi v2 c147_i32
  let v1327 : Index := Scalar.indexCast v1326
  ![v1327.toNat]
def k0_off296 (v1328 : BitVec 32) : Fin 2 → Nat :=
  let v1329 : Index := Scalar.indexCast v1328
  let c0_295 : Index := 0#32
  ![v1329.toNat, 0]

def k0_chk148 (v1328 : BitVec 32) : Prop :=
  (∀ a, (k0_off296 v1328) a + S1x128.size a ≤ S32000x128.size a)
theorem k0_off296_inb : ∀ (v1328 : BitVec 32) (k0_hw148 : k0_chk148 v1328), ∀ a, (k0_off296 v1328) a + S1x128.size a ≤ S32000x128.size a := fun v1328 k0_hw148 => k0_hw148

def k0_off297 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c148_i32 : BitVec 32 := 148#32
  let v1335 : BitVec 32 := Scalar.addi v2 c148_i32
  let v1336 : Index := Scalar.indexCast v1335
  ![v1336.toNat]
def k0_off298 (v1337 : BitVec 32) : Fin 2 → Nat :=
  let v1338 : Index := Scalar.indexCast v1337
  let c0_297 : Index := 0#32
  ![v1338.toNat, 0]

def k0_chk149 (v1337 : BitVec 32) : Prop :=
  (∀ a, (k0_off298 v1337) a + S1x128.size a ≤ S32000x128.size a)
theorem k0_off298_inb : ∀ (v1337 : BitVec 32) (k0_hw149 : k0_chk149 v1337), ∀ a, (k0_off298 v1337) a + S1x128.size a ≤ S32000x128.size a := fun v1337 k0_hw149 => k0_hw149

def k0_off299 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c149_i32 : BitVec 32 := 149#32
  let v1344 : BitVec 32 := Scalar.addi v2 c149_i32
  let v1345 : Index := Scalar.indexCast v1344
  ![v1345.toNat]
def k0_off300 (v1346 : BitVec 32) : Fin 2 → Nat :=
  let v1347 : Index := Scalar.indexCast v1346
  let c0_299 : Index := 0#32
  ![v1347.toNat, 0]

def k0_chk150 (v1346 : BitVec 32) : Prop :=
  (∀ a, (k0_off300 v1346) a + S1x128.size a ≤ S32000x128.size a)
theorem k0_off300_inb : ∀ (v1346 : BitVec 32) (k0_hw150 : k0_chk150 v1346), ∀ a, (k0_off300 v1346) a + S1x128.size a ≤ S32000x128.size a := fun v1346 k0_hw150 => k0_hw150

def k0_off301 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c150_i32 : BitVec 32 := 150#32
  let v1353 : BitVec 32 := Scalar.addi v2 c150_i32
  let v1354 : Index := Scalar.indexCast v1353
  ![v1354.toNat]
def k0_off302 (v1355 : BitVec 32) : Fin 2 → Nat :=
  let v1356 : Index := Scalar.indexCast v1355
  let c0_301 : Index := 0#32
  ![v1356.toNat, 0]

def k0_chk151 (v1355 : BitVec 32) : Prop :=
  (∀ a, (k0_off302 v1355) a + S1x128.size a ≤ S32000x128.size a)
theorem k0_off302_inb : ∀ (v1355 : BitVec 32) (k0_hw151 : k0_chk151 v1355), ∀ a, (k0_off302 v1355) a + S1x128.size a ≤ S32000x128.size a := fun v1355 k0_hw151 => k0_hw151

def k0_off303 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c151_i32 : BitVec 32 := 151#32
  let v1362 : BitVec 32 := Scalar.addi v2 c151_i32
  let v1363 : Index := Scalar.indexCast v1362
  ![v1363.toNat]
def k0_off304 (v1364 : BitVec 32) : Fin 2 → Nat :=
  let v1365 : Index := Scalar.indexCast v1364
  let c0_303 : Index := 0#32
  ![v1365.toNat, 0]

def k0_chk152 (v1364 : BitVec 32) : Prop :=
  (∀ a, (k0_off304 v1364) a + S1x128.size a ≤ S32000x128.size a)
theorem k0_off304_inb : ∀ (v1364 : BitVec 32) (k0_hw152 : k0_chk152 v1364), ∀ a, (k0_off304 v1364) a + S1x128.size a ≤ S32000x128.size a := fun v1364 k0_hw152 => k0_hw152

def k0_off305 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c152_i32 : BitVec 32 := 152#32
  let v1371 : BitVec 32 := Scalar.addi v2 c152_i32
  let v1372 : Index := Scalar.indexCast v1371
  ![v1372.toNat]
def k0_off306 (v1373 : BitVec 32) : Fin 2 → Nat :=
  let v1374 : Index := Scalar.indexCast v1373
  let c0_305 : Index := 0#32
  ![v1374.toNat, 0]

def k0_chk153 (v1373 : BitVec 32) : Prop :=
  (∀ a, (k0_off306 v1373) a + S1x128.size a ≤ S32000x128.size a)
theorem k0_off306_inb : ∀ (v1373 : BitVec 32) (k0_hw153 : k0_chk153 v1373), ∀ a, (k0_off306 v1373) a + S1x128.size a ≤ S32000x128.size a := fun v1373 k0_hw153 => k0_hw153

def k0_off307 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c153_i32 : BitVec 32 := 153#32
  let v1380 : BitVec 32 := Scalar.addi v2 c153_i32
  let v1381 : Index := Scalar.indexCast v1380
  ![v1381.toNat]
def k0_off308 (v1382 : BitVec 32) : Fin 2 → Nat :=
  let v1383 : Index := Scalar.indexCast v1382
  let c0_307 : Index := 0#32
  ![v1383.toNat, 0]

def k0_chk154 (v1382 : BitVec 32) : Prop :=
  (∀ a, (k0_off308 v1382) a + S1x128.size a ≤ S32000x128.size a)
theorem k0_off308_inb : ∀ (v1382 : BitVec 32) (k0_hw154 : k0_chk154 v1382), ∀ a, (k0_off308 v1382) a + S1x128.size a ≤ S32000x128.size a := fun v1382 k0_hw154 => k0_hw154

def k0_off309 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c154_i32 : BitVec 32 := 154#32
  let v1389 : BitVec 32 := Scalar.addi v2 c154_i32
  let v1390 : Index := Scalar.indexCast v1389
  ![v1390.toNat]
def k0_off310 (v1391 : BitVec 32) : Fin 2 → Nat :=
  let v1392 : Index := Scalar.indexCast v1391
  let c0_309 : Index := 0#32
  ![v1392.toNat, 0]

def k0_chk155 (v1391 : BitVec 32) : Prop :=
  (∀ a, (k0_off310 v1391) a + S1x128.size a ≤ S32000x128.size a)
theorem k0_off310_inb : ∀ (v1391 : BitVec 32) (k0_hw155 : k0_chk155 v1391), ∀ a, (k0_off310 v1391) a + S1x128.size a ≤ S32000x128.size a := fun v1391 k0_hw155 => k0_hw155

def k0_off311 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c155_i32 : BitVec 32 := 155#32
  let v1398 : BitVec 32 := Scalar.addi v2 c155_i32
  let v1399 : Index := Scalar.indexCast v1398
  ![v1399.toNat]
def k0_off312 (v1400 : BitVec 32) : Fin 2 → Nat :=
  let v1401 : Index := Scalar.indexCast v1400
  let c0_311 : Index := 0#32
  ![v1401.toNat, 0]

def k0_chk156 (v1400 : BitVec 32) : Prop :=
  (∀ a, (k0_off312 v1400) a + S1x128.size a ≤ S32000x128.size a)
theorem k0_off312_inb : ∀ (v1400 : BitVec 32) (k0_hw156 : k0_chk156 v1400), ∀ a, (k0_off312 v1400) a + S1x128.size a ≤ S32000x128.size a := fun v1400 k0_hw156 => k0_hw156

def k0_off313 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c156_i32 : BitVec 32 := 156#32
  let v1407 : BitVec 32 := Scalar.addi v2 c156_i32
  let v1408 : Index := Scalar.indexCast v1407
  ![v1408.toNat]
def k0_off314 (v1409 : BitVec 32) : Fin 2 → Nat :=
  let v1410 : Index := Scalar.indexCast v1409
  let c0_313 : Index := 0#32
  ![v1410.toNat, 0]

def k0_chk157 (v1409 : BitVec 32) : Prop :=
  (∀ a, (k0_off314 v1409) a + S1x128.size a ≤ S32000x128.size a)
theorem k0_off314_inb : ∀ (v1409 : BitVec 32) (k0_hw157 : k0_chk157 v1409), ∀ a, (k0_off314 v1409) a + S1x128.size a ≤ S32000x128.size a := fun v1409 k0_hw157 => k0_hw157

def k0_off315 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c157_i32 : BitVec 32 := 157#32
  let v1416 : BitVec 32 := Scalar.addi v2 c157_i32
  let v1417 : Index := Scalar.indexCast v1416
  ![v1417.toNat]
def k0_off316 (v1418 : BitVec 32) : Fin 2 → Nat :=
  let v1419 : Index := Scalar.indexCast v1418
  let c0_315 : Index := 0#32
  ![v1419.toNat, 0]

def k0_chk158 (v1418 : BitVec 32) : Prop :=
  (∀ a, (k0_off316 v1418) a + S1x128.size a ≤ S32000x128.size a)
theorem k0_off316_inb : ∀ (v1418 : BitVec 32) (k0_hw158 : k0_chk158 v1418), ∀ a, (k0_off316 v1418) a + S1x128.size a ≤ S32000x128.size a := fun v1418 k0_hw158 => k0_hw158

def k0_off317 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c158_i32 : BitVec 32 := 158#32
  let v1425 : BitVec 32 := Scalar.addi v2 c158_i32
  let v1426 : Index := Scalar.indexCast v1425
  ![v1426.toNat]
def k0_off318 (v1427 : BitVec 32) : Fin 2 → Nat :=
  let v1428 : Index := Scalar.indexCast v1427
  let c0_317 : Index := 0#32
  ![v1428.toNat, 0]

def k0_chk159 (v1427 : BitVec 32) : Prop :=
  (∀ a, (k0_off318 v1427) a + S1x128.size a ≤ S32000x128.size a)
theorem k0_off318_inb : ∀ (v1427 : BitVec 32) (k0_hw159 : k0_chk159 v1427), ∀ a, (k0_off318 v1427) a + S1x128.size a ≤ S32000x128.size a := fun v1427 k0_hw159 => k0_hw159

def k0_off319 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c159_i32 : BitVec 32 := 159#32
  let v1434 : BitVec 32 := Scalar.addi v2 c159_i32
  let v1435 : Index := Scalar.indexCast v1434
  ![v1435.toNat]
def k0_off320 (v1436 : BitVec 32) : Fin 2 → Nat :=
  let v1437 : Index := Scalar.indexCast v1436
  let c0_319 : Index := 0#32
  ![v1437.toNat, 0]

def k0_chk160 (v1436 : BitVec 32) : Prop :=
  (∀ a, (k0_off320 v1436) a + S1x128.size a ≤ S32000x128.size a)
theorem k0_off320_inb : ∀ (v1436 : BitVec 32) (k0_hw160 : k0_chk160 v1436), ∀ a, (k0_off320 v1436) a + S1x128.size a ≤ S32000x128.size a := fun v1436 k0_hw160 => k0_hw160

def k0_off321 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c160_i32 : BitVec 32 := 160#32
  let v1443 : BitVec 32 := Scalar.addi v2 c160_i32
  let v1444 : Index := Scalar.indexCast v1443
  ![v1444.toNat]
def k0_off322 (v1445 : BitVec 32) : Fin 2 → Nat :=
  let v1446 : Index := Scalar.indexCast v1445
  let c0_321 : Index := 0#32
  ![v1446.toNat, 0]

def k0_chk161 (v1445 : BitVec 32) : Prop :=
  (∀ a, (k0_off322 v1445) a + S1x128.size a ≤ S32000x128.size a)
theorem k0_off322_inb : ∀ (v1445 : BitVec 32) (k0_hw161 : k0_chk161 v1445), ∀ a, (k0_off322 v1445) a + S1x128.size a ≤ S32000x128.size a := fun v1445 k0_hw161 => k0_hw161

def k0_off323 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c161_i32 : BitVec 32 := 161#32
  let v1452 : BitVec 32 := Scalar.addi v2 c161_i32
  let v1453 : Index := Scalar.indexCast v1452
  ![v1453.toNat]
def k0_off324 (v1454 : BitVec 32) : Fin 2 → Nat :=
  let v1455 : Index := Scalar.indexCast v1454
  let c0_323 : Index := 0#32
  ![v1455.toNat, 0]

def k0_chk162 (v1454 : BitVec 32) : Prop :=
  (∀ a, (k0_off324 v1454) a + S1x128.size a ≤ S32000x128.size a)
theorem k0_off324_inb : ∀ (v1454 : BitVec 32) (k0_hw162 : k0_chk162 v1454), ∀ a, (k0_off324 v1454) a + S1x128.size a ≤ S32000x128.size a := fun v1454 k0_hw162 => k0_hw162

def k0_off325 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c162_i32 : BitVec 32 := 162#32
  let v1461 : BitVec 32 := Scalar.addi v2 c162_i32
  let v1462 : Index := Scalar.indexCast v1461
  ![v1462.toNat]
def k0_off326 (v1463 : BitVec 32) : Fin 2 → Nat :=
  let v1464 : Index := Scalar.indexCast v1463
  let c0_325 : Index := 0#32
  ![v1464.toNat, 0]

def k0_chk163 (v1463 : BitVec 32) : Prop :=
  (∀ a, (k0_off326 v1463) a + S1x128.size a ≤ S32000x128.size a)
theorem k0_off326_inb : ∀ (v1463 : BitVec 32) (k0_hw163 : k0_chk163 v1463), ∀ a, (k0_off326 v1463) a + S1x128.size a ≤ S32000x128.size a := fun v1463 k0_hw163 => k0_hw163

def k0_off327 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c163_i32 : BitVec 32 := 163#32
  let v1470 : BitVec 32 := Scalar.addi v2 c163_i32
  let v1471 : Index := Scalar.indexCast v1470
  ![v1471.toNat]
def k0_off328 (v1472 : BitVec 32) : Fin 2 → Nat :=
  let v1473 : Index := Scalar.indexCast v1472
  let c0_327 : Index := 0#32
  ![v1473.toNat, 0]

def k0_chk164 (v1472 : BitVec 32) : Prop :=
  (∀ a, (k0_off328 v1472) a + S1x128.size a ≤ S32000x128.size a)
theorem k0_off328_inb : ∀ (v1472 : BitVec 32) (k0_hw164 : k0_chk164 v1472), ∀ a, (k0_off328 v1472) a + S1x128.size a ≤ S32000x128.size a := fun v1472 k0_hw164 => k0_hw164

def k0_off329 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c164_i32 : BitVec 32 := 164#32
  let v1479 : BitVec 32 := Scalar.addi v2 c164_i32
  let v1480 : Index := Scalar.indexCast v1479
  ![v1480.toNat]
def k0_off330 (v1481 : BitVec 32) : Fin 2 → Nat :=
  let v1482 : Index := Scalar.indexCast v1481
  let c0_329 : Index := 0#32
  ![v1482.toNat, 0]

def k0_chk165 (v1481 : BitVec 32) : Prop :=
  (∀ a, (k0_off330 v1481) a + S1x128.size a ≤ S32000x128.size a)
theorem k0_off330_inb : ∀ (v1481 : BitVec 32) (k0_hw165 : k0_chk165 v1481), ∀ a, (k0_off330 v1481) a + S1x128.size a ≤ S32000x128.size a := fun v1481 k0_hw165 => k0_hw165

def k0_off331 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c165_i32 : BitVec 32 := 165#32
  let v1488 : BitVec 32 := Scalar.addi v2 c165_i32
  let v1489 : Index := Scalar.indexCast v1488
  ![v1489.toNat]
def k0_off332 (v1490 : BitVec 32) : Fin 2 → Nat :=
  let v1491 : Index := Scalar.indexCast v1490
  let c0_331 : Index := 0#32
  ![v1491.toNat, 0]

def k0_chk166 (v1490 : BitVec 32) : Prop :=
  (∀ a, (k0_off332 v1490) a + S1x128.size a ≤ S32000x128.size a)
theorem k0_off332_inb : ∀ (v1490 : BitVec 32) (k0_hw166 : k0_chk166 v1490), ∀ a, (k0_off332 v1490) a + S1x128.size a ≤ S32000x128.size a := fun v1490 k0_hw166 => k0_hw166

def k0_off333 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c166_i32 : BitVec 32 := 166#32
  let v1497 : BitVec 32 := Scalar.addi v2 c166_i32
  let v1498 : Index := Scalar.indexCast v1497
  ![v1498.toNat]
def k0_off334 (v1499 : BitVec 32) : Fin 2 → Nat :=
  let v1500 : Index := Scalar.indexCast v1499
  let c0_333 : Index := 0#32
  ![v1500.toNat, 0]

def k0_chk167 (v1499 : BitVec 32) : Prop :=
  (∀ a, (k0_off334 v1499) a + S1x128.size a ≤ S32000x128.size a)
theorem k0_off334_inb : ∀ (v1499 : BitVec 32) (k0_hw167 : k0_chk167 v1499), ∀ a, (k0_off334 v1499) a + S1x128.size a ≤ S32000x128.size a := fun v1499 k0_hw167 => k0_hw167

def k0_off335 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c167_i32 : BitVec 32 := 167#32
  let v1506 : BitVec 32 := Scalar.addi v2 c167_i32
  let v1507 : Index := Scalar.indexCast v1506
  ![v1507.toNat]
def k0_off336 (v1508 : BitVec 32) : Fin 2 → Nat :=
  let v1509 : Index := Scalar.indexCast v1508
  let c0_335 : Index := 0#32
  ![v1509.toNat, 0]

def k0_chk168 (v1508 : BitVec 32) : Prop :=
  (∀ a, (k0_off336 v1508) a + S1x128.size a ≤ S32000x128.size a)
theorem k0_off336_inb : ∀ (v1508 : BitVec 32) (k0_hw168 : k0_chk168 v1508), ∀ a, (k0_off336 v1508) a + S1x128.size a ≤ S32000x128.size a := fun v1508 k0_hw168 => k0_hw168

def k0_off337 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c168_i32 : BitVec 32 := 168#32
  let v1515 : BitVec 32 := Scalar.addi v2 c168_i32
  let v1516 : Index := Scalar.indexCast v1515
  ![v1516.toNat]
def k0_off338 (v1517 : BitVec 32) : Fin 2 → Nat :=
  let v1518 : Index := Scalar.indexCast v1517
  let c0_337 : Index := 0#32
  ![v1518.toNat, 0]

def k0_chk169 (v1517 : BitVec 32) : Prop :=
  (∀ a, (k0_off338 v1517) a + S1x128.size a ≤ S32000x128.size a)
theorem k0_off338_inb : ∀ (v1517 : BitVec 32) (k0_hw169 : k0_chk169 v1517), ∀ a, (k0_off338 v1517) a + S1x128.size a ≤ S32000x128.size a := fun v1517 k0_hw169 => k0_hw169

def k0_off339 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c169_i32 : BitVec 32 := 169#32
  let v1524 : BitVec 32 := Scalar.addi v2 c169_i32
  let v1525 : Index := Scalar.indexCast v1524
  ![v1525.toNat]
def k0_off340 (v1526 : BitVec 32) : Fin 2 → Nat :=
  let v1527 : Index := Scalar.indexCast v1526
  let c0_339 : Index := 0#32
  ![v1527.toNat, 0]

def k0_chk170 (v1526 : BitVec 32) : Prop :=
  (∀ a, (k0_off340 v1526) a + S1x128.size a ≤ S32000x128.size a)
theorem k0_off340_inb : ∀ (v1526 : BitVec 32) (k0_hw170 : k0_chk170 v1526), ∀ a, (k0_off340 v1526) a + S1x128.size a ≤ S32000x128.size a := fun v1526 k0_hw170 => k0_hw170

def k0_off341 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c170_i32 : BitVec 32 := 170#32
  let v1533 : BitVec 32 := Scalar.addi v2 c170_i32
  let v1534 : Index := Scalar.indexCast v1533
  ![v1534.toNat]
def k0_off342 (v1535 : BitVec 32) : Fin 2 → Nat :=
  let v1536 : Index := Scalar.indexCast v1535
  let c0_341 : Index := 0#32
  ![v1536.toNat, 0]

def k0_chk171 (v1535 : BitVec 32) : Prop :=
  (∀ a, (k0_off342 v1535) a + S1x128.size a ≤ S32000x128.size a)
theorem k0_off342_inb : ∀ (v1535 : BitVec 32) (k0_hw171 : k0_chk171 v1535), ∀ a, (k0_off342 v1535) a + S1x128.size a ≤ S32000x128.size a := fun v1535 k0_hw171 => k0_hw171

def k0_off343 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c171_i32 : BitVec 32 := 171#32
  let v1542 : BitVec 32 := Scalar.addi v2 c171_i32
  let v1543 : Index := Scalar.indexCast v1542
  ![v1543.toNat]
def k0_off344 (v1544 : BitVec 32) : Fin 2 → Nat :=
  let v1545 : Index := Scalar.indexCast v1544
  let c0_343 : Index := 0#32
  ![v1545.toNat, 0]

def k0_chk172 (v1544 : BitVec 32) : Prop :=
  (∀ a, (k0_off344 v1544) a + S1x128.size a ≤ S32000x128.size a)
theorem k0_off344_inb : ∀ (v1544 : BitVec 32) (k0_hw172 : k0_chk172 v1544), ∀ a, (k0_off344 v1544) a + S1x128.size a ≤ S32000x128.size a := fun v1544 k0_hw172 => k0_hw172

def k0_off345 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c172_i32 : BitVec 32 := 172#32
  let v1551 : BitVec 32 := Scalar.addi v2 c172_i32
  let v1552 : Index := Scalar.indexCast v1551
  ![v1552.toNat]
def k0_off346 (v1553 : BitVec 32) : Fin 2 → Nat :=
  let v1554 : Index := Scalar.indexCast v1553
  let c0_345 : Index := 0#32
  ![v1554.toNat, 0]

def k0_chk173 (v1553 : BitVec 32) : Prop :=
  (∀ a, (k0_off346 v1553) a + S1x128.size a ≤ S32000x128.size a)
theorem k0_off346_inb : ∀ (v1553 : BitVec 32) (k0_hw173 : k0_chk173 v1553), ∀ a, (k0_off346 v1553) a + S1x128.size a ≤ S32000x128.size a := fun v1553 k0_hw173 => k0_hw173

def k0_off347 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c173_i32 : BitVec 32 := 173#32
  let v1560 : BitVec 32 := Scalar.addi v2 c173_i32
  let v1561 : Index := Scalar.indexCast v1560
  ![v1561.toNat]
def k0_off348 (v1562 : BitVec 32) : Fin 2 → Nat :=
  let v1563 : Index := Scalar.indexCast v1562
  let c0_347 : Index := 0#32
  ![v1563.toNat, 0]

def k0_chk174 (v1562 : BitVec 32) : Prop :=
  (∀ a, (k0_off348 v1562) a + S1x128.size a ≤ S32000x128.size a)
theorem k0_off348_inb : ∀ (v1562 : BitVec 32) (k0_hw174 : k0_chk174 v1562), ∀ a, (k0_off348 v1562) a + S1x128.size a ≤ S32000x128.size a := fun v1562 k0_hw174 => k0_hw174

def k0_off349 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c174_i32 : BitVec 32 := 174#32
  let v1569 : BitVec 32 := Scalar.addi v2 c174_i32
  let v1570 : Index := Scalar.indexCast v1569
  ![v1570.toNat]
def k0_off350 (v1571 : BitVec 32) : Fin 2 → Nat :=
  let v1572 : Index := Scalar.indexCast v1571
  let c0_349 : Index := 0#32
  ![v1572.toNat, 0]

def k0_chk175 (v1571 : BitVec 32) : Prop :=
  (∀ a, (k0_off350 v1571) a + S1x128.size a ≤ S32000x128.size a)
theorem k0_off350_inb : ∀ (v1571 : BitVec 32) (k0_hw175 : k0_chk175 v1571), ∀ a, (k0_off350 v1571) a + S1x128.size a ≤ S32000x128.size a := fun v1571 k0_hw175 => k0_hw175

def k0_off351 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c175_i32 : BitVec 32 := 175#32
  let v1578 : BitVec 32 := Scalar.addi v2 c175_i32
  let v1579 : Index := Scalar.indexCast v1578
  ![v1579.toNat]
def k0_off352 (v1580 : BitVec 32) : Fin 2 → Nat :=
  let v1581 : Index := Scalar.indexCast v1580
  let c0_351 : Index := 0#32
  ![v1581.toNat, 0]

def k0_chk176 (v1580 : BitVec 32) : Prop :=
  (∀ a, (k0_off352 v1580) a + S1x128.size a ≤ S32000x128.size a)
theorem k0_off352_inb : ∀ (v1580 : BitVec 32) (k0_hw176 : k0_chk176 v1580), ∀ a, (k0_off352 v1580) a + S1x128.size a ≤ S32000x128.size a := fun v1580 k0_hw176 => k0_hw176

def k0_off353 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c176_i32 : BitVec 32 := 176#32
  let v1587 : BitVec 32 := Scalar.addi v2 c176_i32
  let v1588 : Index := Scalar.indexCast v1587
  ![v1588.toNat]
def k0_off354 (v1589 : BitVec 32) : Fin 2 → Nat :=
  let v1590 : Index := Scalar.indexCast v1589
  let c0_353 : Index := 0#32
  ![v1590.toNat, 0]

def k0_chk177 (v1589 : BitVec 32) : Prop :=
  (∀ a, (k0_off354 v1589) a + S1x128.size a ≤ S32000x128.size a)
theorem k0_off354_inb : ∀ (v1589 : BitVec 32) (k0_hw177 : k0_chk177 v1589), ∀ a, (k0_off354 v1589) a + S1x128.size a ≤ S32000x128.size a := fun v1589 k0_hw177 => k0_hw177

def k0_off355 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c177_i32 : BitVec 32 := 177#32
  let v1596 : BitVec 32 := Scalar.addi v2 c177_i32
  let v1597 : Index := Scalar.indexCast v1596
  ![v1597.toNat]
def k0_off356 (v1598 : BitVec 32) : Fin 2 → Nat :=
  let v1599 : Index := Scalar.indexCast v1598
  let c0_355 : Index := 0#32
  ![v1599.toNat, 0]

def k0_chk178 (v1598 : BitVec 32) : Prop :=
  (∀ a, (k0_off356 v1598) a + S1x128.size a ≤ S32000x128.size a)
theorem k0_off356_inb : ∀ (v1598 : BitVec 32) (k0_hw178 : k0_chk178 v1598), ∀ a, (k0_off356 v1598) a + S1x128.size a ≤ S32000x128.size a := fun v1598 k0_hw178 => k0_hw178

def k0_off357 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c178_i32 : BitVec 32 := 178#32
  let v1605 : BitVec 32 := Scalar.addi v2 c178_i32
  let v1606 : Index := Scalar.indexCast v1605
  ![v1606.toNat]
def k0_off358 (v1607 : BitVec 32) : Fin 2 → Nat :=
  let v1608 : Index := Scalar.indexCast v1607
  let c0_357 : Index := 0#32
  ![v1608.toNat, 0]

def k0_chk179 (v1607 : BitVec 32) : Prop :=
  (∀ a, (k0_off358 v1607) a + S1x128.size a ≤ S32000x128.size a)
theorem k0_off358_inb : ∀ (v1607 : BitVec 32) (k0_hw179 : k0_chk179 v1607), ∀ a, (k0_off358 v1607) a + S1x128.size a ≤ S32000x128.size a := fun v1607 k0_hw179 => k0_hw179

def k0_off359 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c179_i32 : BitVec 32 := 179#32
  let v1614 : BitVec 32 := Scalar.addi v2 c179_i32
  let v1615 : Index := Scalar.indexCast v1614
  ![v1615.toNat]
def k0_off360 (v1616 : BitVec 32) : Fin 2 → Nat :=
  let v1617 : Index := Scalar.indexCast v1616
  let c0_359 : Index := 0#32
  ![v1617.toNat, 0]

def k0_chk180 (v1616 : BitVec 32) : Prop :=
  (∀ a, (k0_off360 v1616) a + S1x128.size a ≤ S32000x128.size a)
theorem k0_off360_inb : ∀ (v1616 : BitVec 32) (k0_hw180 : k0_chk180 v1616), ∀ a, (k0_off360 v1616) a + S1x128.size a ≤ S32000x128.size a := fun v1616 k0_hw180 => k0_hw180

def k0_off361 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c180_i32 : BitVec 32 := 180#32
  let v1623 : BitVec 32 := Scalar.addi v2 c180_i32
  let v1624 : Index := Scalar.indexCast v1623
  ![v1624.toNat]
def k0_off362 (v1625 : BitVec 32) : Fin 2 → Nat :=
  let v1626 : Index := Scalar.indexCast v1625
  let c0_361 : Index := 0#32
  ![v1626.toNat, 0]

def k0_chk181 (v1625 : BitVec 32) : Prop :=
  (∀ a, (k0_off362 v1625) a + S1x128.size a ≤ S32000x128.size a)
theorem k0_off362_inb : ∀ (v1625 : BitVec 32) (k0_hw181 : k0_chk181 v1625), ∀ a, (k0_off362 v1625) a + S1x128.size a ≤ S32000x128.size a := fun v1625 k0_hw181 => k0_hw181

def k0_off363 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c181_i32 : BitVec 32 := 181#32
  let v1632 : BitVec 32 := Scalar.addi v2 c181_i32
  let v1633 : Index := Scalar.indexCast v1632
  ![v1633.toNat]
def k0_off364 (v1634 : BitVec 32) : Fin 2 → Nat :=
  let v1635 : Index := Scalar.indexCast v1634
  let c0_363 : Index := 0#32
  ![v1635.toNat, 0]

def k0_chk182 (v1634 : BitVec 32) : Prop :=
  (∀ a, (k0_off364 v1634) a + S1x128.size a ≤ S32000x128.size a)
theorem k0_off364_inb : ∀ (v1634 : BitVec 32) (k0_hw182 : k0_chk182 v1634), ∀ a, (k0_off364 v1634) a + S1x128.size a ≤ S32000x128.size a := fun v1634 k0_hw182 => k0_hw182

def k0_off365 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c182_i32 : BitVec 32 := 182#32
  let v1641 : BitVec 32 := Scalar.addi v2 c182_i32
  let v1642 : Index := Scalar.indexCast v1641
  ![v1642.toNat]
def k0_off366 (v1643 : BitVec 32) : Fin 2 → Nat :=
  let v1644 : Index := Scalar.indexCast v1643
  let c0_365 : Index := 0#32
  ![v1644.toNat, 0]

def k0_chk183 (v1643 : BitVec 32) : Prop :=
  (∀ a, (k0_off366 v1643) a + S1x128.size a ≤ S32000x128.size a)
theorem k0_off366_inb : ∀ (v1643 : BitVec 32) (k0_hw183 : k0_chk183 v1643), ∀ a, (k0_off366 v1643) a + S1x128.size a ≤ S32000x128.size a := fun v1643 k0_hw183 => k0_hw183

def k0_off367 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c183_i32 : BitVec 32 := 183#32
  let v1650 : BitVec 32 := Scalar.addi v2 c183_i32
  let v1651 : Index := Scalar.indexCast v1650
  ![v1651.toNat]
def k0_off368 (v1652 : BitVec 32) : Fin 2 → Nat :=
  let v1653 : Index := Scalar.indexCast v1652
  let c0_367 : Index := 0#32
  ![v1653.toNat, 0]

def k0_chk184 (v1652 : BitVec 32) : Prop :=
  (∀ a, (k0_off368 v1652) a + S1x128.size a ≤ S32000x128.size a)
theorem k0_off368_inb : ∀ (v1652 : BitVec 32) (k0_hw184 : k0_chk184 v1652), ∀ a, (k0_off368 v1652) a + S1x128.size a ≤ S32000x128.size a := fun v1652 k0_hw184 => k0_hw184

def k0_off369 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c184_i32 : BitVec 32 := 184#32
  let v1659 : BitVec 32 := Scalar.addi v2 c184_i32
  let v1660 : Index := Scalar.indexCast v1659
  ![v1660.toNat]
def k0_off370 (v1661 : BitVec 32) : Fin 2 → Nat :=
  let v1662 : Index := Scalar.indexCast v1661
  let c0_369 : Index := 0#32
  ![v1662.toNat, 0]

def k0_chk185 (v1661 : BitVec 32) : Prop :=
  (∀ a, (k0_off370 v1661) a + S1x128.size a ≤ S32000x128.size a)
theorem k0_off370_inb : ∀ (v1661 : BitVec 32) (k0_hw185 : k0_chk185 v1661), ∀ a, (k0_off370 v1661) a + S1x128.size a ≤ S32000x128.size a := fun v1661 k0_hw185 => k0_hw185

def k0_off371 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c185_i32 : BitVec 32 := 185#32
  let v1668 : BitVec 32 := Scalar.addi v2 c185_i32
  let v1669 : Index := Scalar.indexCast v1668
  ![v1669.toNat]
def k0_off372 (v1670 : BitVec 32) : Fin 2 → Nat :=
  let v1671 : Index := Scalar.indexCast v1670
  let c0_371 : Index := 0#32
  ![v1671.toNat, 0]

def k0_chk186 (v1670 : BitVec 32) : Prop :=
  (∀ a, (k0_off372 v1670) a + S1x128.size a ≤ S32000x128.size a)
theorem k0_off372_inb : ∀ (v1670 : BitVec 32) (k0_hw186 : k0_chk186 v1670), ∀ a, (k0_off372 v1670) a + S1x128.size a ≤ S32000x128.size a := fun v1670 k0_hw186 => k0_hw186

def k0_off373 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c186_i32 : BitVec 32 := 186#32
  let v1677 : BitVec 32 := Scalar.addi v2 c186_i32
  let v1678 : Index := Scalar.indexCast v1677
  ![v1678.toNat]
def k0_off374 (v1679 : BitVec 32) : Fin 2 → Nat :=
  let v1680 : Index := Scalar.indexCast v1679
  let c0_373 : Index := 0#32
  ![v1680.toNat, 0]

def k0_chk187 (v1679 : BitVec 32) : Prop :=
  (∀ a, (k0_off374 v1679) a + S1x128.size a ≤ S32000x128.size a)
theorem k0_off374_inb : ∀ (v1679 : BitVec 32) (k0_hw187 : k0_chk187 v1679), ∀ a, (k0_off374 v1679) a + S1x128.size a ≤ S32000x128.size a := fun v1679 k0_hw187 => k0_hw187

def k0_off375 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c187_i32 : BitVec 32 := 187#32
  let v1686 : BitVec 32 := Scalar.addi v2 c187_i32
  let v1687 : Index := Scalar.indexCast v1686
  ![v1687.toNat]
def k0_off376 (v1688 : BitVec 32) : Fin 2 → Nat :=
  let v1689 : Index := Scalar.indexCast v1688
  let c0_375 : Index := 0#32
  ![v1689.toNat, 0]

def k0_chk188 (v1688 : BitVec 32) : Prop :=
  (∀ a, (k0_off376 v1688) a + S1x128.size a ≤ S32000x128.size a)
theorem k0_off376_inb : ∀ (v1688 : BitVec 32) (k0_hw188 : k0_chk188 v1688), ∀ a, (k0_off376 v1688) a + S1x128.size a ≤ S32000x128.size a := fun v1688 k0_hw188 => k0_hw188

def k0_off377 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c188_i32 : BitVec 32 := 188#32
  let v1695 : BitVec 32 := Scalar.addi v2 c188_i32
  let v1696 : Index := Scalar.indexCast v1695
  ![v1696.toNat]
def k0_off378 (v1697 : BitVec 32) : Fin 2 → Nat :=
  let v1698 : Index := Scalar.indexCast v1697
  let c0_377 : Index := 0#32
  ![v1698.toNat, 0]

def k0_chk189 (v1697 : BitVec 32) : Prop :=
  (∀ a, (k0_off378 v1697) a + S1x128.size a ≤ S32000x128.size a)
theorem k0_off378_inb : ∀ (v1697 : BitVec 32) (k0_hw189 : k0_chk189 v1697), ∀ a, (k0_off378 v1697) a + S1x128.size a ≤ S32000x128.size a := fun v1697 k0_hw189 => k0_hw189

def k0_off379 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c189_i32 : BitVec 32 := 189#32
  let v1704 : BitVec 32 := Scalar.addi v2 c189_i32
  let v1705 : Index := Scalar.indexCast v1704
  ![v1705.toNat]
def k0_off380 (v1706 : BitVec 32) : Fin 2 → Nat :=
  let v1707 : Index := Scalar.indexCast v1706
  let c0_379 : Index := 0#32
  ![v1707.toNat, 0]

def k0_chk190 (v1706 : BitVec 32) : Prop :=
  (∀ a, (k0_off380 v1706) a + S1x128.size a ≤ S32000x128.size a)
theorem k0_off380_inb : ∀ (v1706 : BitVec 32) (k0_hw190 : k0_chk190 v1706), ∀ a, (k0_off380 v1706) a + S1x128.size a ≤ S32000x128.size a := fun v1706 k0_hw190 => k0_hw190

def k0_off381 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c190_i32 : BitVec 32 := 190#32
  let v1713 : BitVec 32 := Scalar.addi v2 c190_i32
  let v1714 : Index := Scalar.indexCast v1713
  ![v1714.toNat]
def k0_off382 (v1715 : BitVec 32) : Fin 2 → Nat :=
  let v1716 : Index := Scalar.indexCast v1715
  let c0_381 : Index := 0#32
  ![v1716.toNat, 0]

def k0_chk191 (v1715 : BitVec 32) : Prop :=
  (∀ a, (k0_off382 v1715) a + S1x128.size a ≤ S32000x128.size a)
theorem k0_off382_inb : ∀ (v1715 : BitVec 32) (k0_hw191 : k0_chk191 v1715), ∀ a, (k0_off382 v1715) a + S1x128.size a ≤ S32000x128.size a := fun v1715 k0_hw191 => k0_hw191

def k0_off383 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c191_i32 : BitVec 32 := 191#32
  let v1722 : BitVec 32 := Scalar.addi v2 c191_i32
  let v1723 : Index := Scalar.indexCast v1722
  ![v1723.toNat]
def k0_off384 (v1724 : BitVec 32) : Fin 2 → Nat :=
  let v1725 : Index := Scalar.indexCast v1724
  let c0_383 : Index := 0#32
  ![v1725.toNat, 0]

def k0_chk192 (v1724 : BitVec 32) : Prop :=
  (∀ a, (k0_off384 v1724) a + S1x128.size a ≤ S32000x128.size a)
theorem k0_off384_inb : ∀ (v1724 : BitVec 32) (k0_hw192 : k0_chk192 v1724), ∀ a, (k0_off384 v1724) a + S1x128.size a ≤ S32000x128.size a := fun v1724 k0_hw192 => k0_hw192

def k0_off385 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c192_i32 : BitVec 32 := 192#32
  let v1731 : BitVec 32 := Scalar.addi v2 c192_i32
  let v1732 : Index := Scalar.indexCast v1731
  ![v1732.toNat]
def k0_off386 (v1733 : BitVec 32) : Fin 2 → Nat :=
  let v1734 : Index := Scalar.indexCast v1733
  let c0_385 : Index := 0#32
  ![v1734.toNat, 0]

def k0_chk193 (v1733 : BitVec 32) : Prop :=
  (∀ a, (k0_off386 v1733) a + S1x128.size a ≤ S32000x128.size a)
theorem k0_off386_inb : ∀ (v1733 : BitVec 32) (k0_hw193 : k0_chk193 v1733), ∀ a, (k0_off386 v1733) a + S1x128.size a ≤ S32000x128.size a := fun v1733 k0_hw193 => k0_hw193

def k0_off387 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c193_i32 : BitVec 32 := 193#32
  let v1740 : BitVec 32 := Scalar.addi v2 c193_i32
  let v1741 : Index := Scalar.indexCast v1740
  ![v1741.toNat]
def k0_off388 (v1742 : BitVec 32) : Fin 2 → Nat :=
  let v1743 : Index := Scalar.indexCast v1742
  let c0_387 : Index := 0#32
  ![v1743.toNat, 0]

def k0_chk194 (v1742 : BitVec 32) : Prop :=
  (∀ a, (k0_off388 v1742) a + S1x128.size a ≤ S32000x128.size a)
theorem k0_off388_inb : ∀ (v1742 : BitVec 32) (k0_hw194 : k0_chk194 v1742), ∀ a, (k0_off388 v1742) a + S1x128.size a ≤ S32000x128.size a := fun v1742 k0_hw194 => k0_hw194

def k0_off389 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c194_i32 : BitVec 32 := 194#32
  let v1749 : BitVec 32 := Scalar.addi v2 c194_i32
  let v1750 : Index := Scalar.indexCast v1749
  ![v1750.toNat]
def k0_off390 (v1751 : BitVec 32) : Fin 2 → Nat :=
  let v1752 : Index := Scalar.indexCast v1751
  let c0_389 : Index := 0#32
  ![v1752.toNat, 0]

def k0_chk195 (v1751 : BitVec 32) : Prop :=
  (∀ a, (k0_off390 v1751) a + S1x128.size a ≤ S32000x128.size a)
theorem k0_off390_inb : ∀ (v1751 : BitVec 32) (k0_hw195 : k0_chk195 v1751), ∀ a, (k0_off390 v1751) a + S1x128.size a ≤ S32000x128.size a := fun v1751 k0_hw195 => k0_hw195

def k0_off391 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c195_i32 : BitVec 32 := 195#32
  let v1758 : BitVec 32 := Scalar.addi v2 c195_i32
  let v1759 : Index := Scalar.indexCast v1758
  ![v1759.toNat]
def k0_off392 (v1760 : BitVec 32) : Fin 2 → Nat :=
  let v1761 : Index := Scalar.indexCast v1760
  let c0_391 : Index := 0#32
  ![v1761.toNat, 0]

def k0_chk196 (v1760 : BitVec 32) : Prop :=
  (∀ a, (k0_off392 v1760) a + S1x128.size a ≤ S32000x128.size a)
theorem k0_off392_inb : ∀ (v1760 : BitVec 32) (k0_hw196 : k0_chk196 v1760), ∀ a, (k0_off392 v1760) a + S1x128.size a ≤ S32000x128.size a := fun v1760 k0_hw196 => k0_hw196

def k0_off393 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c196_i32 : BitVec 32 := 196#32
  let v1767 : BitVec 32 := Scalar.addi v2 c196_i32
  let v1768 : Index := Scalar.indexCast v1767
  ![v1768.toNat]
def k0_off394 (v1769 : BitVec 32) : Fin 2 → Nat :=
  let v1770 : Index := Scalar.indexCast v1769
  let c0_393 : Index := 0#32
  ![v1770.toNat, 0]

def k0_chk197 (v1769 : BitVec 32) : Prop :=
  (∀ a, (k0_off394 v1769) a + S1x128.size a ≤ S32000x128.size a)
theorem k0_off394_inb : ∀ (v1769 : BitVec 32) (k0_hw197 : k0_chk197 v1769), ∀ a, (k0_off394 v1769) a + S1x128.size a ≤ S32000x128.size a := fun v1769 k0_hw197 => k0_hw197

def k0_off395 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c197_i32 : BitVec 32 := 197#32
  let v1776 : BitVec 32 := Scalar.addi v2 c197_i32
  let v1777 : Index := Scalar.indexCast v1776
  ![v1777.toNat]
def k0_off396 (v1778 : BitVec 32) : Fin 2 → Nat :=
  let v1779 : Index := Scalar.indexCast v1778
  let c0_395 : Index := 0#32
  ![v1779.toNat, 0]

def k0_chk198 (v1778 : BitVec 32) : Prop :=
  (∀ a, (k0_off396 v1778) a + S1x128.size a ≤ S32000x128.size a)
theorem k0_off396_inb : ∀ (v1778 : BitVec 32) (k0_hw198 : k0_chk198 v1778), ∀ a, (k0_off396 v1778) a + S1x128.size a ≤ S32000x128.size a := fun v1778 k0_hw198 => k0_hw198

def k0_off397 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c198_i32 : BitVec 32 := 198#32
  let v1785 : BitVec 32 := Scalar.addi v2 c198_i32
  let v1786 : Index := Scalar.indexCast v1785
  ![v1786.toNat]
def k0_off398 (v1787 : BitVec 32) : Fin 2 → Nat :=
  let v1788 : Index := Scalar.indexCast v1787
  let c0_397 : Index := 0#32
  ![v1788.toNat, 0]

def k0_chk199 (v1787 : BitVec 32) : Prop :=
  (∀ a, (k0_off398 v1787) a + S1x128.size a ≤ S32000x128.size a)
theorem k0_off398_inb : ∀ (v1787 : BitVec 32) (k0_hw199 : k0_chk199 v1787), ∀ a, (k0_off398 v1787) a + S1x128.size a ≤ S32000x128.size a := fun v1787 k0_hw199 => k0_hw199

def k0_off399 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c199_i32 : BitVec 32 := 199#32
  let v1794 : BitVec 32 := Scalar.addi v2 c199_i32
  let v1795 : Index := Scalar.indexCast v1794
  ![v1795.toNat]
def k0_off400 (v1796 : BitVec 32) : Fin 2 → Nat :=
  let v1797 : Index := Scalar.indexCast v1796
  let c0_399 : Index := 0#32
  ![v1797.toNat, 0]

def k0_chk200 (v1796 : BitVec 32) : Prop :=
  (∀ a, (k0_off400 v1796) a + S1x128.size a ≤ S32000x128.size a)
theorem k0_off400_inb : ∀ (v1796 : BitVec 32) (k0_hw200 : k0_chk200 v1796), ∀ a, (k0_off400 v1796) a + S1x128.size a ≤ S32000x128.size a := fun v1796 k0_hw200 => k0_hw200

def k0_off401 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c200_i32 : BitVec 32 := 200#32
  let v1803 : BitVec 32 := Scalar.addi v2 c200_i32
  let v1804 : Index := Scalar.indexCast v1803
  ![v1804.toNat]
def k0_off402 (v1805 : BitVec 32) : Fin 2 → Nat :=
  let v1806 : Index := Scalar.indexCast v1805
  let c0_401 : Index := 0#32
  ![v1806.toNat, 0]

def k0_chk201 (v1805 : BitVec 32) : Prop :=
  (∀ a, (k0_off402 v1805) a + S1x128.size a ≤ S32000x128.size a)
theorem k0_off402_inb : ∀ (v1805 : BitVec 32) (k0_hw201 : k0_chk201 v1805), ∀ a, (k0_off402 v1805) a + S1x128.size a ≤ S32000x128.size a := fun v1805 k0_hw201 => k0_hw201

def k0_off403 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c201_i32 : BitVec 32 := 201#32
  let v1812 : BitVec 32 := Scalar.addi v2 c201_i32
  let v1813 : Index := Scalar.indexCast v1812
  ![v1813.toNat]
def k0_off404 (v1814 : BitVec 32) : Fin 2 → Nat :=
  let v1815 : Index := Scalar.indexCast v1814
  let c0_403 : Index := 0#32
  ![v1815.toNat, 0]

def k0_chk202 (v1814 : BitVec 32) : Prop :=
  (∀ a, (k0_off404 v1814) a + S1x128.size a ≤ S32000x128.size a)
theorem k0_off404_inb : ∀ (v1814 : BitVec 32) (k0_hw202 : k0_chk202 v1814), ∀ a, (k0_off404 v1814) a + S1x128.size a ≤ S32000x128.size a := fun v1814 k0_hw202 => k0_hw202

def k0_off405 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c202_i32 : BitVec 32 := 202#32
  let v1821 : BitVec 32 := Scalar.addi v2 c202_i32
  let v1822 : Index := Scalar.indexCast v1821
  ![v1822.toNat]
def k0_off406 (v1823 : BitVec 32) : Fin 2 → Nat :=
  let v1824 : Index := Scalar.indexCast v1823
  let c0_405 : Index := 0#32
  ![v1824.toNat, 0]

def k0_chk203 (v1823 : BitVec 32) : Prop :=
  (∀ a, (k0_off406 v1823) a + S1x128.size a ≤ S32000x128.size a)
theorem k0_off406_inb : ∀ (v1823 : BitVec 32) (k0_hw203 : k0_chk203 v1823), ∀ a, (k0_off406 v1823) a + S1x128.size a ≤ S32000x128.size a := fun v1823 k0_hw203 => k0_hw203

def k0_off407 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c203_i32 : BitVec 32 := 203#32
  let v1830 : BitVec 32 := Scalar.addi v2 c203_i32
  let v1831 : Index := Scalar.indexCast v1830
  ![v1831.toNat]
def k0_off408 (v1832 : BitVec 32) : Fin 2 → Nat :=
  let v1833 : Index := Scalar.indexCast v1832
  let c0_407 : Index := 0#32
  ![v1833.toNat, 0]

def k0_chk204 (v1832 : BitVec 32) : Prop :=
  (∀ a, (k0_off408 v1832) a + S1x128.size a ≤ S32000x128.size a)
theorem k0_off408_inb : ∀ (v1832 : BitVec 32) (k0_hw204 : k0_chk204 v1832), ∀ a, (k0_off408 v1832) a + S1x128.size a ≤ S32000x128.size a := fun v1832 k0_hw204 => k0_hw204

def k0_off409 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c204_i32 : BitVec 32 := 204#32
  let v1839 : BitVec 32 := Scalar.addi v2 c204_i32
  let v1840 : Index := Scalar.indexCast v1839
  ![v1840.toNat]
def k0_off410 (v1841 : BitVec 32) : Fin 2 → Nat :=
  let v1842 : Index := Scalar.indexCast v1841
  let c0_409 : Index := 0#32
  ![v1842.toNat, 0]

def k0_chk205 (v1841 : BitVec 32) : Prop :=
  (∀ a, (k0_off410 v1841) a + S1x128.size a ≤ S32000x128.size a)
theorem k0_off410_inb : ∀ (v1841 : BitVec 32) (k0_hw205 : k0_chk205 v1841), ∀ a, (k0_off410 v1841) a + S1x128.size a ≤ S32000x128.size a := fun v1841 k0_hw205 => k0_hw205

def k0_off411 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c205_i32 : BitVec 32 := 205#32
  let v1848 : BitVec 32 := Scalar.addi v2 c205_i32
  let v1849 : Index := Scalar.indexCast v1848
  ![v1849.toNat]
def k0_off412 (v1850 : BitVec 32) : Fin 2 → Nat :=
  let v1851 : Index := Scalar.indexCast v1850
  let c0_411 : Index := 0#32
  ![v1851.toNat, 0]

def k0_chk206 (v1850 : BitVec 32) : Prop :=
  (∀ a, (k0_off412 v1850) a + S1x128.size a ≤ S32000x128.size a)
theorem k0_off412_inb : ∀ (v1850 : BitVec 32) (k0_hw206 : k0_chk206 v1850), ∀ a, (k0_off412 v1850) a + S1x128.size a ≤ S32000x128.size a := fun v1850 k0_hw206 => k0_hw206

def k0_off413 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c206_i32 : BitVec 32 := 206#32
  let v1857 : BitVec 32 := Scalar.addi v2 c206_i32
  let v1858 : Index := Scalar.indexCast v1857
  ![v1858.toNat]
def k0_off414 (v1859 : BitVec 32) : Fin 2 → Nat :=
  let v1860 : Index := Scalar.indexCast v1859
  let c0_413 : Index := 0#32
  ![v1860.toNat, 0]

def k0_chk207 (v1859 : BitVec 32) : Prop :=
  (∀ a, (k0_off414 v1859) a + S1x128.size a ≤ S32000x128.size a)
theorem k0_off414_inb : ∀ (v1859 : BitVec 32) (k0_hw207 : k0_chk207 v1859), ∀ a, (k0_off414 v1859) a + S1x128.size a ≤ S32000x128.size a := fun v1859 k0_hw207 => k0_hw207

def k0_off415 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c207_i32 : BitVec 32 := 207#32
  let v1866 : BitVec 32 := Scalar.addi v2 c207_i32
  let v1867 : Index := Scalar.indexCast v1866
  ![v1867.toNat]
def k0_off416 (v1868 : BitVec 32) : Fin 2 → Nat :=
  let v1869 : Index := Scalar.indexCast v1868
  let c0_415 : Index := 0#32
  ![v1869.toNat, 0]

def k0_chk208 (v1868 : BitVec 32) : Prop :=
  (∀ a, (k0_off416 v1868) a + S1x128.size a ≤ S32000x128.size a)
theorem k0_off416_inb : ∀ (v1868 : BitVec 32) (k0_hw208 : k0_chk208 v1868), ∀ a, (k0_off416 v1868) a + S1x128.size a ≤ S32000x128.size a := fun v1868 k0_hw208 => k0_hw208

def k0_off417 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c208_i32 : BitVec 32 := 208#32
  let v1875 : BitVec 32 := Scalar.addi v2 c208_i32
  let v1876 : Index := Scalar.indexCast v1875
  ![v1876.toNat]
def k0_off418 (v1877 : BitVec 32) : Fin 2 → Nat :=
  let v1878 : Index := Scalar.indexCast v1877
  let c0_417 : Index := 0#32
  ![v1878.toNat, 0]

def k0_chk209 (v1877 : BitVec 32) : Prop :=
  (∀ a, (k0_off418 v1877) a + S1x128.size a ≤ S32000x128.size a)
theorem k0_off418_inb : ∀ (v1877 : BitVec 32) (k0_hw209 : k0_chk209 v1877), ∀ a, (k0_off418 v1877) a + S1x128.size a ≤ S32000x128.size a := fun v1877 k0_hw209 => k0_hw209

def k0_off419 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c209_i32 : BitVec 32 := 209#32
  let v1884 : BitVec 32 := Scalar.addi v2 c209_i32
  let v1885 : Index := Scalar.indexCast v1884
  ![v1885.toNat]
def k0_off420 (v1886 : BitVec 32) : Fin 2 → Nat :=
  let v1887 : Index := Scalar.indexCast v1886
  let c0_419 : Index := 0#32
  ![v1887.toNat, 0]

def k0_chk210 (v1886 : BitVec 32) : Prop :=
  (∀ a, (k0_off420 v1886) a + S1x128.size a ≤ S32000x128.size a)
theorem k0_off420_inb : ∀ (v1886 : BitVec 32) (k0_hw210 : k0_chk210 v1886), ∀ a, (k0_off420 v1886) a + S1x128.size a ≤ S32000x128.size a := fun v1886 k0_hw210 => k0_hw210

def k0_off421 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c210_i32 : BitVec 32 := 210#32
  let v1893 : BitVec 32 := Scalar.addi v2 c210_i32
  let v1894 : Index := Scalar.indexCast v1893
  ![v1894.toNat]
def k0_off422 (v1895 : BitVec 32) : Fin 2 → Nat :=
  let v1896 : Index := Scalar.indexCast v1895
  let c0_421 : Index := 0#32
  ![v1896.toNat, 0]

def k0_chk211 (v1895 : BitVec 32) : Prop :=
  (∀ a, (k0_off422 v1895) a + S1x128.size a ≤ S32000x128.size a)
theorem k0_off422_inb : ∀ (v1895 : BitVec 32) (k0_hw211 : k0_chk211 v1895), ∀ a, (k0_off422 v1895) a + S1x128.size a ≤ S32000x128.size a := fun v1895 k0_hw211 => k0_hw211

def k0_off423 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c211_i32 : BitVec 32 := 211#32
  let v1902 : BitVec 32 := Scalar.addi v2 c211_i32
  let v1903 : Index := Scalar.indexCast v1902
  ![v1903.toNat]
def k0_off424 (v1904 : BitVec 32) : Fin 2 → Nat :=
  let v1905 : Index := Scalar.indexCast v1904
  let c0_423 : Index := 0#32
  ![v1905.toNat, 0]

def k0_chk212 (v1904 : BitVec 32) : Prop :=
  (∀ a, (k0_off424 v1904) a + S1x128.size a ≤ S32000x128.size a)
theorem k0_off424_inb : ∀ (v1904 : BitVec 32) (k0_hw212 : k0_chk212 v1904), ∀ a, (k0_off424 v1904) a + S1x128.size a ≤ S32000x128.size a := fun v1904 k0_hw212 => k0_hw212

def k0_off425 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c212_i32 : BitVec 32 := 212#32
  let v1911 : BitVec 32 := Scalar.addi v2 c212_i32
  let v1912 : Index := Scalar.indexCast v1911
  ![v1912.toNat]
def k0_off426 (v1913 : BitVec 32) : Fin 2 → Nat :=
  let v1914 : Index := Scalar.indexCast v1913
  let c0_425 : Index := 0#32
  ![v1914.toNat, 0]

def k0_chk213 (v1913 : BitVec 32) : Prop :=
  (∀ a, (k0_off426 v1913) a + S1x128.size a ≤ S32000x128.size a)
theorem k0_off426_inb : ∀ (v1913 : BitVec 32) (k0_hw213 : k0_chk213 v1913), ∀ a, (k0_off426 v1913) a + S1x128.size a ≤ S32000x128.size a := fun v1913 k0_hw213 => k0_hw213

def k0_off427 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c213_i32 : BitVec 32 := 213#32
  let v1920 : BitVec 32 := Scalar.addi v2 c213_i32
  let v1921 : Index := Scalar.indexCast v1920
  ![v1921.toNat]
def k0_off428 (v1922 : BitVec 32) : Fin 2 → Nat :=
  let v1923 : Index := Scalar.indexCast v1922
  let c0_427 : Index := 0#32
  ![v1923.toNat, 0]

def k0_chk214 (v1922 : BitVec 32) : Prop :=
  (∀ a, (k0_off428 v1922) a + S1x128.size a ≤ S32000x128.size a)
theorem k0_off428_inb : ∀ (v1922 : BitVec 32) (k0_hw214 : k0_chk214 v1922), ∀ a, (k0_off428 v1922) a + S1x128.size a ≤ S32000x128.size a := fun v1922 k0_hw214 => k0_hw214

def k0_off429 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c214_i32 : BitVec 32 := 214#32
  let v1929 : BitVec 32 := Scalar.addi v2 c214_i32
  let v1930 : Index := Scalar.indexCast v1929
  ![v1930.toNat]
def k0_off430 (v1931 : BitVec 32) : Fin 2 → Nat :=
  let v1932 : Index := Scalar.indexCast v1931
  let c0_429 : Index := 0#32
  ![v1932.toNat, 0]

def k0_chk215 (v1931 : BitVec 32) : Prop :=
  (∀ a, (k0_off430 v1931) a + S1x128.size a ≤ S32000x128.size a)
theorem k0_off430_inb : ∀ (v1931 : BitVec 32) (k0_hw215 : k0_chk215 v1931), ∀ a, (k0_off430 v1931) a + S1x128.size a ≤ S32000x128.size a := fun v1931 k0_hw215 => k0_hw215

def k0_off431 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c215_i32 : BitVec 32 := 215#32
  let v1938 : BitVec 32 := Scalar.addi v2 c215_i32
  let v1939 : Index := Scalar.indexCast v1938
  ![v1939.toNat]
def k0_off432 (v1940 : BitVec 32) : Fin 2 → Nat :=
  let v1941 : Index := Scalar.indexCast v1940
  let c0_431 : Index := 0#32
  ![v1941.toNat, 0]

def k0_chk216 (v1940 : BitVec 32) : Prop :=
  (∀ a, (k0_off432 v1940) a + S1x128.size a ≤ S32000x128.size a)
theorem k0_off432_inb : ∀ (v1940 : BitVec 32) (k0_hw216 : k0_chk216 v1940), ∀ a, (k0_off432 v1940) a + S1x128.size a ≤ S32000x128.size a := fun v1940 k0_hw216 => k0_hw216

def k0_off433 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c216_i32 : BitVec 32 := 216#32
  let v1947 : BitVec 32 := Scalar.addi v2 c216_i32
  let v1948 : Index := Scalar.indexCast v1947
  ![v1948.toNat]
def k0_off434 (v1949 : BitVec 32) : Fin 2 → Nat :=
  let v1950 : Index := Scalar.indexCast v1949
  let c0_433 : Index := 0#32
  ![v1950.toNat, 0]

def k0_chk217 (v1949 : BitVec 32) : Prop :=
  (∀ a, (k0_off434 v1949) a + S1x128.size a ≤ S32000x128.size a)
theorem k0_off434_inb : ∀ (v1949 : BitVec 32) (k0_hw217 : k0_chk217 v1949), ∀ a, (k0_off434 v1949) a + S1x128.size a ≤ S32000x128.size a := fun v1949 k0_hw217 => k0_hw217

def k0_off435 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c217_i32 : BitVec 32 := 217#32
  let v1956 : BitVec 32 := Scalar.addi v2 c217_i32
  let v1957 : Index := Scalar.indexCast v1956
  ![v1957.toNat]
def k0_off436 (v1958 : BitVec 32) : Fin 2 → Nat :=
  let v1959 : Index := Scalar.indexCast v1958
  let c0_435 : Index := 0#32
  ![v1959.toNat, 0]

def k0_chk218 (v1958 : BitVec 32) : Prop :=
  (∀ a, (k0_off436 v1958) a + S1x128.size a ≤ S32000x128.size a)
theorem k0_off436_inb : ∀ (v1958 : BitVec 32) (k0_hw218 : k0_chk218 v1958), ∀ a, (k0_off436 v1958) a + S1x128.size a ≤ S32000x128.size a := fun v1958 k0_hw218 => k0_hw218

def k0_off437 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c218_i32 : BitVec 32 := 218#32
  let v1965 : BitVec 32 := Scalar.addi v2 c218_i32
  let v1966 : Index := Scalar.indexCast v1965
  ![v1966.toNat]
def k0_off438 (v1967 : BitVec 32) : Fin 2 → Nat :=
  let v1968 : Index := Scalar.indexCast v1967
  let c0_437 : Index := 0#32
  ![v1968.toNat, 0]

def k0_chk219 (v1967 : BitVec 32) : Prop :=
  (∀ a, (k0_off438 v1967) a + S1x128.size a ≤ S32000x128.size a)
theorem k0_off438_inb : ∀ (v1967 : BitVec 32) (k0_hw219 : k0_chk219 v1967), ∀ a, (k0_off438 v1967) a + S1x128.size a ≤ S32000x128.size a := fun v1967 k0_hw219 => k0_hw219

def k0_off439 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c219_i32 : BitVec 32 := 219#32
  let v1974 : BitVec 32 := Scalar.addi v2 c219_i32
  let v1975 : Index := Scalar.indexCast v1974
  ![v1975.toNat]
def k0_off440 (v1976 : BitVec 32) : Fin 2 → Nat :=
  let v1977 : Index := Scalar.indexCast v1976
  let c0_439 : Index := 0#32
  ![v1977.toNat, 0]

def k0_chk220 (v1976 : BitVec 32) : Prop :=
  (∀ a, (k0_off440 v1976) a + S1x128.size a ≤ S32000x128.size a)
theorem k0_off440_inb : ∀ (v1976 : BitVec 32) (k0_hw220 : k0_chk220 v1976), ∀ a, (k0_off440 v1976) a + S1x128.size a ≤ S32000x128.size a := fun v1976 k0_hw220 => k0_hw220

def k0_off441 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c220_i32 : BitVec 32 := 220#32
  let v1983 : BitVec 32 := Scalar.addi v2 c220_i32
  let v1984 : Index := Scalar.indexCast v1983
  ![v1984.toNat]
def k0_off442 (v1985 : BitVec 32) : Fin 2 → Nat :=
  let v1986 : Index := Scalar.indexCast v1985
  let c0_441 : Index := 0#32
  ![v1986.toNat, 0]

def k0_chk221 (v1985 : BitVec 32) : Prop :=
  (∀ a, (k0_off442 v1985) a + S1x128.size a ≤ S32000x128.size a)
theorem k0_off442_inb : ∀ (v1985 : BitVec 32) (k0_hw221 : k0_chk221 v1985), ∀ a, (k0_off442 v1985) a + S1x128.size a ≤ S32000x128.size a := fun v1985 k0_hw221 => k0_hw221

def k0_off443 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c221_i32 : BitVec 32 := 221#32
  let v1992 : BitVec 32 := Scalar.addi v2 c221_i32
  let v1993 : Index := Scalar.indexCast v1992
  ![v1993.toNat]
def k0_off444 (v1994 : BitVec 32) : Fin 2 → Nat :=
  let v1995 : Index := Scalar.indexCast v1994
  let c0_443 : Index := 0#32
  ![v1995.toNat, 0]

def k0_chk222 (v1994 : BitVec 32) : Prop :=
  (∀ a, (k0_off444 v1994) a + S1x128.size a ≤ S32000x128.size a)
theorem k0_off444_inb : ∀ (v1994 : BitVec 32) (k0_hw222 : k0_chk222 v1994), ∀ a, (k0_off444 v1994) a + S1x128.size a ≤ S32000x128.size a := fun v1994 k0_hw222 => k0_hw222

def k0_off445 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c222_i32 : BitVec 32 := 222#32
  let v2001 : BitVec 32 := Scalar.addi v2 c222_i32
  let v2002 : Index := Scalar.indexCast v2001
  ![v2002.toNat]
def k0_off446 (v2003 : BitVec 32) : Fin 2 → Nat :=
  let v2004 : Index := Scalar.indexCast v2003
  let c0_445 : Index := 0#32
  ![v2004.toNat, 0]

def k0_chk223 (v2003 : BitVec 32) : Prop :=
  (∀ a, (k0_off446 v2003) a + S1x128.size a ≤ S32000x128.size a)
theorem k0_off446_inb : ∀ (v2003 : BitVec 32) (k0_hw223 : k0_chk223 v2003), ∀ a, (k0_off446 v2003) a + S1x128.size a ≤ S32000x128.size a := fun v2003 k0_hw223 => k0_hw223

def k0_off447 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c223_i32 : BitVec 32 := 223#32
  let v2010 : BitVec 32 := Scalar.addi v2 c223_i32
  let v2011 : Index := Scalar.indexCast v2010
  ![v2011.toNat]
def k0_off448 (v2012 : BitVec 32) : Fin 2 → Nat :=
  let v2013 : Index := Scalar.indexCast v2012
  let c0_447 : Index := 0#32
  ![v2013.toNat, 0]

def k0_chk224 (v2012 : BitVec 32) : Prop :=
  (∀ a, (k0_off448 v2012) a + S1x128.size a ≤ S32000x128.size a)
theorem k0_off448_inb : ∀ (v2012 : BitVec 32) (k0_hw224 : k0_chk224 v2012), ∀ a, (k0_off448 v2012) a + S1x128.size a ≤ S32000x128.size a := fun v2012 k0_hw224 => k0_hw224

def k0_off449 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c224_i32 : BitVec 32 := 224#32
  let v2019 : BitVec 32 := Scalar.addi v2 c224_i32
  let v2020 : Index := Scalar.indexCast v2019
  ![v2020.toNat]
def k0_off450 (v2021 : BitVec 32) : Fin 2 → Nat :=
  let v2022 : Index := Scalar.indexCast v2021
  let c0_449 : Index := 0#32
  ![v2022.toNat, 0]

def k0_chk225 (v2021 : BitVec 32) : Prop :=
  (∀ a, (k0_off450 v2021) a + S1x128.size a ≤ S32000x128.size a)
theorem k0_off450_inb : ∀ (v2021 : BitVec 32) (k0_hw225 : k0_chk225 v2021), ∀ a, (k0_off450 v2021) a + S1x128.size a ≤ S32000x128.size a := fun v2021 k0_hw225 => k0_hw225

def k0_off451 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c225_i32 : BitVec 32 := 225#32
  let v2028 : BitVec 32 := Scalar.addi v2 c225_i32
  let v2029 : Index := Scalar.indexCast v2028
  ![v2029.toNat]
def k0_off452 (v2030 : BitVec 32) : Fin 2 → Nat :=
  let v2031 : Index := Scalar.indexCast v2030
  let c0_451 : Index := 0#32
  ![v2031.toNat, 0]

def k0_chk226 (v2030 : BitVec 32) : Prop :=
  (∀ a, (k0_off452 v2030) a + S1x128.size a ≤ S32000x128.size a)
theorem k0_off452_inb : ∀ (v2030 : BitVec 32) (k0_hw226 : k0_chk226 v2030), ∀ a, (k0_off452 v2030) a + S1x128.size a ≤ S32000x128.size a := fun v2030 k0_hw226 => k0_hw226

def k0_off453 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c226_i32 : BitVec 32 := 226#32
  let v2037 : BitVec 32 := Scalar.addi v2 c226_i32
  let v2038 : Index := Scalar.indexCast v2037
  ![v2038.toNat]
def k0_off454 (v2039 : BitVec 32) : Fin 2 → Nat :=
  let v2040 : Index := Scalar.indexCast v2039
  let c0_453 : Index := 0#32
  ![v2040.toNat, 0]

def k0_chk227 (v2039 : BitVec 32) : Prop :=
  (∀ a, (k0_off454 v2039) a + S1x128.size a ≤ S32000x128.size a)
theorem k0_off454_inb : ∀ (v2039 : BitVec 32) (k0_hw227 : k0_chk227 v2039), ∀ a, (k0_off454 v2039) a + S1x128.size a ≤ S32000x128.size a := fun v2039 k0_hw227 => k0_hw227

def k0_off455 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c227_i32 : BitVec 32 := 227#32
  let v2046 : BitVec 32 := Scalar.addi v2 c227_i32
  let v2047 : Index := Scalar.indexCast v2046
  ![v2047.toNat]
def k0_off456 (v2048 : BitVec 32) : Fin 2 → Nat :=
  let v2049 : Index := Scalar.indexCast v2048
  let c0_455 : Index := 0#32
  ![v2049.toNat, 0]

def k0_chk228 (v2048 : BitVec 32) : Prop :=
  (∀ a, (k0_off456 v2048) a + S1x128.size a ≤ S32000x128.size a)
theorem k0_off456_inb : ∀ (v2048 : BitVec 32) (k0_hw228 : k0_chk228 v2048), ∀ a, (k0_off456 v2048) a + S1x128.size a ≤ S32000x128.size a := fun v2048 k0_hw228 => k0_hw228

def k0_off457 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c228_i32 : BitVec 32 := 228#32
  let v2055 : BitVec 32 := Scalar.addi v2 c228_i32
  let v2056 : Index := Scalar.indexCast v2055
  ![v2056.toNat]
def k0_off458 (v2057 : BitVec 32) : Fin 2 → Nat :=
  let v2058 : Index := Scalar.indexCast v2057
  let c0_457 : Index := 0#32
  ![v2058.toNat, 0]

def k0_chk229 (v2057 : BitVec 32) : Prop :=
  (∀ a, (k0_off458 v2057) a + S1x128.size a ≤ S32000x128.size a)
theorem k0_off458_inb : ∀ (v2057 : BitVec 32) (k0_hw229 : k0_chk229 v2057), ∀ a, (k0_off458 v2057) a + S1x128.size a ≤ S32000x128.size a := fun v2057 k0_hw229 => k0_hw229

def k0_off459 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c229_i32 : BitVec 32 := 229#32
  let v2064 : BitVec 32 := Scalar.addi v2 c229_i32
  let v2065 : Index := Scalar.indexCast v2064
  ![v2065.toNat]
def k0_off460 (v2066 : BitVec 32) : Fin 2 → Nat :=
  let v2067 : Index := Scalar.indexCast v2066
  let c0_459 : Index := 0#32
  ![v2067.toNat, 0]

def k0_chk230 (v2066 : BitVec 32) : Prop :=
  (∀ a, (k0_off460 v2066) a + S1x128.size a ≤ S32000x128.size a)
theorem k0_off460_inb : ∀ (v2066 : BitVec 32) (k0_hw230 : k0_chk230 v2066), ∀ a, (k0_off460 v2066) a + S1x128.size a ≤ S32000x128.size a := fun v2066 k0_hw230 => k0_hw230

def k0_off461 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c230_i32 : BitVec 32 := 230#32
  let v2073 : BitVec 32 := Scalar.addi v2 c230_i32
  let v2074 : Index := Scalar.indexCast v2073
  ![v2074.toNat]
def k0_off462 (v2075 : BitVec 32) : Fin 2 → Nat :=
  let v2076 : Index := Scalar.indexCast v2075
  let c0_461 : Index := 0#32
  ![v2076.toNat, 0]

def k0_chk231 (v2075 : BitVec 32) : Prop :=
  (∀ a, (k0_off462 v2075) a + S1x128.size a ≤ S32000x128.size a)
theorem k0_off462_inb : ∀ (v2075 : BitVec 32) (k0_hw231 : k0_chk231 v2075), ∀ a, (k0_off462 v2075) a + S1x128.size a ≤ S32000x128.size a := fun v2075 k0_hw231 => k0_hw231

def k0_off463 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c231_i32 : BitVec 32 := 231#32
  let v2082 : BitVec 32 := Scalar.addi v2 c231_i32
  let v2083 : Index := Scalar.indexCast v2082
  ![v2083.toNat]
def k0_off464 (v2084 : BitVec 32) : Fin 2 → Nat :=
  let v2085 : Index := Scalar.indexCast v2084
  let c0_463 : Index := 0#32
  ![v2085.toNat, 0]

def k0_chk232 (v2084 : BitVec 32) : Prop :=
  (∀ a, (k0_off464 v2084) a + S1x128.size a ≤ S32000x128.size a)
theorem k0_off464_inb : ∀ (v2084 : BitVec 32) (k0_hw232 : k0_chk232 v2084), ∀ a, (k0_off464 v2084) a + S1x128.size a ≤ S32000x128.size a := fun v2084 k0_hw232 => k0_hw232

def k0_off465 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c232_i32 : BitVec 32 := 232#32
  let v2091 : BitVec 32 := Scalar.addi v2 c232_i32
  let v2092 : Index := Scalar.indexCast v2091
  ![v2092.toNat]
def k0_off466 (v2093 : BitVec 32) : Fin 2 → Nat :=
  let v2094 : Index := Scalar.indexCast v2093
  let c0_465 : Index := 0#32
  ![v2094.toNat, 0]

def k0_chk233 (v2093 : BitVec 32) : Prop :=
  (∀ a, (k0_off466 v2093) a + S1x128.size a ≤ S32000x128.size a)
theorem k0_off466_inb : ∀ (v2093 : BitVec 32) (k0_hw233 : k0_chk233 v2093), ∀ a, (k0_off466 v2093) a + S1x128.size a ≤ S32000x128.size a := fun v2093 k0_hw233 => k0_hw233

def k0_off467 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c233_i32 : BitVec 32 := 233#32
  let v2100 : BitVec 32 := Scalar.addi v2 c233_i32
  let v2101 : Index := Scalar.indexCast v2100
  ![v2101.toNat]
def k0_off468 (v2102 : BitVec 32) : Fin 2 → Nat :=
  let v2103 : Index := Scalar.indexCast v2102
  let c0_467 : Index := 0#32
  ![v2103.toNat, 0]

def k0_chk234 (v2102 : BitVec 32) : Prop :=
  (∀ a, (k0_off468 v2102) a + S1x128.size a ≤ S32000x128.size a)
theorem k0_off468_inb : ∀ (v2102 : BitVec 32) (k0_hw234 : k0_chk234 v2102), ∀ a, (k0_off468 v2102) a + S1x128.size a ≤ S32000x128.size a := fun v2102 k0_hw234 => k0_hw234

def k0_off469 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c234_i32 : BitVec 32 := 234#32
  let v2109 : BitVec 32 := Scalar.addi v2 c234_i32
  let v2110 : Index := Scalar.indexCast v2109
  ![v2110.toNat]
def k0_off470 (v2111 : BitVec 32) : Fin 2 → Nat :=
  let v2112 : Index := Scalar.indexCast v2111
  let c0_469 : Index := 0#32
  ![v2112.toNat, 0]

def k0_chk235 (v2111 : BitVec 32) : Prop :=
  (∀ a, (k0_off470 v2111) a + S1x128.size a ≤ S32000x128.size a)
theorem k0_off470_inb : ∀ (v2111 : BitVec 32) (k0_hw235 : k0_chk235 v2111), ∀ a, (k0_off470 v2111) a + S1x128.size a ≤ S32000x128.size a := fun v2111 k0_hw235 => k0_hw235

def k0_off471 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c235_i32 : BitVec 32 := 235#32
  let v2118 : BitVec 32 := Scalar.addi v2 c235_i32
  let v2119 : Index := Scalar.indexCast v2118
  ![v2119.toNat]
def k0_off472 (v2120 : BitVec 32) : Fin 2 → Nat :=
  let v2121 : Index := Scalar.indexCast v2120
  let c0_471 : Index := 0#32
  ![v2121.toNat, 0]

def k0_chk236 (v2120 : BitVec 32) : Prop :=
  (∀ a, (k0_off472 v2120) a + S1x128.size a ≤ S32000x128.size a)
theorem k0_off472_inb : ∀ (v2120 : BitVec 32) (k0_hw236 : k0_chk236 v2120), ∀ a, (k0_off472 v2120) a + S1x128.size a ≤ S32000x128.size a := fun v2120 k0_hw236 => k0_hw236

def k0_off473 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c236_i32 : BitVec 32 := 236#32
  let v2127 : BitVec 32 := Scalar.addi v2 c236_i32
  let v2128 : Index := Scalar.indexCast v2127
  ![v2128.toNat]
def k0_off474 (v2129 : BitVec 32) : Fin 2 → Nat :=
  let v2130 : Index := Scalar.indexCast v2129
  let c0_473 : Index := 0#32
  ![v2130.toNat, 0]

def k0_chk237 (v2129 : BitVec 32) : Prop :=
  (∀ a, (k0_off474 v2129) a + S1x128.size a ≤ S32000x128.size a)
theorem k0_off474_inb : ∀ (v2129 : BitVec 32) (k0_hw237 : k0_chk237 v2129), ∀ a, (k0_off474 v2129) a + S1x128.size a ≤ S32000x128.size a := fun v2129 k0_hw237 => k0_hw237

def k0_off475 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c237_i32 : BitVec 32 := 237#32
  let v2136 : BitVec 32 := Scalar.addi v2 c237_i32
  let v2137 : Index := Scalar.indexCast v2136
  ![v2137.toNat]
def k0_off476 (v2138 : BitVec 32) : Fin 2 → Nat :=
  let v2139 : Index := Scalar.indexCast v2138
  let c0_475 : Index := 0#32
  ![v2139.toNat, 0]

def k0_chk238 (v2138 : BitVec 32) : Prop :=
  (∀ a, (k0_off476 v2138) a + S1x128.size a ≤ S32000x128.size a)
theorem k0_off476_inb : ∀ (v2138 : BitVec 32) (k0_hw238 : k0_chk238 v2138), ∀ a, (k0_off476 v2138) a + S1x128.size a ≤ S32000x128.size a := fun v2138 k0_hw238 => k0_hw238

def k0_off477 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c238_i32 : BitVec 32 := 238#32
  let v2145 : BitVec 32 := Scalar.addi v2 c238_i32
  let v2146 : Index := Scalar.indexCast v2145
  ![v2146.toNat]
def k0_off478 (v2147 : BitVec 32) : Fin 2 → Nat :=
  let v2148 : Index := Scalar.indexCast v2147
  let c0_477 : Index := 0#32
  ![v2148.toNat, 0]

def k0_chk239 (v2147 : BitVec 32) : Prop :=
  (∀ a, (k0_off478 v2147) a + S1x128.size a ≤ S32000x128.size a)
theorem k0_off478_inb : ∀ (v2147 : BitVec 32) (k0_hw239 : k0_chk239 v2147), ∀ a, (k0_off478 v2147) a + S1x128.size a ≤ S32000x128.size a := fun v2147 k0_hw239 => k0_hw239

def k0_off479 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c239_i32 : BitVec 32 := 239#32
  let v2154 : BitVec 32 := Scalar.addi v2 c239_i32
  let v2155 : Index := Scalar.indexCast v2154
  ![v2155.toNat]
def k0_off480 (v2156 : BitVec 32) : Fin 2 → Nat :=
  let v2157 : Index := Scalar.indexCast v2156
  let c0_479 : Index := 0#32
  ![v2157.toNat, 0]

def k0_chk240 (v2156 : BitVec 32) : Prop :=
  (∀ a, (k0_off480 v2156) a + S1x128.size a ≤ S32000x128.size a)
theorem k0_off480_inb : ∀ (v2156 : BitVec 32) (k0_hw240 : k0_chk240 v2156), ∀ a, (k0_off480 v2156) a + S1x128.size a ≤ S32000x128.size a := fun v2156 k0_hw240 => k0_hw240

def k0_off481 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c240_i32 : BitVec 32 := 240#32
  let v2163 : BitVec 32 := Scalar.addi v2 c240_i32
  let v2164 : Index := Scalar.indexCast v2163
  ![v2164.toNat]
def k0_off482 (v2165 : BitVec 32) : Fin 2 → Nat :=
  let v2166 : Index := Scalar.indexCast v2165
  let c0_481 : Index := 0#32
  ![v2166.toNat, 0]

def k0_chk241 (v2165 : BitVec 32) : Prop :=
  (∀ a, (k0_off482 v2165) a + S1x128.size a ≤ S32000x128.size a)
theorem k0_off482_inb : ∀ (v2165 : BitVec 32) (k0_hw241 : k0_chk241 v2165), ∀ a, (k0_off482 v2165) a + S1x128.size a ≤ S32000x128.size a := fun v2165 k0_hw241 => k0_hw241

def k0_off483 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c241_i32 : BitVec 32 := 241#32
  let v2172 : BitVec 32 := Scalar.addi v2 c241_i32
  let v2173 : Index := Scalar.indexCast v2172
  ![v2173.toNat]
def k0_off484 (v2174 : BitVec 32) : Fin 2 → Nat :=
  let v2175 : Index := Scalar.indexCast v2174
  let c0_483 : Index := 0#32
  ![v2175.toNat, 0]

def k0_chk242 (v2174 : BitVec 32) : Prop :=
  (∀ a, (k0_off484 v2174) a + S1x128.size a ≤ S32000x128.size a)
theorem k0_off484_inb : ∀ (v2174 : BitVec 32) (k0_hw242 : k0_chk242 v2174), ∀ a, (k0_off484 v2174) a + S1x128.size a ≤ S32000x128.size a := fun v2174 k0_hw242 => k0_hw242

def k0_off485 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c242_i32 : BitVec 32 := 242#32
  let v2181 : BitVec 32 := Scalar.addi v2 c242_i32
  let v2182 : Index := Scalar.indexCast v2181
  ![v2182.toNat]
def k0_off486 (v2183 : BitVec 32) : Fin 2 → Nat :=
  let v2184 : Index := Scalar.indexCast v2183
  let c0_485 : Index := 0#32
  ![v2184.toNat, 0]

def k0_chk243 (v2183 : BitVec 32) : Prop :=
  (∀ a, (k0_off486 v2183) a + S1x128.size a ≤ S32000x128.size a)
theorem k0_off486_inb : ∀ (v2183 : BitVec 32) (k0_hw243 : k0_chk243 v2183), ∀ a, (k0_off486 v2183) a + S1x128.size a ≤ S32000x128.size a := fun v2183 k0_hw243 => k0_hw243

def k0_off487 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c243_i32 : BitVec 32 := 243#32
  let v2190 : BitVec 32 := Scalar.addi v2 c243_i32
  let v2191 : Index := Scalar.indexCast v2190
  ![v2191.toNat]
def k0_off488 (v2192 : BitVec 32) : Fin 2 → Nat :=
  let v2193 : Index := Scalar.indexCast v2192
  let c0_487 : Index := 0#32
  ![v2193.toNat, 0]

def k0_chk244 (v2192 : BitVec 32) : Prop :=
  (∀ a, (k0_off488 v2192) a + S1x128.size a ≤ S32000x128.size a)
theorem k0_off488_inb : ∀ (v2192 : BitVec 32) (k0_hw244 : k0_chk244 v2192), ∀ a, (k0_off488 v2192) a + S1x128.size a ≤ S32000x128.size a := fun v2192 k0_hw244 => k0_hw244

def k0_off489 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c244_i32 : BitVec 32 := 244#32
  let v2199 : BitVec 32 := Scalar.addi v2 c244_i32
  let v2200 : Index := Scalar.indexCast v2199
  ![v2200.toNat]
def k0_off490 (v2201 : BitVec 32) : Fin 2 → Nat :=
  let v2202 : Index := Scalar.indexCast v2201
  let c0_489 : Index := 0#32
  ![v2202.toNat, 0]

def k0_chk245 (v2201 : BitVec 32) : Prop :=
  (∀ a, (k0_off490 v2201) a + S1x128.size a ≤ S32000x128.size a)
theorem k0_off490_inb : ∀ (v2201 : BitVec 32) (k0_hw245 : k0_chk245 v2201), ∀ a, (k0_off490 v2201) a + S1x128.size a ≤ S32000x128.size a := fun v2201 k0_hw245 => k0_hw245

def k0_off491 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c245_i32 : BitVec 32 := 245#32
  let v2208 : BitVec 32 := Scalar.addi v2 c245_i32
  let v2209 : Index := Scalar.indexCast v2208
  ![v2209.toNat]
def k0_off492 (v2210 : BitVec 32) : Fin 2 → Nat :=
  let v2211 : Index := Scalar.indexCast v2210
  let c0_491 : Index := 0#32
  ![v2211.toNat, 0]

def k0_chk246 (v2210 : BitVec 32) : Prop :=
  (∀ a, (k0_off492 v2210) a + S1x128.size a ≤ S32000x128.size a)
theorem k0_off492_inb : ∀ (v2210 : BitVec 32) (k0_hw246 : k0_chk246 v2210), ∀ a, (k0_off492 v2210) a + S1x128.size a ≤ S32000x128.size a := fun v2210 k0_hw246 => k0_hw246

def k0_off493 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c246_i32 : BitVec 32 := 246#32
  let v2217 : BitVec 32 := Scalar.addi v2 c246_i32
  let v2218 : Index := Scalar.indexCast v2217
  ![v2218.toNat]
def k0_off494 (v2219 : BitVec 32) : Fin 2 → Nat :=
  let v2220 : Index := Scalar.indexCast v2219
  let c0_493 : Index := 0#32
  ![v2220.toNat, 0]

def k0_chk247 (v2219 : BitVec 32) : Prop :=
  (∀ a, (k0_off494 v2219) a + S1x128.size a ≤ S32000x128.size a)
theorem k0_off494_inb : ∀ (v2219 : BitVec 32) (k0_hw247 : k0_chk247 v2219), ∀ a, (k0_off494 v2219) a + S1x128.size a ≤ S32000x128.size a := fun v2219 k0_hw247 => k0_hw247

def k0_off495 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c247_i32 : BitVec 32 := 247#32
  let v2226 : BitVec 32 := Scalar.addi v2 c247_i32
  let v2227 : Index := Scalar.indexCast v2226
  ![v2227.toNat]
def k0_off496 (v2228 : BitVec 32) : Fin 2 → Nat :=
  let v2229 : Index := Scalar.indexCast v2228
  let c0_495 : Index := 0#32
  ![v2229.toNat, 0]

def k0_chk248 (v2228 : BitVec 32) : Prop :=
  (∀ a, (k0_off496 v2228) a + S1x128.size a ≤ S32000x128.size a)
theorem k0_off496_inb : ∀ (v2228 : BitVec 32) (k0_hw248 : k0_chk248 v2228), ∀ a, (k0_off496 v2228) a + S1x128.size a ≤ S32000x128.size a := fun v2228 k0_hw248 => k0_hw248

def k0_off497 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c248_i32 : BitVec 32 := 248#32
  let v2235 : BitVec 32 := Scalar.addi v2 c248_i32
  let v2236 : Index := Scalar.indexCast v2235
  ![v2236.toNat]
def k0_off498 (v2237 : BitVec 32) : Fin 2 → Nat :=
  let v2238 : Index := Scalar.indexCast v2237
  let c0_497 : Index := 0#32
  ![v2238.toNat, 0]

def k0_chk249 (v2237 : BitVec 32) : Prop :=
  (∀ a, (k0_off498 v2237) a + S1x128.size a ≤ S32000x128.size a)
theorem k0_off498_inb : ∀ (v2237 : BitVec 32) (k0_hw249 : k0_chk249 v2237), ∀ a, (k0_off498 v2237) a + S1x128.size a ≤ S32000x128.size a := fun v2237 k0_hw249 => k0_hw249

def k0_off499 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c249_i32 : BitVec 32 := 249#32
  let v2244 : BitVec 32 := Scalar.addi v2 c249_i32
  let v2245 : Index := Scalar.indexCast v2244
  ![v2245.toNat]
def k0_off500 (v2246 : BitVec 32) : Fin 2 → Nat :=
  let v2247 : Index := Scalar.indexCast v2246
  let c0_499 : Index := 0#32
  ![v2247.toNat, 0]

def k0_chk250 (v2246 : BitVec 32) : Prop :=
  (∀ a, (k0_off500 v2246) a + S1x128.size a ≤ S32000x128.size a)
theorem k0_off500_inb : ∀ (v2246 : BitVec 32) (k0_hw250 : k0_chk250 v2246), ∀ a, (k0_off500 v2246) a + S1x128.size a ≤ S32000x128.size a := fun v2246 k0_hw250 => k0_hw250

def k0_off501 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c250_i32 : BitVec 32 := 250#32
  let v2253 : BitVec 32 := Scalar.addi v2 c250_i32
  let v2254 : Index := Scalar.indexCast v2253
  ![v2254.toNat]
def k0_off502 (v2255 : BitVec 32) : Fin 2 → Nat :=
  let v2256 : Index := Scalar.indexCast v2255
  let c0_501 : Index := 0#32
  ![v2256.toNat, 0]

def k0_chk251 (v2255 : BitVec 32) : Prop :=
  (∀ a, (k0_off502 v2255) a + S1x128.size a ≤ S32000x128.size a)
theorem k0_off502_inb : ∀ (v2255 : BitVec 32) (k0_hw251 : k0_chk251 v2255), ∀ a, (k0_off502 v2255) a + S1x128.size a ≤ S32000x128.size a := fun v2255 k0_hw251 => k0_hw251

def k0_off503 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c251_i32 : BitVec 32 := 251#32
  let v2262 : BitVec 32 := Scalar.addi v2 c251_i32
  let v2263 : Index := Scalar.indexCast v2262
  ![v2263.toNat]
def k0_off504 (v2264 : BitVec 32) : Fin 2 → Nat :=
  let v2265 : Index := Scalar.indexCast v2264
  let c0_503 : Index := 0#32
  ![v2265.toNat, 0]

def k0_chk252 (v2264 : BitVec 32) : Prop :=
  (∀ a, (k0_off504 v2264) a + S1x128.size a ≤ S32000x128.size a)
theorem k0_off504_inb : ∀ (v2264 : BitVec 32) (k0_hw252 : k0_chk252 v2264), ∀ a, (k0_off504 v2264) a + S1x128.size a ≤ S32000x128.size a := fun v2264 k0_hw252 => k0_hw252

def k0_off505 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c252_i32 : BitVec 32 := 252#32
  let v2271 : BitVec 32 := Scalar.addi v2 c252_i32
  let v2272 : Index := Scalar.indexCast v2271
  ![v2272.toNat]
def k0_off506 (v2273 : BitVec 32) : Fin 2 → Nat :=
  let v2274 : Index := Scalar.indexCast v2273
  let c0_505 : Index := 0#32
  ![v2274.toNat, 0]

def k0_chk253 (v2273 : BitVec 32) : Prop :=
  (∀ a, (k0_off506 v2273) a + S1x128.size a ≤ S32000x128.size a)
theorem k0_off506_inb : ∀ (v2273 : BitVec 32) (k0_hw253 : k0_chk253 v2273), ∀ a, (k0_off506 v2273) a + S1x128.size a ≤ S32000x128.size a := fun v2273 k0_hw253 => k0_hw253

def k0_off507 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c253_i32 : BitVec 32 := 253#32
  let v2280 : BitVec 32 := Scalar.addi v2 c253_i32
  let v2281 : Index := Scalar.indexCast v2280
  ![v2281.toNat]
def k0_off508 (v2282 : BitVec 32) : Fin 2 → Nat :=
  let v2283 : Index := Scalar.indexCast v2282
  let c0_507 : Index := 0#32
  ![v2283.toNat, 0]

def k0_chk254 (v2282 : BitVec 32) : Prop :=
  (∀ a, (k0_off508 v2282) a + S1x128.size a ≤ S32000x128.size a)
theorem k0_off508_inb : ∀ (v2282 : BitVec 32) (k0_hw254 : k0_chk254 v2282), ∀ a, (k0_off508 v2282) a + S1x128.size a ≤ S32000x128.size a := fun v2282 k0_hw254 => k0_hw254

def k0_off509 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c254_i32 : BitVec 32 := 254#32
  let v2289 : BitVec 32 := Scalar.addi v2 c254_i32
  let v2290 : Index := Scalar.indexCast v2289
  ![v2290.toNat]
def k0_off510 (v2291 : BitVec 32) : Fin 2 → Nat :=
  let v2292 : Index := Scalar.indexCast v2291
  let c0_509 : Index := 0#32
  ![v2292.toNat, 0]

def k0_chk255 (v2291 : BitVec 32) : Prop :=
  (∀ a, (k0_off510 v2291) a + S1x128.size a ≤ S32000x128.size a)
theorem k0_off510_inb : ∀ (v2291 : BitVec 32) (k0_hw255 : k0_chk255 v2291), ∀ a, (k0_off510 v2291) a + S1x128.size a ≤ S32000x128.size a := fun v2291 k0_hw255 => k0_hw255

def k0_off511 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c256_i32 : BitVec 32 := 256#32
  let v2 : BitVec 32 := Scalar.muli v1 c256_i32
  let c255_i32 : BitVec 32 := 255#32
  let v2298 : BitVec 32 := Scalar.addi v2 c255_i32
  let v2299 : Index := Scalar.indexCast v2298
  ![v2299.toNat]
def k0_off512 (v2300 : BitVec 32) : Fin 2 → Nat :=
  let v2301 : Index := Scalar.indexCast v2300
  let c0_511 : Index := 0#32
  ![v2301.toNat, 0]

def k0_chk256 (v2300 : BitVec 32) : Prop :=
  (∀ a, (k0_off512 v2300) a + S1x128.size a ≤ S32000x128.size a)
theorem k0_off512_inb : ∀ (v2300 : BitVec 32) (k0_hw256 : k0_chk256 v2300), ∀ a, (k0_off512 v2300) a + S1x128.size a ≤ S32000x128.size a := fun v2300 k0_hw256 => k0_hw256

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S32768 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S32000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![2, 8], ![false, false]⟩

def k1_cond3 (i : grid1.Coords) : BitVec 1 :=
  let arg1 : BitVec 32 := BitVec.ofNat 32 (i 1).val
  let c7_i32_4207 : BitVec 32 := 7#32
  let v5651 : BitVec 1 := Scalar.cmpi .eq arg1 c7_i32_4207
  let v5652 : BitVec 32 := Scalar.extui v5651
  let c0_i32_4208 : BitVec 32 := 0#32
  let v5653 : BitVec 1 := Scalar.cmpi .ne v5652 c0_i32_4208
  v5653

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S32x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S32x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev grid2 : Pipeline.Grid := ⟨2, ![2, 5], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![c0_i32.toNat, v1.toNat]

def cc2_transform_4 (i : grid2.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![c0_i32.toNat, v1.toNat]

def cc2_transform_5 (i : grid2.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![c0_i32.toNat, v1.toNat]

abbrev stage2_0 : Fin 1 → Memref sig .tc .vmem S64x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S128x3200 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x3200 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S64x3200 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]
-- ==== KernelIdeal.lean ====
variable {F : FTy → Type} [FloatOps F] [Named F]
def κ : String → Option EReal := fun
  | "floor2" => some ((1 / 1000000000000 : ℝ) : EReal)
  | "vel2" => some ((1 / 100 : ℝ) : EReal)
  | _ => none
-- ==== Reference.lean ====
abbrev S64x512 : Shape := ⟨2, ![64, 512]⟩
abbrev S32000x128 : Shape := ⟨2, ![32000, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x32000 : Shape := ⟨2, ![128, 32000]⟩
abbrev S32000 : Shape := ⟨1, ![32000]⟩
abbrev S_ : Shape := ⟨0, ![]⟩
abbrev S64x512x1 : Shape := ⟨3, ![64, 512, 1]⟩
abbrev S64x512x128 : Shape := ⟨3, ![64, 512, 128]⟩
abbrev S64x512x256 : Shape := ⟨3, ![64, 512, 256]⟩
abbrev S1x1x256 : Shape := ⟨3, ![1, 1, 256]⟩
abbrev S1x1x128 : Shape := ⟨3, ![1, 1, 128]⟩
abbrev S64x511x128 : Shape := ⟨3, ![64, 511, 128]⟩
abbrev S511x64x128 : Shape := ⟨3, ![511, 64, 128]⟩
abbrev S64x128x128 : Shape := ⟨3, ![64, 128, 128]⟩
abbrev S64x128 : Shape := ⟨2, ![64, 128]⟩
abbrev S1x64x128 : Shape := ⟨3, ![1, 64, 128]⟩
abbrev S64 : Shape := ⟨1, ![64]⟩
abbrev S64x1 : Shape := ⟨2, ![64, 1]⟩
abbrev S64x128x1 : Shape := ⟨3, ![64, 128, 1]⟩
abbrev S64x1x128 : Shape := ⟨3, ![64, 1, 128]⟩
abbrev S64x1x1 : Shape := ⟨3, ![64, 1, 1]⟩
abbrev S1x128 : Shape := ⟨2, ![1, 128]⟩
abbrev S64x32000 : Shape := ⟨2, ![64, 32000]⟩
abbrev S1x32000 : Shape := ⟨2, ![1, 32000]⟩

abbrev nBuf : Space → Nat
  | .hbm => 152
  | .vmem => 0
  | .smem => 0
  | _ => 0

abbrev hbmTy0_0 (i : Nat) : BufTy := match i % 128 with
  | 0 => ⟨S64x512, .i32⟩
  | 1 => ⟨S32000x128, .f32⟩
  | 2 => ⟨S128x256, .f32⟩
  | 3 => ⟨S256, .f32⟩
  | 4 => ⟨S256x128, .f32⟩
  | 5 => ⟨S128, .f32⟩
  | 6 => ⟨S128, .f32⟩
  | 7 => ⟨S128, .f32⟩
  | 8 => ⟨S128x128, .f32⟩
  | 9 => ⟨S128x128, .f32⟩
  | 10 => ⟨S128, .f32⟩
  | 11 => ⟨S128x32000, .f32⟩
  | 12 => ⟨S32000, .f32⟩
  | 13 => ⟨S_, .i32⟩
  | 14 => ⟨S64x512, .i32⟩
  | 15 => ⟨S64x512, .i1⟩
  | 16 => ⟨S_, .i32⟩
  | 17 => ⟨S64x512, .i32⟩
  | 18 => ⟨S64x512, .i32⟩
  | 19 => ⟨S64x512, .i32⟩
  | 20 => ⟨S64x512x1, .i32⟩
  | 21 => ⟨S64x512x128, .f32⟩
  | 22 => ⟨S64x512x256, .f32⟩
  | 23 => ⟨S1x1x256, .f32⟩
  | 24 => ⟨S64x512x256, .f32⟩
  | 25 => ⟨S64x512x256, .f32⟩
  | 26 => ⟨S_, .f32⟩
  | 27 => ⟨S64x512x256, .f32⟩
  | 28 => ⟨S64x512x256, .f32⟩
  | 29 => ⟨S64x512x128, .f32⟩
  | 30 => ⟨S1x1x128, .f32⟩
  | 31 => ⟨S64x512x128, .f32⟩
  | 32 => ⟨S64x512x128, .f32⟩
  | 33 => ⟨S64x512x128, .f32⟩
  | 34 => ⟨S_, .f32⟩
  | 35 => ⟨S64x512, .f32⟩
  | 36 => ⟨S64x512x1, .f32⟩
  | 37 => ⟨S_, .f32⟩
  | 38 => ⟨S64x512x1, .f32⟩
  | 39 => ⟨S64x512x1, .f32⟩
  | 40 => ⟨S_, .i32⟩
  | 41 => ⟨S_, .f32⟩
  | 42 => ⟨S64x512, .f32⟩
  | 43 => ⟨S64x512x1, .f32⟩
  | 44 => ⟨S_, .f32⟩
  | 45 => ⟨S64x512x1, .f32⟩
  | 46 => ⟨S64x512x1, .f32⟩
  | 47 => ⟨S64x512x128, .f32⟩
  | 48 => ⟨S64x512x128, .f32⟩
  | 49 => ⟨S64x512x128, .f32⟩
  | 50 => ⟨S_, .f32⟩
  | 51 => ⟨S_, .f32⟩
  | 52 => ⟨S_, .f32⟩
  | 53 => ⟨S_, .f32⟩
  | 54 => ⟨S64x512, .f32⟩
  | 55 => ⟨S64x512x1, .f32⟩
  | 56 => ⟨S64x512x1, .f32⟩
  | 57 => ⟨S64x512x1, .f32⟩
  | 58 => ⟨S_, .f32⟩
  | 59 => ⟨S_, .i1⟩
  | 60 => ⟨S_, .f32⟩
  | 61 => ⟨S_, .f32⟩
  | 62 => ⟨S64x512x1, .f32⟩
  | 63 => ⟨S64x512x1, .f32⟩
  | 64 => ⟨S64x512x128, .f32⟩
  | 65 => ⟨S64x512x128, .f32⟩
  | 66 => ⟨S_, .f32⟩
  | 67 => ⟨S64x512x1, .f32⟩
  | 68 => ⟨S64x512x1, .f32⟩
  | 69 => ⟨S64x512x1, .f32⟩
  | 70 => ⟨S64x512x128, .f32⟩
  | 71 => ⟨S64x512x128, .f32⟩
  | 72 => ⟨S1x1x128, .f32⟩
  | 73 => ⟨S64x512x128, .f32⟩
  | 74 => ⟨S64x512x128, .f32⟩
  | 75 => ⟨S1x1x128, .f32⟩
  | 76 => ⟨S64x512x128, .f32⟩
  | 77 => ⟨S64x512x128, .f32⟩
  | 78 => ⟨S64x512x128, .f32⟩
  | 79 => ⟨S64x511x128, .f32⟩
  | 80 => ⟨S511x64x128, .f32⟩
  | 81 => ⟨S_, .f32⟩
  | 82 => ⟨S64x128x128, .f32⟩
  | 83 => ⟨S_, .f32⟩
  | 84 => ⟨S64x128, .f32⟩
  | 85 => ⟨S_, .i32⟩
  | 86 => ⟨S511x64x128, .f32⟩
  | 87 => ⟨S_, .i32⟩
  | 88 => ⟨S64x128x128, .f32⟩
  | 89 => ⟨S64x128, .f32⟩
  | 90 => ⟨S_, .i32⟩
  | 91 => ⟨S_, .i1⟩
  | 92 => ⟨S_, .i32⟩
  | 93 => ⟨S_, .i32⟩
  | 94 => ⟨S1x64x128, .f32⟩
  | 95 => ⟨S64x128, .f32⟩
  | 96 => ⟨S64x128, .f32⟩
  | 97 => ⟨S_, .f32⟩
  | 98 => ⟨S64, .f32⟩
  | 99 => ⟨S64x1, .f32⟩
  | 100 => ⟨S64x1, .f32⟩
  | 101 => ⟨S_, .f32⟩
  | 102 => ⟨S_, .f32⟩
  | 103 => ⟨S64x1, .f32⟩
  | 104 => ⟨S64x1, .f32⟩
  | 105 => ⟨S64x128, .f32⟩
  | 106 => ⟨S64x128, .f32⟩
  | 107 => ⟨S64x128, .f32⟩
  | 108 => ⟨S64x128, .f32⟩
  | 109 => ⟨S64x128x1, .f32⟩
  | 110 => ⟨S64x1x128, .f32⟩
  | 111 => ⟨S64x128x128, .f32⟩
  | 112 => ⟨S64x128x128, .f32⟩
  | 113 => ⟨S64x128x128, .f32⟩
  | 114 => ⟨S64x128, .f32⟩
  | 115 => ⟨S64x128, .f32⟩
  | 116 => ⟨S_, .f32⟩
  | 117 => ⟨S64, .f32⟩
  | 118 => ⟨S64, .f32⟩
  | 119 => ⟨S64x128, .f32⟩
  | 120 => ⟨S_, .f32⟩
  | 121 => ⟨S64, .f32⟩
  | 122 => ⟨S64, .f32⟩
  | 123 => ⟨S_, .f32⟩
  | 124 => ⟨S_, .f32⟩
  | 125 => ⟨S64, .f32⟩
  | 126 => ⟨S64, .f32⟩
  | 127 => ⟨S64, .f32⟩
  | _ => ⟨S64x512, .i32⟩

abbrev hbmTy0_1 (i : Nat) : BufTy := match i % 128 with
  | 0 => ⟨S_, .f32⟩
  | 1 => ⟨S64, .f32⟩
  | 2 => ⟨S64, .i1⟩
  | 3 => ⟨S64, .f32⟩
  | 4 => ⟨S64x1x1, .f32⟩
  | 5 => ⟨S_, .f32⟩
  | 6 => ⟨S64x1x1, .f32⟩
  | 7 => ⟨S64x1x1, .f32⟩
  | 8 => ⟨S64x128x128, .f32⟩
  | 9 => ⟨S64x128x128, .f32⟩
  | 10 => ⟨S64x128x128, .f32⟩
  | 11 => ⟨S_, .i32⟩
  | 12 => ⟨S_, .i32⟩
  | 13 => ⟨S64x1x128, .f32⟩
  | 14 => ⟨S64x128, .f32⟩
  | 15 => ⟨S64x128, .f32⟩
  | 16 => ⟨S64x128, .f32⟩
  | 17 => ⟨S1x128, .f32⟩
  | 18 => ⟨S64x128, .f32⟩
  | 19 => ⟨S64x128, .f32⟩
  | 20 => ⟨S64x32000, .f32⟩
  | 21 => ⟨S1x32000, .f32⟩
  | 22 => ⟨S64x32000, .f32⟩
  | 23 => ⟨S64x32000, .f32⟩
  | _ => ⟨S64x512, .i32⟩

abbrev hbmTy (i : Nat) : BufTy := match i / 128 with
  | 0 => hbmTy0_0 i
  | 1 => hbmTy0_1 i
  | _ => ⟨S64x512, .i32⟩

abbrev bufTy : (tb : Table) → Fin (tcTables nBuf tb) → BufTy
  | .hbm, ⟨i, _⟩ => hbmTy i
  | _, _ => ⟨S64x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call0_cst : Ref sig .tc := ⟨.hbm, 26, rfl⟩
abbrev main_call0_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_c_2 : Ref sig .tc := ⟨.hbm, 40, rfl⟩
abbrev main_call1_cst : Ref sig .tc := ⟨.hbm, 41, rfl⟩
abbrev main_call1_v0 : Ref sig .tc := ⟨.hbm, 42, rfl⟩
abbrev main_call1_v1 : Ref sig .tc := ⟨.hbm, 43, rfl⟩
abbrev main_call1_cst_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_cst_1 : Ref sig .tc := ⟨.hbm, 51, rfl⟩
abbrev main_call1_v8 : Ref sig .tc := ⟨.hbm, 52, rfl⟩
abbrev main_call1_cst_2 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_v12 : Ref sig .tc := ⟨.hbm, 57, rfl⟩
abbrev main_call1_cst_3 : Ref sig .tc := ⟨.hbm, 58, rfl⟩
abbrev main_call1_v13 : Ref sig .tc := ⟨.hbm, 59, rfl⟩
abbrev main_call1_cst_4 : Ref sig .tc := ⟨.hbm, 60, rfl⟩
abbrev main_call1_call0_v0 : Ref sig .tc := ⟨.hbm, 61, rfl⟩
abbrev main_call1_call0_v1 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_cst_3 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_cst_4 : Ref sig .tc := ⟨.hbm, 81, rfl⟩
abbrev main_v38 : Ref sig .tc := ⟨.hbm, 82, rfl⟩
abbrev main_cst_5 : Ref sig .tc := ⟨.hbm, 83, rfl⟩
abbrev main_v39 : Ref sig .tc := ⟨.hbm, 84, rfl⟩
abbrev main_c_6 : Ref sig .tc := ⟨.hbm, 85, rfl⟩
abbrev main_v40_0 : Ref sig .tc := ⟨.hbm, 86, rfl⟩
abbrev main_v40_1 : Ref sig .tc := ⟨.hbm, 87, rfl⟩
abbrev main_v40_2 : Ref sig .tc := ⟨.hbm, 88, rfl⟩
abbrev main_v40_3 : Ref sig .tc := ⟨.hbm, 89, rfl⟩
abbrev main_while0c_c_10 : Ref sig .tc := ⟨.hbm, 90, rfl⟩
abbrev main_while0c_v52 : Ref sig .tc := ⟨.hbm, 91, rfl⟩
abbrev main_while0b_call2_c : Ref sig .tc := ⟨.hbm, 92, rfl⟩
abbrev main_while0b_call2_c_0 : Ref sig .tc := ⟨.hbm, 93, rfl⟩
abbrev main_while0b_call2_v0 : Ref sig .tc := ⟨.hbm, 94, rfl⟩
abbrev main_while0b_v52 : Ref sig .tc := ⟨.hbm, 95, rfl⟩
abbrev main_while0b_call3_v0 : Ref sig .tc := ⟨.hbm, 96, rfl⟩
abbrev main_while0b_call3_cst : Ref sig .tc := ⟨.hbm, 97, rfl⟩
abbrev main_while0b_call3_v1 : Ref sig .tc := ⟨.hbm, 98, rfl⟩
abbrev main_while0b_call3_v2 : Ref sig .tc := ⟨.hbm, 99, rfl⟩
abbrev main_while0b_v53 : Ref sig .tc := ⟨.hbm, 100, rfl⟩
abbrev main_while0b_cst_10 : Ref sig .tc := ⟨.hbm, 101, rfl⟩
abbrev main_while0b_call4_v0 : Ref sig .tc := ⟨.hbm, 102, rfl⟩
abbrev main_while0b_call4_v1 : Ref sig .tc := ⟨.hbm, 103, rfl⟩
abbrev main_while0b_v54 : Ref sig .tc := ⟨.hbm, 104, rfl⟩
abbrev main_while0b_v55 : Ref sig .tc := ⟨.hbm, 105, rfl⟩
abbrev main_while0b_v56 : Ref sig .tc := ⟨.hbm, 106, rfl⟩
abbrev main_while0b_v57 : Ref sig .tc := ⟨.hbm, 107, rfl⟩
abbrev main_while0b_v58 : Ref sig .tc := ⟨.hbm, 108, rfl⟩
abbrev main_while0b_v59 : Ref sig .tc := ⟨.hbm, 109, rfl⟩
abbrev main_while0b_v60 : Ref sig .tc := ⟨.hbm, 110, rfl⟩
abbrev main_while0b_v61 : Ref sig .tc := ⟨.hbm, 111, rfl⟩
abbrev main_while0b_v62 : Ref sig .tc := ⟨.hbm, 112, rfl⟩
abbrev main_while0b_v63 : Ref sig .tc := ⟨.hbm, 113, rfl⟩
abbrev main_while0b_v64 : Ref sig .tc := ⟨.hbm, 114, rfl⟩
abbrev main_while0b_call5_v0 : Ref sig .tc := ⟨.hbm, 115, rfl⟩
abbrev main_while0b_call5_cst : Ref sig .tc := ⟨.hbm, 116, rfl⟩
abbrev main_while0b_call5_v1 : Ref sig .tc := ⟨.hbm, 117, rfl⟩
abbrev main_while0b_v65 : Ref sig .tc := ⟨.hbm, 118, rfl⟩
abbrev main_while0b_call6_v0 : Ref sig .tc := ⟨.hbm, 119, rfl⟩
abbrev main_while0b_call6_cst : Ref sig .tc := ⟨.hbm, 120, rfl⟩
abbrev main_while0b_call6_v1 : Ref sig .tc := ⟨.hbm, 121, rfl⟩
abbrev main_while0b_v66 : Ref sig .tc := ⟨.hbm, 122, rfl⟩
abbrev main_while0b_cst_11 : Ref sig .tc := ⟨.hbm, 123, rfl⟩
abbrev main_while0b_call7_v0 : Ref sig .tc := ⟨.hbm, 124, rfl⟩
abbrev main_while0b_call7_v1 : Ref sig .tc := ⟨.hbm, 125, rfl⟩
abbrev main_while0b_v67 : Ref sig .tc := ⟨.hbm, 126, rfl⟩
abbrev main_while0b_v68 : Ref sig .tc := ⟨.hbm, 127, rfl⟩
abbrev main_while0b_cst_12 : Ref sig .tc := ⟨.hbm, 128, rfl⟩
abbrev main_while0b_v69 : Ref sig .tc := ⟨.hbm, 129, rfl⟩
abbrev main_while0b_v70 : Ref sig .tc := ⟨.hbm, 130, rfl⟩
abbrev main_while0b_v71 : Ref sig .tc := ⟨.hbm, 131, rfl⟩
abbrev main_while0b_v72 : Ref sig .tc := ⟨.hbm, 132, rfl⟩
abbrev main_while0b_cst_13 : Ref sig .tc := ⟨.hbm, 133, rfl⟩
abbrev main_while0b_v73 : Ref sig .tc := ⟨.hbm, 134, rfl⟩
abbrev main_while0b_v74 : Ref sig .tc := ⟨.hbm, 135, rfl⟩
abbrev main_while0b_v75 : Ref sig .tc := ⟨.hbm, 136, rfl⟩
abbrev main_while0b_v76 : Ref sig .tc := ⟨.hbm, 137, rfl⟩
abbrev main_while0b_v77 : Ref sig .tc := ⟨.hbm, 138, rfl⟩
abbrev main_while0b_c_14 : Ref sig .tc := ⟨.hbm, 139, rfl⟩
abbrev main_while0b_v78 : Ref sig .tc := ⟨.hbm, 140, rfl⟩
abbrev main_v41 : Ref sig .tc := ⟨.hbm, 141, rfl⟩
abbrev main_v42 : Ref sig .tc := ⟨.hbm, 142, rfl⟩
abbrev main_v43 : Ref sig .tc := ⟨.hbm, 143, rfl⟩
abbrev main_v44 : Ref sig .tc := ⟨.hbm, 144, rfl⟩
abbrev main_v45 : Ref sig .tc := ⟨.hbm, 145, rfl⟩
abbrev main_v46 : Ref sig .tc := ⟨.hbm, 146, rfl⟩
abbrev main_v47 : Ref sig .tc := ⟨.hbm, 147, rfl⟩
abbrev main_v48 : Ref sig .tc := ⟨.hbm, 148, rfl⟩
abbrev main_v49 : Ref sig .tc := ⟨.hbm, 149, rfl⟩
abbrev main_v50 : Ref sig .tc := ⟨.hbm, 150, rfl⟩
abbrev main_v51 : Ref sig .tc := ⟨.hbm, 151, rfl⟩

abbrev nD : Nat := 1
abbrev τ : Topo := Topo.v7x

variable {F : FTy → Type} [FloatOps F]

abbrev main_while0_count : Scf.Loop 32 := ⟨0#32, 511#32, 1#32⟩
-- ==== Proof.Body.lean ====
/-
  A small language for the bodies of the three kernels. A command loads windows of a fixed family of
  buffers, stores windows, reads one word of scalar memory and assumes a proposition. It has two readings:
  `toProg`, the machine program that performs it on given memrefs, and `run`, a plain function on the contents of
  the buffers. `wp_toProg` says once and for all that the machine program does what the function says; everything
  else about a body is then a statement about a function.
-/
module

public import Idealize.ShloMosaic.Lib.VecWindow
public import Idealize.ShloMosaic.Lib.Tactic
public import Idealize.ShloMosaic.Lib.Pipeline.Kit

@[expose] public section

noncomputable section

namespace Cert.Proof.Body

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-- A family of `n` buffers: of each its space, its shape and its element type. -/
structure Bank (n : ℕ) where
  sp : Fin n → CoreSpace
  shp : Fin n → Shape
  el : Fin n → EltTy

variable {n : ℕ} {B : Bank n} {Val : EltTy → Type} {α β : Type}

/-- The contents of a family's buffers. -/
abbrev State (B : Bank n) (Val : EltTy → Type) : Type := (j : Fin n) → (B.shp j).Idx → Val (B.el j)

/-- Commands over a family of buffers. -/
inductive Cmd (B : Bank n) (Val : EltTy → Type) (α : Type) : Type 1
  | ret (a : α) : Cmd B Val α
  | load (j : Fin n) (off size : Fin (B.shp j).rank → ℕ) (inb : ∀ a, off a + size a ≤ (B.shp j).size a)
      (hv : B.sp j = .vmem) (hp : 0 < (Rect.unit off size inb).shape.numel)
      (k : ((Rect.unit off size inb).shape.Idx → Val (B.el j)) → Cmd B Val α) : Cmd B Val α
  | store (j : Fin n) (off size : Fin (B.shp j).rank → ℕ) (inb : ∀ a, off a + size a ≤ (B.shp j).size a)
      (hv : B.sp j = .vmem) (hp : 0 < (Rect.unit off size inb).shape.numel) (he : (B.el j).bits = 32)
      (w : (Rect.unit off size inb).shape.Idx → Val (B.el j)) (k : Cmd B Val α) : Cmd B Val α
  | word (j : Fin n) (off size : Fin (B.shp j).rank → ℕ) (inb : ∀ a, off a + size a ≤ (B.shp j).size a)
      (hs : B.sp j = .smem) (h1 : (Rect.unit off size inb).shape.numel = 1) (hp : (B.el j).packing = 1)
      (k : Val (B.el j) → Cmd B Val α) : Cmd B Val α
  | assume (P : Prop) (dec : Decidable P) (k : P → Cmd B Val α) : Cmd B Val α
  | cond (P : Prop) (dec : Decidable P) (t e : Cmd B Val α) : Cmd B Val α

namespace Cmd

/-- One command after another. -/
def bind : Cmd B Val α → (α → Cmd B Val β) → Cmd B Val β
  | .ret a, f => f a
  | .load j off size inb hv hp k, f => .load j off size inb hv hp fun x => (k x).bind f
  | .store j off size inb hv hp he w k, f => .store j off size inb hv hp he w (k.bind f)
  | .word j off size inb hs h1 hp k, f => .word j off size inb hs h1 hp fun x => (k x).bind f
  | .assume P dec k, f => .assume P dec fun h => (k h).bind f
  | .cond P dec t e, f => .cond P dec (t.bind f) (e.bind f)

instance : Monad (Cmd B Val) where
  pure := .ret
  bind := .bind

/-- Load one window. -/
abbrev ld (j : Fin n) (off size : Fin (B.shp j).rank → ℕ) (inb : ∀ a, off a + size a ≤ (B.shp j).size a)
    (hp : 0 < (Rect.unit off size inb).shape.numel) (hv : B.sp j = .vmem := by rfl) :
    Cmd B Val ((Rect.unit off size inb).shape.Idx → Val (B.el j)) := .load j off size inb hv hp .ret

/-- Store one window. -/
abbrev st (j : Fin n) (off size : Fin (B.shp j).rank → ℕ) (inb : ∀ a, off a + size a ≤ (B.shp j).size a)
    (hp : 0 < (Rect.unit off size inb).shape.numel) (w : (Rect.unit off size inb).shape.Idx → Val (B.el j))
    (hv : B.sp j = .vmem := by rfl) (he : (B.el j).bits = 32 := by rfl) : Cmd B Val PUnit :=
  .store j off size inb hv hp he w (.ret ⟨⟩)

/-- Load the one word of a window of one element. -/
abbrev wd (j : Fin n) (off size : Fin (B.shp j).rank → ℕ) (inb : ∀ a, off a + size a ≤ (B.shp j).size a)
    (h1 : (Rect.unit off size inb).shape.numel = 1) (hs : B.sp j = .smem := by rfl) (hp : (B.el j).packing = 1 := by rfl) :
    Cmd B Val (Val (B.el j)) := .word j off size inb hs h1 hp .ret

/-- `f` at `k`, `k + 1`, …, `m` of them below `N`, a value carried along. -/
def iter (N : ℕ) (f : (k : ℕ) → k < N → α → Cmd B Val α) : (m k : ℕ) → k + m ≤ N → α → Cmd B Val α
  | 0, _, _, a => .ret a
  | m + 1, k, h, a => (f k (by omega) a).bind (iter N f m (k + 1) (by omega))

/-- `f` at every number from `k` on and below `N`. -/
abbrev loop (N : ℕ) (f : (k : ℕ) → k < N → α → Cmd B Val α) (a : α) : Cmd B Val α := iter N f N 0 (by omega) a

/-- What a command does to the contents, and its value; nothing when it assumes something false. -/
def run : Cmd B Val α → State B Val → Option (α × State B Val)
  | .ret a, s => some (a, s)
  | .load j off size inb _ _ k, s => (k (VecWindow.window (s j) off size inb)).run s
  | .store j off size _ _ _ _ w k, s => k.run (Function.update s j (VecWindow.put (s j) off size w))
  | .word j off size inb _ h1 _ k, s =>
      (k (VecWindow.window (s j) off size inb (Shape.Idx.first (h1.symm ▸ Nat.one_pos)))).run s
  | .assume P dec k, s => if h : P then (k h).run s else none
  | .cond P dec t e, s => if P then t.run s else e.run s

/-- A command followed by another runs as the first and then the second from what the first leaves. -/
theorem run_bind (p : Cmd B Val α) (f : α → Cmd B Val β) (s : State B Val) :
    (p.bind f).run s = (p.run s).bind fun r => (f r.1).run r.2 := by
  induction p generalizing s with
  | ret a => rfl
  | load j off size inb hv hp k ih => exact ih _ _
  | store j off size inb hv hp he w k ih => exact ih _
  | word j off size inb hs h1 hp k ih => exact ih _ _
  | assume P dec k ih =>
    show (if h : P then ((k h).bind f).run s else none) = (if h : P then (k h).run s else none).bind _
    by_cases h : P
    · rw [dif_pos h, dif_pos h]; exact ih h s
    · rw [dif_neg h, dif_neg h]; rfl
  | cond P dec t e iht ihe =>
    show (if P then (t.bind f).run s else (e.bind f).run s) = (if P then t.run s else e.run s).bind _
    split
    · exact iht s
    · exact ihe s

/-- `Does p s Q`: the command runs from `s` to its end, with `Q` of its value and the contents it leaves. -/
def Does (p : Cmd B Val α) (s : State B Val) (Q : α → State B Val → Prop) : Prop :=
  ∃ a s', p.run s = some (a, s') ∧ Q a s'

/-- A command that only returns. -/
theorem Does.ret {a : α} {s : State B Val} {Q : α → State B Val → Prop} (h : Q a s) : Does (.ret a) s Q := ⟨a, s, rfl, h⟩

/-- One command after the other. -/
theorem Does.bind {p : Cmd B Val α} {f : α → Cmd B Val β} {s : State B Val} {R : α → State B Val → Prop} {Q : β → State B Val → Prop}
    (h : Does p s R) (hf : ∀ a s', R a s' → Does (f a) s' Q) : Does (p.bind f) s Q := by
  obtain ⟨a, s', e, hR⟩ := h
  obtain ⟨b, s'', e', hQ⟩ := hf a s' hR
  exact ⟨b, s'', by rw [run_bind, e]; exact e', hQ⟩

/-- The conclusion may be weakened. -/
theorem Does.mono {p : Cmd B Val α} {s : State B Val} {R Q : α → State B Val → Prop} (h : Does p s R)
    (hQ : ∀ a s', R a s' → Q a s') : Does p s Q := by
  obtain ⟨a, s', e, hR⟩ := h
  exact ⟨a, s', e, hQ a s' hR⟩

/-- A read gives the window of the contents. -/
theorem Does.load {j : Fin n} {off size : Fin (B.shp j).rank → ℕ} {inb : ∀ a, off a + size a ≤ (B.shp j).size a} {hv : B.sp j = .vmem}
    {hp : 0 < (Rect.unit off size inb).shape.numel} {k : ((Rect.unit off size inb).shape.Idx → Val (B.el j)) → Cmd B Val α}
    {s : State B Val} {Q : α → State B Val → Prop} (h : Does (k (VecWindow.window (s j) off size inb)) s Q) :
    Does (.load j off size inb hv hp k) s Q := h

/-- A write puts its value into the window. -/
theorem Does.store {j : Fin n} {off size : Fin (B.shp j).rank → ℕ} {inb : ∀ a, off a + size a ≤ (B.shp j).size a} {hv : B.sp j = .vmem}
    {hp : 0 < (Rect.unit off size inb).shape.numel} {he : (B.el j).bits = 32} {w : (Rect.unit off size inb).shape.Idx → Val (B.el j)}
    {k : Cmd B Val α} {s : State B Val} {Q : α → State B Val → Prop}
    (h : Does k (Function.update s j (VecWindow.put (s j) off size w)) Q) :
    Does (.store j off size inb hv hp he w k) s Q := h

/-- A read of one word gives that element. -/
theorem Does.word {j : Fin n} {off size : Fin (B.shp j).rank → ℕ} {inb : ∀ a, off a + size a ≤ (B.shp j).size a} {hs : B.sp j = .smem}
    {h1 : (Rect.unit off size inb).shape.numel = 1} {hp : (B.el j).packing = 1} {k : Val (B.el j) → Cmd B Val α}
    {s : State B Val} {Q : α → State B Val → Prop}
    (h : Does (k (VecWindow.window (s j) off size inb (Shape.Idx.first (h1.symm ▸ Nat.one_pos)))) s Q) :
    Does (.word j off size inb hs h1 hp k) s Q := h

/-- A condition that holds may be assumed. -/
theorem Does.assume {P : Prop} {dec : Decidable P} {k : P → Cmd B Val α} {s : State B Val} {Q : α → State B Val → Prop} (hP : P)
    (h : Does (k hP) s Q) : Does (.assume P dec k) s Q := by
  obtain ⟨a, s', e, hQ⟩ := h
  exact ⟨a, s', (dif_pos hP).trans e, hQ⟩

/-- A branch: the side that is taken does it. -/
theorem Does.cond {P : Prop} {dec : Decidable P} {t e : Cmd B Val α} {s : State B Val} {Q : α → State B Val → Prop}
    (ht : P → Does t s Q) (he : ¬P → Does e s Q) : Does (.cond P dec t e) s Q := by
  by_cases hP : P
  · obtain ⟨a, s', e, hQ⟩ := ht hP
    exact ⟨a, s', (if_pos hP).trans e, hQ⟩
  · obtain ⟨a, s', e, hQ⟩ := he hP
    exact ⟨a, s', (if_neg hP).trans e, hQ⟩

/-- A loop keeps an invariant that each of its turns keeps. -/
theorem Does.iter {N : ℕ} {f : (k : ℕ) → k < N → α → Cmd B Val α} (I : ℕ → α → State B Val → Prop)
    (hstep : ∀ (i : ℕ) (hi : i < N) a s, I i a s → Does (f i hi a) s (I (i + 1))) :
    ∀ (m k : ℕ) (hk : k + m ≤ N) (a : α) (s : State B Val), I k a s → Does (iter N f m k hk a) s (I (k + m))
  | 0, k, _, a, s, h => Does.ret h
  | m + 1, k, hk, a, s, h => by
    refine Does.bind (hstep k (by omega) a s h) fun a' s' h' => ?_
    have e : k + 1 + m = k + (m + 1) := by omega
    exact (Does.iter I hstep m (k + 1) (by omega) a' s' h').mono fun b t hb => e ▸ hb

/-- A loop from the start to its bound. -/
theorem Does.loop {N : ℕ} {f : (k : ℕ) → k < N → α → Cmd B Val α} (I : ℕ → α → State B Val → Prop) {a : α} {s : State B Val}
    {Q : α → State B Val → Prop} (h0 : I 0 a s)
    (hstep : ∀ (i : ℕ) (hi : i < N) a s, I i a s → Does (f i hi a) s (I (i + 1))) (hQ : ∀ a s, I N a s → Q a s) :
    Does (loop N f a) s Q :=
  (by simpa using Does.iter I hstep N 0 (by omega) a s h0 : Does (Cmd.loop N f a) s (I N)).mono hQ

end Cmd

/-! ## The machine program of a command -/

section Machine

variable {nD : Nat} {τ : Topo} {sig : RefSig} {Λ : Labels}

/-- Memrefs of the family's spaces, shapes and element types. -/
abbrev Mems (B : Bank n) (sig : RefSig) : Type := (j : Fin n) → Memref sig .tc (B.sp j) (B.shp j) (B.el j)

/-- A window in vector memory can be read. -/
theorem loadsAt_of {cs : CoreSpace} {s : Shape} {e : EltTy} (v : View sig .tc cs s e) (r : LoadRect s) (hv : cs = .vmem)
    (hp : 0 < r.shape.numel) : v.LoadsAt r := by subst hv; exact View.loadsAt_vmem hp

/-- Words of 32 bits can be written to vector memory. -/
theorem stores_of {cs : CoreSpace} {s : Shape} {e : EltTy} (v : View sig .tc cs s e) (hv : cs = .vmem)
    (hp : 0 < s.numel) (he : e.bits = 32) : v.Stores Finset.univ := by subst hv; exact View.stores_vmem_bits_univ hp he

/-- One word of scalar memory can be read. -/
theorem loads_word_of {cs : CoreSpace} {s : Shape} {e : EltTy} (v : View sig .tc cs s e) (r : Rect s) (hs : cs = .smem)
    (hp : e.packing = 1) (h1 : r.shape.numel = 1) : v.LoadsAt r.toLoadRect := by
  subst hs; exact View.loadsAt_rect (View.loads_smem_one hp h1)

/-- The machine program that performs a command on given memrefs. -/
def Cmd.toProg (m : Mems B sig) : Cmd B Val α → Prog (TpuEff nD τ sig Val Λ .tc) α
  | .ret a => .ret a
  | .load j off size inb hv hp k =>
      .op (.load (m j) (Rect.unit off size inb).toLoadRect (loadsAt_of _ _ hv hp)) fun x => (k x).toProg m
  | .store j off size inb hv hp he w k =>
      .op (.store (m j) (Rect.unit off size inb) w Finset.univ (stores_of _ hv hp he) (.inl rfl)) fun _ => k.toProg m
  | .word j off size inb hs h1 hp k =>
      .op (.load (m j) (Rect.unit off size inb).toLoadRect (loads_word_of _ _ hs hp h1)) fun x =>
        (k (x (Shape.Idx.first (h1.symm ▸ Nat.one_pos)))).toProg m
  | .assume P dec k => .op (.assume P dec) fun h => (k h.down).toProg m
  | .cond P dec t e => @dite _ P dec (fun _ => t.toProg m) (fun _ => e.toProg m)

variable {Ix : Type} [DecidableEq Ix] {Name : Type} [DecidableEq Name]
variable {U : Type} [URA U] {Lvl : Type} [Preorder Lvl] {defs : Defs nD τ sig Val Λ} (𝒱 : Variants) (c : Dev nD) (bd : Option 𝒱.V) (E : Set Name)

local notation "𝕄" => MT nD τ sig Ix Val Name U Lvl

variable [∀ e, Nonempty (Val e)]

/-- One buffer held whole at given contents. -/
abbrev Hold {cs : CoreSpace} {s : Shape} {e : EltTy} (m : Memref sig .tc cs s e) (x : s.Idx → Val e) : sProp 𝕄 :=
  m.view.loc (c : Thread nD τ) ↦[m.view.set]{fullShare} m.view.rep x

/-- All buffers of the family held at given contents. -/
def Own (m : Mems B sig) (s : State B Val) : sProp 𝕄 := bigSep Finset.univ fun j => Hold c (m j) (s j)

/-- Holding all buffers is holding one of them and the others. -/
theorem Own_split (m : Mems B sig) (s : State B Val) (j : Fin n) :
    (Own c m s : sProp 𝕄) = iprop(Hold c (m j) (s j) ∗ bigSep (Finset.univ.erase j) fun j => Hold c (m j) (s j)) :=
  bigSep_univ_split j

/-- The same with that one at new contents. -/
theorem Own_update (m : Mems B sig) (s : State B Val) (j : Fin n) (x : (B.shp j).Idx → Val (B.el j)) :
    (Own c m (Function.update s j x) : sProp 𝕄) = iprop(Hold c (m j) x ∗ bigSep (Finset.univ.erase j) fun j => Hold c (m j) (s j)) := by
  rw [Own_split c m _ j, Function.update_self]
  congr 1
  refine bigSep_congr fun i hi => ?_
  rw [Function.update_of_ne (Finset.ne_of_mem_erase hi)]

/-- The machine program of a command does what the command's function says. -/
theorem wp_toProg (m : Mems B sig) (p : Cmd B Val α) (Q : α → sProp 𝕄) : ∀ (s : State B Val) (a : α) (s' : State B Val), p.run s = some (a, s') →
    iprop(Own c m s ∗ (Own c m s' -∗ Q a)) ⊢ wp frame (wpE defs 𝒱 (c : Thread nD τ) bd) E (p.toProg m) Q := by
  induction p with
  | ret a0 =>
    intro s a s' h
    obtain ⟨rfl, rfl⟩ : a0 = a ∧ s = s' := by simpa [Cmd.run] using h
    unfold Cmd.toProg
    rw [wp_ret]
    iintro ⟨HO, HK⟩
    imodintro
    iapply HK
    iexact HO
  | load j off size inb hv hp k ih =>
    intro s a s' h
    have h' := ih _ s a s' h
    rw [Own_split c m s j] at h' ⊢
    unfold Cmd.toProg
    iintro ⟨⟨H, HO⟩, HK⟩
    iapply (wp_load 𝒱 (c : Thread nD τ) bd E (View.setOn_subset_set _ _)) $$ H
    iintro H
    rw [View.readAt_rep_unit (m j).view (s j) inb rfl inb]
    iapply h'
    isplitl [H HO]
    · isplitl [H] <;> iassumption
    iexact HK
  | store j off size inb hv hp he w k ih =>
    intro s a s' h
    have h' := ih _ a s' h
    rw [Own_update c m s j] at h'
    rw [Own_split c m s j]
    unfold Cmd.toProg
    iintro ⟨⟨H, HO⟩, HK⟩
    iapply (wp_store (m := m j) (r := Rect.unit off size inb) (w := w) (f := (m j).view.rep (s j)) (S := (m j).view.set) 𝒱 (c : Thread nD τ) bd E (by
      rw [View.setOn_univ]; exact View.set_slice_subset _ _)) $$ H
    iintro H
    ihave H := (show (((m j).access (Rect.unit off size inb)).loc (c : Thread nD τ) ↦[(m j).view.set]{fullShare}
        ((m j).access (Rect.unit off size inb)).write Val ((m j).view.rep (s j)) w Finset.univ : sProp 𝕄)
          ⊢ Hold c (m j) (VecWindow.put (s j) off size w) from
      pointsTo_rep_of_read (c : Thread nD τ) (m j) _ fullShare _ (View.read_writes_rep_unit (m j).view (s j) inb w rfl)) $$ H
    iapply h'
    isplitl [H HO]
    · isplitl [H] <;> iassumption
    iexact HK
  | word j off size inb hs h1 hp k ih =>
    intro s a s' h
    have h' := ih _ s a s' h
    rw [Own_split c m s j] at h' ⊢
    unfold Cmd.toProg
    iintro ⟨⟨H, HO⟩, HK⟩
    iapply (wp_load 𝒱 (c : Thread nD τ) bd E (View.setOn_subset_set _ _)) $$ H
    iintro H
    rw [View.readAt_rep_unit (m j).view (s j) inb rfl inb]
    iapply h'
    isplitl [H HO]
    · isplitl [H] <;> iassumption
    iexact HK
  | assume P dec k ih =>
    intro s a s' h
    by_cases hP : P
    · have h' := ih hP s a s' (by simpa [Cmd.run, hP] using h)
      unfold Cmd.toProg
      exact h'.trans (wp_assume (k := fun h => (k h.down).toProg m) 𝒱 (c : Thread nD τ) bd E hP)
    · simp [Cmd.run, hP] at h
  | cond P dec t e iht ihe =>
    intro s a s' h
    by_cases hP : P
    · rw [show (Cmd.cond P dec t e).toProg m = t.toProg m from dif_pos hP]
      exact iht s a s' (by simpa [Cmd.run, hP] using h)
    · rw [show (Cmd.cond P dec t e).toProg m = e.toProg m from dif_neg hP]
      exact ihe s a s' (by simpa [Cmd.run, hP] using h)

end Machine

end Cert.Proof.Body

end
-- ==== Proof.ScanBody.lean ====
/-
  The body of the gated scan, as a command over its eight buffers: the keys of one chunk, the read-out, and the six
  scratch buffers. The loops the kernel unrolls are loops here.
-/
module

public import proofs.«01_k».proof.Proof.Body

@[expose] public section

noncomputable section

namespace Cert.Proof.Scan

open Idealize.ShloMosaic
open Cert.Proof.Body

/-- Shapes by their sizes. -/
abbrev T1 (a : ℕ) : Shape := ⟨1, ![a]⟩
abbrev T2 (a b : ℕ) : Shape := ⟨2, ![a, b]⟩
abbrev T3 (a b c : ℕ) : Shape := ⟨3, ![a, b, c]⟩

/-- The scan's buffers: 0 the keys, 1 the read-out, 2 the memory `N`, 3 the updates `U`, 4 the predictions `P`,
    5 the overlaps `A`, 6 the unit keys, 7 the last value prediction. -/
abbrev bank : Bank 8 where
  sp _ := .vmem
  el _ := .f32
  shp
    | 0 => T3 32 64 128
    | 1 => T2 32 128
    | 2 => T3 32 128 128
    | 3 => T3 32 64 128
    | 4 => T3 32 64 128
    | 5 => T3 32 64 64
    | 6 => T3 32 64 128
    | 7 => T2 32 128

variable {F : FTy → Type} [FloatOps F]

/-- Commands over the scan's buffers. -/
abbrev C (F : FTy → Type) (α : Type) : Type 1 := Cmd bank (Elt F) α

/-- A window of three axes lies inside. -/
theorem inb3 {a b c x y z X Y Z : ℕ} (h : a + x ≤ X ∧ b + y ≤ Y ∧ c + z ≤ Z) :
    ∀ i : Fin 3, (![a, b, c] : Fin 3 → ℕ) i + (![x, y, z] : Fin 3 → ℕ) i ≤ (![X, Y, Z] : Fin 3 → ℕ) i := by
  intro i
  match i with
  | 0 => exact h.1
  | 1 => exact h.2.1
  | 2 => exact h.2.2

/-- A window of two axes lies inside. -/
theorem inb2 {a b x y X Y : ℕ} (h : a + x ≤ X ∧ b + y ≤ Y) :
    ∀ i : Fin 2, (![a, b] : Fin 2 → ℕ) i + (![x, y] : Fin 2 → ℕ) i ≤ (![X, Y] : Fin 2 → ℕ) i := by
  intro i
  match i with
  | 0 => exact h.1
  | 1 => exact h.2

/-- A shape of three positive axes has elements. -/
theorem pos3 {a b c : ℕ} (h : 0 < a ∧ 0 < b ∧ 0 < c) : 0 < (T3 a b c).numel := Shape.numel_pos fun i => by
  match i with
  | 0 => exact h.1
  | 1 => exact h.2.1
  | 2 => exact h.2.2

/-- A shape of two positive axes has elements. -/
theorem pos2 {a b : ℕ} (h : 0 < a ∧ 0 < b) : 0 < (T2 a b).numel := Shape.numel_pos fun i => by
  match i with
  | 0 => exact h.1
  | 1 => exact h.2

/-- A slice of two axes lies inside. -/
theorem slices2 {a b x y X Y : ℕ} (h : a + x ≤ X ∧ b + y ≤ Y) : (T2 X Y).Slices ![a, b] (T2 x y) := ⟨rfl, inb2 h⟩

/-- A slice of three axes lies inside. -/
theorem slices3 {a b c x y z X Y Z : ℕ} (h : a + x ≤ X ∧ b + y ≤ Y ∧ c + z ≤ Z) : (T3 X Y Z).Slices ![a, b, c] (T3 x y z) :=
  ⟨rfl, inb3 h⟩

/-- A leading axis of one is dropped. -/
theorem casts_drop (a b : ℕ) : (T3 1 a b).ShapeCasts (T2 a b) := by
  show (T2 a b).numel = (T3 1 a b).numel
  simp [Shape.numel, Fin.prod_univ_succ]

/-- A leading axis of one is added. -/
theorem casts_add (a b : ℕ) : (T2 a b).ShapeCasts (T3 1 a b) := by
  show (T3 1 a b).numel = (T2 a b).numel
  simp [Shape.numel, Fin.prod_univ_succ]

/-- A middle axis of one is dropped. -/
theorem casts_mid (a b : ℕ) : (T3 a 1 b).ShapeCasts (T2 a b) := by
  show (T2 a b).numel = (T3 a 1 b).numel
  simp [Shape.numel, Fin.prod_univ_succ]

/-- A middle axis of one is added. -/
theorem casts_mid' (a b : ℕ) : (T2 a b).ShapeCasts (T3 a 1 b) := by
  show (T3 a 1 b).numel = (T2 a b).numel
  simp [Shape.numel, Fin.prod_univ_succ]

/-! ## Vectors the body computes -/

/-- Sums of squares of the keys. -/
def sumsq (k : FVec F (T3 32 64 128) .f32) : FVec F (T2 32 64) .f32 :=
  multiReduction .add [2] (T2 32 64) (mulf k k) 0x00000000#32 (by decide) (.inl rfl) rfl

/-- The keys' lengths, at least the floor `fl`. -/
def lens (fl : F .f32) (k : FVec F (T3 32 64 128) .f32) : FVec F (T2 32 64) .f32 :=
  maximumf (sqrt (sumsq k)) (broadcast (T2 32 64) fl)

/-- The unit keys. -/
def units (fl : F .f32) (k : FVec F (T3 32 64 128) .f32) : FVec F (T3 32 64 128) .f32 :=
  divf k (broadcastTo (T3 32 64 128) (shapeCast (T3 32 64 1) (lens fl k)))

/-- The thresholds of the gate. -/
def thresh (fl vl : F .f32) (k : FVec F (T3 32 64 128) .f32) : FVec F (T2 32 64) .f32 :=
  mulf (broadcast (T2 32 64) vl) (maximumf (sumsq k) (broadcast (T2 32 64) fl))

/-- The unit keys times the memory: the predictions from the memory alone. -/
def predict (kn : FVec F (T3 1 64 128) .f32) (N : FVec F (T3 1 128 128) .f32) : FVec F (T3 1 64 128) .f32 :=
  shapeCast (T3 1 64 128)
    (matmul (DotDims.plain 64 128 128) none (shapeCast (T2 64 128) kn) (shapeCast (T2 128 128) N) (constant (T2 64 128) .f32 0x00000000#32))
    (casts_add 64 128)

/-- The unit keys' overlaps. -/
def overlap (kn : FVec F (T3 1 64 128) .f32) : FVec F (T3 1 64 64) .f32 :=
  shapeCast (T3 1 64 64)
    (matmul (DotDims.transposedRhs 64 128 64) none (shapeCast (T2 64 128) kn) (shapeCast (T2 64 128) kn) (constant (T2 64 64) .f32 0x00000000#32))
    (casts_add 64 64)

/-- Eight predictions with the first `w` updates added. -/
def catchUp (w : ℕ) (hw : 0 + w ≤ 64) (A : FVec F (T3 1 8 64) .f32) (P : FVec F (T3 1 8 128) .f32) (U : FVec F (T3 1 w 128) .f32) : FVec F (T3 1 8 128) .f32 :=
  shapeCast (T3 1 8 128)
    (addf (shapeCast (T2 8 128) P (casts_drop 8 128))
      (matmul (DotDims.plain 8 w 128) none (extractStridedSlice (T2 8 w) ![0, 0] (shapeCast (T2 8 64) A) (slices2 (by omega)))
        (shapeCast (T2 w 128) U (casts_drop w 128)) (constant (T2 8 128) .f32 0x00000000#32)))
    (casts_add 8 128)

/-- The eight predictions of a block. -/
def pend0 (P : FVec F (T3 32 8 128) .f32) (i : ℕ) : FVec F (T2 32 128) .f32 :=
  if h : i < 8 then
    shapeCast (T2 32 128) (extractStridedSlice (T3 32 1 128) ![0, i, 0] P (slices3 (by omega)))
  else constant (T2 32 128) .f32 0x00000000#32

/-- Squared lengths of the change of the value prediction. -/
def change (vp vpp : FVec F (T2 32 128) .f32) : FVec F (T2 32 1) .f32 :=
  shapeCast (T2 32 1) (multiReduction .add [1] (T1 32) (mulf (subf vp vpp) (subf vp vpp)) 0x00000000#32 (by decide) (.inl rfl) rfl)

/-- The gate of row `t` of the chunk `c`: the rate where the change is fast and the step is one of the scan's. -/
def gate (c : BitVec 32) (t : ℕ) (ht : t < 64) (th : FVec F (T2 32 64) .f32) (d2 : FVec F (T2 32 1) .f32) : FVec F (T2 32 1) .f32 :=
  select (andi (cmpf .oge d2 (extractStridedSlice (T2 32 1) ![0, t] th (slices2 (by omega))))
      (broadcast (T2 32 1) (Scalar.cmpi .sle (Scalar.addi (Scalar.muli c 64#32) (BitVec.ofNat 32 t)) 510#32)))
    (broadcast (T2 32 1) (Scalar.ofBits .f32 0x3D4CCCCD#32)) (broadcast (T2 32 1) (Scalar.ofBits .f32 0x00000000#32))

/-- The update of one row. -/
def update (g : FVec F (T2 32 1) .f32) (k : FVec F (T3 32 1 128) .f32) (vp : FVec F (T2 32 128) .f32) : FVec F (T2 32 128) .f32 :=
  mulf (broadcastTo (T2 32 128) g) (subf (shapeCast (T2 32 128) k) vp)

/-- One waiting prediction with one update added, at its overlap. -/
def advance (A : FVec F (T3 32 1 64) .f32) (u : FVec F (T2 32 128) .f32) (t : ℕ) (ht : t < 64) (p : FVec F (T2 32 128) .f32) : FVec F (T2 32 128) .f32 :=
  addf p (mulf (broadcastTo (T2 32 128) (extractStridedSlice (T2 32 1) ![0, t] (shapeCast (T2 32 64) A) (slices2 (by omega)))) u)

/-- The memory with a chunk's updates. -/
def absorb (N : FVec F (T3 1 128 128) .f32) (kn U : FVec F (T3 1 64 128) .f32) (d : DotDims (T2 64 128) (T2 64 128) (T2 128 128)) : FVec F (T3 1 128 128) .f32 :=
  shapeCast (T3 1 128 128)
    (addf (shapeCast (T2 128 128) N) (matmul d none (shapeCast (T2 64 128) kn) (shapeCast (T2 64 128) U) (constant (T2 128 128) .f32 0x00000000#32)))
    (casts_add 128 128)

/-- The products of a chunk's unit keys and updates: both contracted on their rows. -/
def dotRows : DotDims (T2 64 128) (T2 64 128) (T2 128 128) where
  lhsContracting := [0]
  rhsContracting := [0]
  lhsNonContracting := [1]
  rhsNonContracting := [1]
  lhsBatch := []
  rhsBatch := []

/-! ## The commands -/

/-- The first chunk's start: the memory and the last prediction at zero. -/
def start : C F PUnit := do
  let _ ← Cmd.ld (B := bank) 2 ![0, 0, 0] ![32, 128, 128] (inb3 (by decide)) (pos3 (by decide))
  Cmd.st (B := bank) 2 ![0, 0, 0] ![32, 128, 128] (inb3 (by decide)) (pos3 (by decide))
    (shapeCast (T3 32 128 128) (broadcast (T3 32 128 128) (Scalar.ofBits .f32 0x00000000#32)) rfl)
  let _ ← Cmd.ld (B := bank) 7 ![0, 0] ![32, 128] (inb2 (by decide)) (pos2 (by decide))
  Cmd.st (B := bank) 7 ![0, 0] ![32, 128] (inb2 (by decide)) (pos2 (by decide))
    (shapeCast (T2 32 128) (broadcast (T2 32 128) (Scalar.ofBits .f32 0x00000000#32)) rfl)

/-- The predictions and overlaps of row `g` of the batch. -/
def prepare (g : ℕ) (hg : g < 32) (_ : PUnit) : C F PUnit := do
  let kn : FVec F (T3 1 64 128) .f32 ← Cmd.ld (B := bank) 6 ![g, 0, 0] ![1, 64, 128] (inb3 (by omega)) (pos3 (by decide))
  let N : FVec F (T3 1 128 128) .f32 ← Cmd.ld (B := bank) 2 ![g, 0, 0] ![1, 128, 128] (inb3 (by omega)) (pos3 (by decide))
  let _ ← Cmd.ld (B := bank) 4 ![g, 0, 0] ![1, 64, 128] (inb3 (by omega)) (pos3 (by decide))
  Cmd.st (B := bank) 4 ![g, 0, 0] ![1, 64, 128] (inb3 (by omega)) (pos3 (by decide)) (predict kn N)
  let _ ← Cmd.ld (B := bank) 5 ![g, 0, 0] ![1, 64, 64] (inb3 (by omega)) (pos3 (by decide))
  Cmd.st (B := bank) 5 ![g, 0, 0] ![1, 64, 64] (inb3 (by omega)) (pos3 (by decide)) (overlap kn)

/-- Block `j + 1`'s predictions catch up with the updates of the blocks before it, for row `g` of the batch. -/
def catchRow (j : ℕ) (hj : j + 1 < 8) (g : ℕ) (hg : g < 32) (_ : PUnit) : C F PUnit := do
  let A : FVec F (T3 1 8 64) .f32 ← Cmd.ld (B := bank) 5 ![g, 8 * (j + 1), 0] ![1, 8, 64] (inb3 (by omega)) (pos3 (by decide))
  let P : FVec F (T3 1 8 128) .f32 ← Cmd.ld (B := bank) 4 ![g, 8 * (j + 1), 0] ![1, 8, 128] (inb3 (by omega)) (pos3 (by decide))
  let U : FVec F (T3 1 (8 * (j + 1)) 128) .f32 ←
    Cmd.ld (B := bank) 3 ![g, 0, 0] ![1, 8 * (j + 1), 128] (inb3 (by omega)) (pos3 (by omega))
  let _ ← Cmd.ld (B := bank) 4 ![g, 8 * (j + 1), 0] ![1, 8, 128] (inb3 (by omega)) (pos3 (by decide))
  Cmd.st (B := bank) 4 ![g, 8 * (j + 1), 0] ![1, 8, 128] (inb3 (by omega)) (pos3 (by decide)) (catchUp (8 * (j + 1)) (by omega) A P U)

/-- The catching up of block `j`; the first block has nothing to catch up with. -/
def catchBlock : (j : ℕ) → j < 8 → C F PUnit
  | 0, _ => .ret ⟨⟩
  | j + 1, hj => Cmd.loop 32 (catchRow j hj) ⟨⟩

/-- What is carried along a block: the waiting predictions and the last one. -/
abbrev Carry (F : FTy → Type) : Type := (ℕ → FVec F (T2 32 128) .f32) × FVec F (T2 32 128) .f32

/-- After row `8 j + i`: the block's later predictions take its update. -/
def follow (j : ℕ) (hj : j < 8) (i : ℕ) (hi : i < 8) (p : ℕ → FVec F (T2 32 128) .f32) (u vp : FVec F (T2 32 128) .f32) : C F (Carry F) :=
  if i = 7 then .ret (p, vp) else do
    let A : FVec F (T3 32 1 64) .f32 ← Cmd.ld (B := bank) 5 ![0, 8 * j + i, 0] ![32, 1, 64] (inb3 (by omega)) (pos3 (by decide))
    pure (fun l => if h : i < l ∧ l < 8 then advance A u (8 * j + l) (by omega) (p l) else p l, vp)

/-- Row `8 j + i` of the chunk. -/
def row (c : BitVec 32) (th : FVec F (T2 32 64) .f32) (j : ℕ) (hj : j < 8) (i : ℕ) (hi : i < 8) (x : Carry F) : C F (Carry F) := do
  let vp := x.1 i
  let k : FVec F (T3 32 1 128) .f32 ← Cmd.ld (B := bank) 0 ![0, 8 * j + i, 0] ![32, 1, 128] (inb3 (by omega)) (pos3 (by decide))
  let u := update (gate c (8 * j + i) (by omega) th (change vp x.2)) k vp
  let _ ← Cmd.ld (B := bank) 3 ![0, 8 * j + i, 0] ![32, 1, 128] (inb3 (by omega)) (pos3 (by decide))
  Cmd.st (B := bank) 3 ![0, 8 * j + i, 0] ![32, 1, 128] (inb3 (by omega)) (pos3 (by decide)) (shapeCast (T3 32 1 128) u (casts_mid' 32 128))
  follow j hj i hi x.1 u vp

/-- Block `j` of the chunk: catch up, then eight rows. -/
def block (c : BitVec 32) (th : FVec F (T2 32 64) .f32) (j : ℕ) (hj : j < 8) (vpp : FVec F (T2 32 128) .f32) : C F (FVec F (T2 32 128) .f32) := do
  catchBlock j hj
  let P : FVec F (T3 32 8 128) .f32 ← Cmd.ld (B := bank) 4 ![0, 8 * j, 0] ![32, 8, 128] (inb3 (by omega)) (pos3 (by decide))
  let x ← Cmd.loop 8 (row c th j hj) (pend0 P, vpp)
  pure x.2

/-- The memory of row `g` of the batch takes the chunk's updates. -/
def absorbRow (g : ℕ) (hg : g < 32) (_ : PUnit) : C F PUnit := do
  let N : FVec F (T3 1 128 128) .f32 ← Cmd.ld (B := bank) 2 ![g, 0, 0] ![1, 128, 128] (inb3 (by omega)) (pos3 (by decide))
  let kn : FVec F (T3 1 64 128) .f32 ← Cmd.ld (B := bank) 6 ![g, 0, 0] ![1, 64, 128] (inb3 (by omega)) (pos3 (by decide))
  let U : FVec F (T3 1 64 128) .f32 ← Cmd.ld (B := bank) 3 ![g, 0, 0] ![1, 64, 128] (inb3 (by omega)) (pos3 (by decide))
  let _ ← Cmd.ld (B := bank) 2 ![g, 0, 0] ![1, 128, 128] (inb3 (by omega)) (pos3 (by decide))
  Cmd.st (B := bank) 2 ![g, 0, 0] ![1, 128, 128] (inb3 (by omega)) (pos3 (by decide)) (absorb N kn U dotRows)

/-- Whether the chunk's number is `c`, as the body tests it. -/
abbrev isChunk (arg1 c : BitVec 32) : Prop := Scalar.cmpi .ne (Scalar.extui (Scalar.cmpi .eq arg1 c) : BitVec 32) 0#32 = 1#1

/-- The body after its start. -/
def rest (fl vl : F .f32) (c : BitVec 32) : C F PUnit := do
  let k0 : FVec F (T3 32 64 128) .f32 ← Cmd.ld (B := bank) 0 ![0, 0, 0] ![32, 64, 128] (inb3 (by decide)) (pos3 (by decide))
  let k := shapeCast (T3 32 64 128) k0 rfl
  let _ ← Cmd.ld (B := bank) 6 ![0, 0, 0] ![32, 64, 128] (inb3 (by decide)) (pos3 (by decide))
  Cmd.st (B := bank) 6 ![0, 0, 0] ![32, 64, 128] (inb3 (by decide)) (pos3 (by decide)) (shapeCast (T3 32 64 128) (units fl k) rfl)
  Cmd.loop 32 prepare ⟨⟩
  let vpp : FVec F (T2 32 128) .f32 ← Cmd.ld (B := bank) 7 ![0, 0] ![32, 128] (inb2 (by decide)) (pos2 (by decide))
  let vp ← Cmd.loop 8 (block c (thresh fl vl k)) vpp
  let _ ← Cmd.ld (B := bank) 7 ![0, 0] ![32, 128] (inb2 (by decide)) (pos2 (by decide))
  Cmd.st (B := bank) 7 ![0, 0] ![32, 128] (inb2 (by decide)) (pos2 (by decide)) (shapeCast (T2 32 128) vp rfl)
  Cmd.bind (.cond (Scalar.cmpi .ne (Scalar.extui (Scalar.cmpi .ne c 7#32) : BitVec 32) 0#32 = 1#1) inferInstance (Cmd.loop 32 absorbRow ⟨⟩) (.ret ⟨⟩)) fun _ =>
  .cond (isChunk c 7#32) inferInstance
    (do
      let _ ← Cmd.ld (B := bank) 1 ![0, 0] ![32, 128] (inb2 (by decide)) (pos2 (by decide))
      Cmd.st (B := bank) 1 ![0, 0] ![32, 128] (inb2 (by decide)) (pos2 (by decide))
        (mulf vp (broadcastTo (T2 32 128) (extractStridedSlice (T2 32 1) ![0, 63] (lens fl k)))))
    (.ret ⟨⟩)

/-- The whole body, at chunk `c`. -/
def body (fl vl : F .f32) (c : BitVec 32) : C F PUnit :=
  Cmd.bind (.cond (isChunk c 0#32) inferInstance start (.ret ⟨⟩)) fun _ => rest fl vl c

end Cert.Proof.Scan

end
-- ==== Proof.FfnBody.lean ====
/-
  The body of the embedding, feed-forward and key kernel, as a command over its eleven buffers. The 256 row copies the
  kernel unrolls are a loop here.
-/
module

public import proofs.«01_k».proof.Proof.ScanBody

@[expose] public section

noncomputable section

namespace Cert.Proof.Ffn

open Idealize.ShloMosaic
open Cert.Proof.Body
open Cert.Proof.Scan (T1 T2 inb2 pos2)

/-- The buffers: 0 the tokens, 1 the embedding table, 2 and 3 the first layer's weights and bias, 4 and 5 the second's,
    6 and 7 the normalization's scale and shift, 8 the key weights, 9 the keys, 10 the gathered rows. -/
abbrev bank : Bank 11 where
  sp
    | 0 => .smem
    | _ => .vmem
  el
    | 0 => .i32
    | _ => .f32
  shp
    | 0 => T1 32768
    | 1 => T2 32000 128
    | 2 => T2 128 256
    | 3 => T2 1 256
    | 4 => T2 256 128
    | 5 => T2 1 128
    | 6 => T2 1 128
    | 7 => T2 1 128
    | 8 => T2 128 128
    | 9 => T2 256 128
    | 10 => T2 256 128

variable {F : FTy → Type} [FloatOps F]

/-- Commands over these buffers. -/
abbrev C (F : FTy → Type) (α : Type) : Type 1 := Cmd bank (Elt F) α

/-- Where the token of row `n` of block `(p, q)` lies. -/
abbrev at_ (p q n : ℕ) : BitVec 32 :=
  Scalar.indexCast (Scalar.addi (Scalar.muli (Scalar.addi (Scalar.muli (BitVec.ofNat 32 p) 64#32) (BitVec.ofNat 32 q)) 256#32) (BitVec.ofNat 32 n))

/-- The position of a token in the flat sequence, as a number. -/
theorem at_toNat {p q n : ℕ} (hp : p < 2) (hq : q < 64) (hn : n < 256) : (at_ p q n).toNat = (p * 64 + q) * 256 + n := by
  simp only [at_, Scalar.indexCast, Scalar.addi, Scalar.muli, IntOp.addi, IntOp.muli, BitVec.toNat_add, BitVec.toNat_mul, BitVec.toNat_ofNat]
  omega

/-- A window of one axis lies inside. -/
theorem inb1 {a x X : ℕ} (h : a + x ≤ X) : ∀ i : Fin 1, (![a] : Fin 1 → ℕ) i + (![x] : Fin 1 → ℕ) i ≤ (![X] : Fin 1 → ℕ) i := by
  intro i
  match i with
  | 0 => exact h

/-- The position of a token is inside the flat sequence. -/
theorem at_inb {p q n : ℕ} (hp : p < 2) (hq : q < 64) (hn : n < 256) :
    ∀ i : Fin 1, (![(at_ p q n).toNat] : Fin 1 → ℕ) i + (![1] : Fin 1 → ℕ) i ≤ (![32768] : Fin 1 → ℕ) i :=
  inb1 (by rw [at_toNat hp hq hn]; omega)

/-- The row of the embedding table a token names. -/
def rowOff (v : BitVec 32) : Fin 2 → ℕ := ![(Scalar.indexCast v).toNat, 0]

/-- The token names a row of the table. -/
def inTable (v : BitVec 32) : Prop := ∀ a, (rowOff v) a + (T2 1 128).size a ≤ (T2 32000 128).size a

instance inTable.dec : ∀ v : BitVec 32, Decidable (inTable v) := fun v => decidable_of_iff' _ (Iff.of_eq (inTable.eq_1 v))

/-- A row of 128 read as a vector. -/
theorem casts_row : (T2 1 128).ShapeCasts (T1 128) := by
  show (T1 128).numel = (T2 1 128).numel
  simp [Shape.numel, Fin.prod_univ_succ]

/-- A vector of 128 read as a row. -/
theorem casts_row' : (T1 128).ShapeCasts (T2 1 128) := by
  show (T2 1 128).numel = (T1 128).numel
  simp [Shape.numel, Fin.prod_univ_succ]

/-- A vector read as a column. -/
theorem casts_col (a : ℕ) : (T1 a).ShapeCasts (T2 a 1) := by
  show (T2 a 1).numel = (T1 a).numel
  simp [Shape.numel, Fin.prod_univ_succ]

/-- Copy the table's row of one token into the gathered rows. -/
def fetch (p q : ℕ) (hp : p < 2) (hq : q < 64) (n : ℕ) (hn : n < 256) : C F PUnit := do
  let v : BitVec 32 ← Cmd.wd (B := bank) 0 ![(at_ p q n).toNat] ![1] (at_inb hp hq hn) rfl
  Cmd.assume (inTable v) (inTable.dec v) fun hv => do
    let r : FVec F (T2 1 128) .f32 ← Cmd.ld (B := bank) 1 (rowOff v) ![1, 128] hv (pos2 (by decide))
    let _ ← Cmd.ld (B := bank) 10 ![n, 0] ![1, 128] (inb2 (by omega)) (pos2 (by decide))
    Cmd.st (B := bank) 10 ![n, 0] ![1, 128] (inb2 (by omega)) (pos2 (by decide))
      (shapeCast (T2 1 128) (shapeCast (T1 128) r casts_row) casts_row' : FVec F (T2 1 128) .f32)

/-- A row of sums divided by 128. -/
def means (x : FVec F (T2 256 128) .f32) : FVec F (T2 256 1) .f32 :=
  divf (shapeCast (T2 256 1) (multiReduction .add [1] (T1 256) x 0x00000000#32 (by decide) (.inl rfl) rfl) (casts_col 256))
    (broadcast (T2 256 1) (Scalar.ofBits .f32 0x43000000#32))

/-- The feed-forward sum. -/
def feed (h : FVec F (T2 256 128) .f32) (w1 : FVec F (T2 128 256) .f32) (b1 : FVec F (T2 1 256) .f32)
    (w2 : FVec F (T2 256 128) .f32) (b2 : FVec F (T2 1 128) .f32) : FVec F (T2 256 128) .f32 :=
  addf (addf h (matmul (DotDims.plain 256 256 128) none
      (maximumf (addf (matmul (DotDims.plain 256 128 256) none h w1 (constant (T2 256 256) .f32 0x00000000#32))
        (broadcastTo (T2 256 256) (shapeCast (T2 1 256) b1 rfl))) (broadcast (T2 256 256) (Scalar.ofBits .f32 0x00000000#32)))
      w2 (constant (T2 256 128) .f32 0x00000000#32)))
    (broadcastTo (T2 256 128) (shapeCast (T2 1 128) b2 rfl))

/-- Rows less their means. -/
def center (x : FVec F (T2 256 128) .f32) : FVec F (T2 256 128) .f32 := subf x (broadcastTo (T2 256 128) (means x))

/-- Rows scaled to unit variance. -/
def scale (y : FVec F (T2 256 128) .f32) : FVec F (T2 256 128) .f32 :=
  mulf y (broadcastTo (T2 256 128) (rsqrt (addf (means (mulf y y)) (broadcast (T2 256 1) (Scalar.ofBits .f32 0x3727C5AC#32)))))

/-- The keys of normalized rows. -/
def keys (z : FVec F (T2 256 128) .f32) (g b : FVec F (T2 1 128) .f32) (wk : FVec F (T2 128 128) .f32) : FVec F (T2 256 128) .f32 :=
  matmul (DotDims.plain 256 128 128) none
    (addf (mulf z (broadcastTo (T2 256 128) (shapeCast (T2 1 128) g rfl))) (broadcastTo (T2 256 128) (shapeCast (T2 1 128) b rfl)))
    wk (constant (T2 256 128) .f32 0x00000000#32)

/-- From the gathered rows to the keys. -/
def finish : C F PUnit := do
  let h : FVec F (T2 256 128) .f32 ← Cmd.ld (B := bank) 10 ![0, 0] ![256, 128] (inb2 (by decide)) (pos2 (by decide))
  let w1 : FVec F (T2 128 256) .f32 ← Cmd.ld (B := bank) 2 ![0, 0] ![128, 256] (inb2 (by omega)) (pos2 (by decide))
  let b1 : FVec F (T2 1 256) .f32 ← Cmd.ld (B := bank) 3 ![0, 0] ![1, 256] (inb2 (by omega)) (pos2 (by decide))
  let w2 : FVec F (T2 256 128) .f32 ← Cmd.ld (B := bank) 4 ![0, 0] ![256, 128] (inb2 (by decide)) (pos2 (by decide))
  let b2 : FVec F (T2 1 128) .f32 ← Cmd.ld (B := bank) 5 ![0, 0] ![1, 128] (inb2 (by omega)) (pos2 (by decide))
  let g : FVec F (T2 1 128) .f32 ← Cmd.ld (B := bank) 6 ![0, 0] ![1, 128] (inb2 (by omega)) (pos2 (by decide))
  let b : FVec F (T2 1 128) .f32 ← Cmd.ld (B := bank) 7 ![0, 0] ![1, 128] (inb2 (by omega)) (pos2 (by decide))
  let wk : FVec F (T2 128 128) .f32 ← Cmd.ld (B := bank) 8 ![0, 0] ![128, 128] (inb2 (by omega)) (pos2 (by decide))
  let _ ← Cmd.ld (B := bank) 9 ![0, 0] ![256, 128] (inb2 (by decide)) (pos2 (by decide))
  Cmd.st (B := bank) 9 ![0, 0] ![256, 128] (inb2 (by decide)) (pos2 (by decide)) (keys (scale (center (feed h w1 b1 w2 b2))) g b wk : FVec F (T2 256 128) .f32)

/-- The body at block `(p, q)`. -/
def body (p q : ℕ) (hp : p < 2) (hq : q < 64) : C F PUnit := do
  Cmd.loop 256 (fun n hn _ => fetch p q hp hq n hn) ⟨⟩
  finish

end Cert.Proof.Ffn

end
-- ==== Proof.FfnEqIdeal.lean ====
/-
  The idealized kernel's feed-forward body is the command `Ffn.body` on its memrefs.
-/
module

public import proofs.«01_k».proof.KernelIdeal
public import proofs.«01_k».proof.Proof.FfnBody

@[expose] public section

set_option maxRecDepth 65536

noncomputable section

namespace Cert.Proof.FfnEqIdeal

open Idealize.ShloMosaic Idealize.SL.Sem
open Idealize.ShloMosaic.Tactic
open Cert.KernelIdeal
open Cert.Proof.Body

variable [Cert.KernelIdeal.Facts]
variable {F : FTy → Type} [FloatOps F] [Named F]

/-- The body's memrefs, by number. -/
abbrev mems (a2 : Memref sig .tc .smem S32768 .i32) (a3 : Memref sig .tc .vmem S32000x128 .f32) (a4 : Memref sig .tc .vmem S128x256 .f32)
    (a5 : Memref sig .tc .vmem S1x256 .f32) (a6 : Memref sig .tc .vmem S256x128 .f32) (a7 a8 a9 : Memref sig .tc .vmem S1x128 .f32)
    (a10 : Memref sig .tc .vmem S128x128 .f32) (a11 a12 : Memref sig .tc .vmem S256x128 .f32) : Mems Ffn.bank sig
  | 0 => a2
  | 1 => a3
  | 2 => a4
  | 3 => a5
  | 4 => a6
  | 5 => a7
  | 6 => a8
  | 7 => a9
  | 8 => a10
  | 9 => a11
  | 10 => a12

/-- The body, as the program has it, is the command. -/
theorem body_eq (i : grid0.Coords) (a2 : Memref sig .tc .smem S32768 .i32) (h2 : a2.IsWhole) (a3 : Memref sig .tc .vmem S32000x128 .f32) (h3 : a3.IsWhole)
    (a4 : Memref sig .tc .vmem S128x256 .f32) (h4 : a4.IsWhole) (a5 : Memref sig .tc .vmem S1x256 .f32) (h5 : a5.IsWhole)
    (a6 : Memref sig .tc .vmem S256x128 .f32) (h6 : a6.IsWhole) (a7 : Memref sig .tc .vmem S1x128 .f32) (h7 : a7.IsWhole)
    (a8 : Memref sig .tc .vmem S1x128 .f32) (h8 : a8.IsWhole) (a9 : Memref sig .tc .vmem S1x128 .f32) (h9 : a9.IsWhole)
    (a10 : Memref sig .tc .vmem S128x128 .f32) (h10 : a10.IsWhole) (a11 : Memref sig .tc .vmem S256x128 .f32) (h11 : a11.IsWhole)
    (a12 : Memref sig .tc .vmem S256x128 .f32) (h12 : a12.IsWhole) :
    (cc0_ffn_keys (F := F) i a2 h2 a3 h3 a4 h4 a5 h5 a6 h6 a7 h7 a8 h8 a9 h9 a10 h10 a11 h11 a12 h12 : Prog (TpuEff nD τ sig (Elt F) Λ₀ .tc) PUnit)
      = (Ffn.body (i 0).val (i 1).val (i 0).isLt (i 1).isLt).toProg (mems a2 a3 a4 a5 a6 a7 a8 a9 a10 a11 a12) := by
  sl_kernel_rfl

end Cert.Proof.FfnEqIdeal

end
-- ==== Proof.Windows.lean ====
/-
  Windows of a buffer, read at an index; and commands whose outcome is settled by part of the contents they start from.
-/
module

public import proofs.«01_k».proof.Proof.Body

@[expose] public section

noncomputable section

namespace Cert.Proof.Body

open Idealize.ShloMosaic

section Windows

variable {α : Type} {s : Shape}

/-- A window of the buffer's own sizes is the whole. -/
theorem window_full (x : s.Idx → α) (off : Fin s.rank → ℕ) (inb : ∀ a, off a + s.size a ≤ s.size a) :
    VecWindow.window x off s.size inb = x := by
  funext y
  refine congrArg x (funext fun a => Fin.ext ?_)
  show off a + 1 * (y a).val = (y a).val
  have := inb a
  omega

/-- A payload put over the whole is what is there afterwards. -/
theorem put_full (x : s.Idx → α) (off : Fin s.rank → ℕ) (inb : ∀ a, off a + s.size a ≤ s.size a) (w : s.Idx → α) :
    VecWindow.put x off s.size w = w :=
  (window_full _ off inb).symm.trans (VecWindow.window_put_same x off s.size inb w)

/-- A window read at an index is the buffer read at that index moved by the offsets. -/
theorem window_at (x : s.Idx → α) (off size : Fin s.rank → ℕ) (inb : ∀ a, off a + size a ≤ s.size a) (y : (Rect.unit off size inb).shape.Idx)
    (i : s.Idx) (h : ∀ a, (i a).val = off a + (y a).val) : VecWindow.window x off size inb y = x i := by
  refine congrArg x (funext fun a => Fin.ext ?_)
  show off a + 1 * (y a).val = (i a).val
  rw [h a]; omega

/-- Inside the window a put reads the payload. -/
theorem put_in (x : s.Idx → α) (off size : Fin s.rank → ℕ) (w : ((a : Fin s.rank) → Fin (size a)) → α) (i : s.Idx)
    (y : (a : Fin s.rank) → Fin (size a)) (h : ∀ a, (i a).val = off a + (y a).val) : VecWindow.put x off size w i = w y := by
  have hm : ∀ a, off a ≤ (i a).val ∧ (i a).val < off a + size a := fun a => by
    have := h a; have := (y a).isLt; omega
  refine (dif_pos hm).trans (congrArg w (funext fun a => Fin.ext ?_))
  show (i a).val - off a = (y a).val
  have := h a; omega

/-- Outside the window a put changes nothing. -/
theorem put_out (x : s.Idx → α) (off size : Fin s.rank → ℕ) (w : ((a : Fin s.rank) → Fin (size a)) → α) (i : s.Idx)
    (a : Fin s.rank) (h : (i a).val < off a ∨ off a + size a ≤ (i a).val) : VecWindow.put x off size w i = x i :=
  dif_neg fun hm => by have := hm a; omega

end Windows

variable {n : ℕ} {B : Bank n} {Val : EltTy → Type} {α β : Type}

/-- A set of indices of each buffer. -/
abbrev Dom (B : Bank n) : Type := (j : Fin n) → (B.shp j).Idx → Prop

/-- Two contents agree on a set. -/
def Agree (D : Dom B) (s s' : State B Val) : Prop := ∀ j i, D j i → s j i = s' j i

namespace Cmd

/-- From contents that agree on `D` the command ends, both times with the same value and with contents that agree on
    `E`; and it changes only buffers in `W`. -/
def Det (W : Fin n → Prop) (D : Dom B) (p : Cmd B Val α) (E : Dom B) : Prop :=
  ∀ s s', Agree D s s' → ∃ a t t', p.run s = some (a, t) ∧ p.run s' = some (a, t') ∧ Agree E t t' ∧ ∀ j, ¬W j → t j = s j

variable {W : Fin n → Prop} {D E : Dom B}

/-- A command that only returns. -/
theorem Det.ret {a : α} (h : ∀ j i, E j i → D j i) : Det (Val := Val) W D (.ret a) E :=
  fun s s' hs => ⟨a, s, s', rfl, rfl, fun j i hi => hs j i (h j i hi), fun _ _ => rfl⟩

/-- One command after the other. -/
theorem Det.bind {p : Cmd B Val α} {f : α → Cmd B Val β} {M : Dom B} (hp : Det W D p M) (hf : ∀ a, Det W M (f a) E) :
    Det W D (p.bind f) E := fun s s' hs => by
  obtain ⟨a, t, t', e, e', ht, hw⟩ := hp s s' hs
  obtain ⟨b, u, u', d, d', hu, hw'⟩ := hf a t t' ht
  exact ⟨b, u, u', by rw [run_bind, e]; exact d, by rw [run_bind, e']; exact d', hu, fun j hj => (hw' j hj).trans (hw j hj)⟩

/-- A value on its own ahead of a command. -/
theorem Det.ret_bind {a : α} {f : α → Cmd B Val β} (h : Det W D (f a) E) : Det W D ((Cmd.ret a).bind f) E := h

/-- A read of a window that is settled. -/
theorem Det.load {j : Fin n} {off size : Fin (B.shp j).rank → ℕ} {inb : ∀ a, off a + size a ≤ (B.shp j).size a} {hv : B.sp j = .vmem}
    {hp : 0 < (Rect.unit off size inb).shape.numel} {k : ((Rect.unit off size inb).shape.Idx → Val (B.el j)) → Cmd B Val α}
    (hD : ∀ i : (B.shp j).Idx, (∀ a, off a ≤ (i a).val ∧ (i a).val < off a + size a) → D j i) (h : ∀ x, Det W D (k x) E) :
    Det W D (.load j off size inb hv hp k) E := fun s s' hs => by
  have e : VecWindow.window (s j) off size inb = VecWindow.window (s' j) off size inb := funext fun y => hs j _ <| hD _ fun a => by
    have e : ((Rect.unit off size inb).emb y a).val = off a + 1 * (y a).val := rfl
    have := (y a).isLt
    have hs : (Rect.unit off size inb).shape.size a = size a := rfl
    omega
  obtain ⟨a, t, t', d, d', r⟩ := h (VecWindow.window (s j) off size inb) s s' hs
  exact ⟨a, t, t', d, (by rw [e] at d'; exact d'), r⟩

/-- A load whose value is not used. -/
theorem Det.skip {j : Fin n} {off size : Fin (B.shp j).rank → ℕ} {inb : ∀ a, off a + size a ≤ (B.shp j).size a} {hv : B.sp j = .vmem}
    {hp : 0 < (Rect.unit off size inb).shape.numel} {k : Cmd B Val α}
    (h : Det W D k E) : Det W D (.load j off size inb hv hp fun _ => k) E := fun s s' hs => h s s' hs

/-- A write settles its window. -/
theorem Det.store {j : Fin n} {off size : Fin (B.shp j).rank → ℕ} {inb : ∀ a, off a + size a ≤ (B.shp j).size a} {hv : B.sp j = .vmem}
    {hp : 0 < (Rect.unit off size inb).shape.numel} {he : (B.el j).bits = 32} {w : (Rect.unit off size inb).shape.Idx → Val (B.el j)}
    {k : Cmd B Val α} (M : Dom B) (hW : W j)
    (hj : ∀ i, M j i → D j i ∨ ∀ a, off a ≤ (i a).val ∧ (i a).val < off a + size a)
    (hM : ∀ j' i, j' ≠ j → M j' i → D j' i) (h : Det W M k E) : Det W D (.store j off size inb hv hp he w k) E := fun s s' hs => by
  have hu : Agree M (Function.update s j (VecWindow.put (s j) off size w)) (Function.update s' j (VecWindow.put (s' j) off size w)) := by
    intro j' i hi
    by_cases ej : j' = j
    · subst ej
      rw [Function.update_self, Function.update_self]
      by_cases hb : ∀ a, off a ≤ (i a).val ∧ (i a).val < off a + size a
      · unfold VecWindow.put; rw [dif_pos hb, dif_pos hb]
      · unfold VecWindow.put; rw [dif_neg hb, dif_neg hb]
        rcases hj i hi with hd | hd
        · exact hs _ i hd
        · exact absurd hd hb
    · rw [Function.update_of_ne ej, Function.update_of_ne ej]
      exact hs _ i (hM _ i ej hi)
  obtain ⟨a, t, t', d, d', ht, hw⟩ := h _ _ hu
  refine ⟨a, t, t', d, d', ht, fun j' hn => (hw j' hn).trans (Function.update_of_ne ?_ _ _)⟩
  rintro rfl
  exact hn hW

/-- A branch whose sides both settle it. -/
theorem Det.cond {P : Prop} {dec : Decidable P} {t e : Cmd B Val α} (ht : P → Det W D t E) (he : ¬P → Det W D e E) :
    Det W D (.cond P dec t e) E := fun s s' hs => by
  by_cases hP : P
  · obtain ⟨a, u, u', d, d', r⟩ := ht hP s s' hs
    exact ⟨a, u, u', (if_pos hP).trans d, (if_pos hP).trans d', r⟩
  · obtain ⟨a, u, u', d, d', r⟩ := he hP s s' hs
    exact ⟨a, u, u', (if_neg hP).trans d, (if_neg hP).trans d', r⟩

/-- A counted loop whose turns each settle the next set. -/
theorem Det.iter {N : ℕ} {f : (k : ℕ) → k < N → α → Cmd B Val α} (I : ℕ → Dom B)
    (hstep : ∀ (i : ℕ) (hi : i < N) a, Det W (I i) (f i hi a) (I (i + 1))) :
    ∀ (m k : ℕ) (hk : k + m ≤ N) (a : α), Det W (I k) (Cmd.iter N f m k hk a) (I (k + m))
  | 0, _, _, _ => Det.ret fun _ _ h => h
  | m + 1, k, hk, a => by
    refine Det.bind (hstep k (by omega) a) fun a' => ?_
    have e : k + 1 + m = k + (m + 1) := by omega
    exact e ▸ Det.iter I hstep m (k + 1) (by omega) a'

/-- A loop from the start to its bound. -/
theorem Det.loop {N : ℕ} {f : (k : ℕ) → k < N → α → Cmd B Val α} (I : ℕ → Dom B) {a : α}
    (hstep : ∀ (i : ℕ) (hi : i < N) a, Det W (I i) (f i hi a) (I (i + 1))) : Det W (I 0) (Cmd.loop N f a) (I N) := by
  simpa using Det.iter I hstep N 0 (by omega) a

/-- More may be settled before and less after. -/
theorem Det.mono {p : Cmd B Val α} {D' E' : Dom B} (h : Det W D p E) (hD : ∀ j i, D j i → D' j i) (hE : ∀ j i, E' j i → E j i) :
    Det W D' p E' := fun s s' hs => by
  obtain ⟨a, t, t', d, d', ht, hw⟩ := h s s' fun j i hi => hs j i (hD j i hi)
  exact ⟨a, t, t', d, d', fun j i hi => ht j i (hE j i hi), hw⟩

end Cmd

end Cert.Proof.Body

end
-- ==== Proof.FfnRun.lean ====
/-
  What the embedding, feed-forward and key kernel's body leaves.
-/
module

public import proofs.«01_k».proof.Proof.FfnBody
public import proofs.«01_k».proof.Proof.Windows
public import Idealize.ShloMosaic.Lib.ValueIdxCore
public import Idealize.ShloMosaic.Lib.Pipeline.Value

@[expose] public section

noncomputable section

namespace Cert.Proof.Ffn

open Idealize.ShloMosaic Idealize.ShloMosaic.ValueIdx
open Cert.Proof.Body
open Cert.Proof.Scan (T1 T2 inb2 pos2)

variable {F : FTy → Type} [FloatOps F]

/-- The token of row `n` of block `(p, q)`. -/
def token (toks : (T1 32768).Idx → BitVec 32) (p q : Fin 64) (n : Fin 256) : BitVec 32 :=
  toks (ix1 ⟨((p.val % 2) * 64 + q.val) * 256 + n.val, by omega⟩)

/-- The rows of the table that the tokens of block `(p, q)` name. -/
def gathered (toks : (T1 32768).Idx → BitVec 32) (table : FVec F (T2 32000 128) .f32) (p q : Fin 64) : FVec F (T2 256 128) .f32 :=
  fun i => table (ix2 ⟨(token toks p q (i 0)).toNat % 32000, Nat.mod_lt _ (by decide)⟩ (i 1))

/-- A row cast to a vector and back reads the same. -/
theorem casts_back (r : FVec F (T2 1 128) .f32) : (shapeCast (T2 1 128) (shapeCast (T1 128) r casts_row) casts_row' : FVec F (T2 1 128) .f32) = r :=
  shapeCast_shapeCast r casts_row casts_row'

/-- A token inside the table is below 32000. -/
theorem lt_of_inTable {v : BitVec 32} (h : inTable v) : v.toNat < 32000 := by
  have := h 0
  have e : (rowOff v) 0 = v.toNat := rfl
  have e1 : (T2 1 128).size 0 = 1 := rfl
  have e2 : (T2 32000 128).size 0 = 32000 := rfl
  omega

/-- A token below 32000 is inside the table. -/
theorem inTable_of_lt {v : BitVec 32} (h : v.toNat < 32000) : inTable v := fun a => by
  match a with
  | ⟨0, _⟩ => show v.toNat + 1 ≤ 32000; omega
  | ⟨1, _⟩ => show 0 + 128 ≤ 128; omega

/-- One copy puts the table's row into the gathered rows. -/
theorem fetch_does (p q : ℕ) (hp : p < 2) (hq : q < 64) (n : ℕ) (hn : n < 256) (s : State bank (Elt F))
    (hv : inTable (token (s 0) ⟨p, by omega⟩ ⟨q, hq⟩ ⟨n, hn⟩)) :
    Cmd.Does (fetch (F := F) p q hp hq n hn) s fun _ s' => s' = Function.update s 10
      (VecWindow.put (s 10) ![n, 0] ![1, 128]
        (VecWindow.window (s 1) (rowOff (token (s 0) ⟨p, by omega⟩ ⟨q, hq⟩ ⟨n, hn⟩)) ![1, 128] hv)) := by
  have e0 : VecWindow.window (s 0) ![(at_ p q n).toNat] ![1] (at_inb hp hq hn) (Shape.Idx.first (Nat.one_pos))
      = token (s 0) ⟨p, by omega⟩ ⟨q, hq⟩ ⟨n, hn⟩ := by
    refine window_at (s := T1 32768) (s 0) _ _ _ _ (ix1 ⟨((p % 2) * 64 + q) * 256 + n, by omega⟩) fun a => ?_
    match a with
    | ⟨0, _⟩ =>
      show ((p % 2) * 64 + q) * 256 + n = (at_ p q n).toNat + 0
      rw [at_toNat hp hq hn, Nat.mod_eq_of_lt hp, Nat.add_zero]
  refine Cmd.Does.word ?_
  have hv' := hv
  rw [← e0] at hv'
  refine Cmd.Does.assume hv' ?_
  refine Cmd.Does.load ?_
  refine Cmd.Does.load ?_
  refine Cmd.Does.store ?_
  refine Cmd.Does.ret ?_
  rw [casts_back]
  congr 2
  congr 1
  · exact congrArg rowOff e0
  · exact proof_irrel_heq _ _

/-- The keys of a block, of the buffers' contents. -/
def result (s : State bank (Elt F)) (p q : Fin 64) : FVec F (T2 256 128) .f32 :=
  keys (scale (center (feed (gathered (s 0) (s 1) p q) (s 2) (s 3) (s 4) (s 5)))) (s 6) (s 7) (s 8)

/-- The second half of the body: the gathered rows go through the layers and the keys are written. -/
theorem finish_run (s : State bank (Elt F)) : (finish (F := F)).run s = some (⟨⟩, Function.update s 9
    (keys (scale (center (feed (s 10) (s 2) (s 3) (s 4) (s 5)))) (s 6) (s 7) (s 8))) := by
  have e10 := window_full (s := T2 256 128) (s 10) ![0, 0] (inb2 (by decide))
  have e2 := window_full (s := T2 128 256) (s 2) ![0, 0] (inb2 (by decide))
  have e3 := window_full (s := T2 1 256) (s 3) ![0, 0] (inb2 (by decide))
  have e4 := window_full (s := T2 256 128) (s 4) ![0, 0] (inb2 (by decide))
  have e5 := window_full (s := T2 1 128) (s 5) ![0, 0] (inb2 (by decide))
  have e6 := window_full (s := T2 1 128) (s 6) ![0, 0] (inb2 (by decide))
  have e7 := window_full (s := T2 1 128) (s 7) ![0, 0] (inb2 (by decide))
  have e8 := window_full (s := T2 128 128) (s 8) ![0, 0] (inb2 (by decide))
  have e9 := put_full (s := T2 256 128) (s 9) ![0, 0] (inb2 (by decide)) (keys (scale (center (feed (s 10) (s 2) (s 3) (s 4) (s 5)))) (s 6) (s 7) (s 8))
  have e : (finish (F := F)).run s = some (⟨⟩, Function.update s 9 (VecWindow.put (s 9) ![0, 0] ![256, 128]
    (keys (scale (center (feed (VecWindow.window (s 10) ![0, 0] (T2 256 128).size (inb2 (by decide)))
      (VecWindow.window (s 2) ![0, 0] (T2 128 256).size (inb2 (by decide))) (VecWindow.window (s 3) ![0, 0] (T2 1 256).size (inb2 (by decide)))
      (VecWindow.window (s 4) ![0, 0] (T2 256 128).size (inb2 (by decide))) (VecWindow.window (s 5) ![0, 0] (T2 1 128).size (inb2 (by decide))))))
      (VecWindow.window (s 6) ![0, 0] (T2 1 128).size (inb2 (by decide))) (VecWindow.window (s 7) ![0, 0] (T2 1 128).size (inb2 (by decide)))
      (VecWindow.window (s 8) ![0, 0] (T2 128 128).size (inb2 (by decide)))))) := rfl
  rw [e]
  refine congrArg (fun x => some (PUnit.unit, Function.update s 9 x)) (.trans ?_ e9)
  exact congrArg (VecWindow.put (s 9) ![0, 0] ![256, 128])
    (congr (congr (congr (congrArg keys (congrArg (fun x => scale (center x)) (congr (congr (congr (congr (congrArg feed e10) e2) e3) e4) e5))) e6) e7) e8)

/-- The body leaves the gathered rows and their keys, and changes nothing else. -/
theorem body_run (p q : ℕ) (hp : p < 2) (hq : q < 64) (s : State bank (Elt F))
    (hv : ∀ n : Fin 256, inTable (token (s 0) ⟨p, by omega⟩ ⟨q, hq⟩ n)) :
    (body (F := F) p q hp hq).run s = some (⟨⟩, Function.update (Function.update s 10 (gathered (s 0) (s 1) ⟨p, by omega⟩ ⟨q, hq⟩)) 9
      (result s ⟨p, by omega⟩ ⟨q, hq⟩)) := by
  have hl : Cmd.Does (Cmd.loop 256 (fun n hn _ => fetch (F := F) p q hp hq n hn) ⟨⟩) s fun _ s' =>
      s' = Function.update s 10 (gathered (s 0) (s 1) ⟨p, by omega⟩ ⟨q, hq⟩) := by
    refine Cmd.Does.loop (fun k _ s' => ∃ x : FVec F (T2 256 128) .f32, s' = Function.update s 10 x ∧
      ∀ i : (T2 256 128).Idx, (i 0).val < k → x i = gathered (s 0) (s 1) ⟨p, by omega⟩ ⟨q, hq⟩ i) ?_ ?_ ?_
    · exact ⟨s 10, by rw [Function.update_eq_self], fun i h => absurd h (by omega)⟩
    · rintro n hn _ s' ⟨x, rfl, hx⟩
      refine (fetch_does p q hp hq n hn (Function.update s 10 x) (hv ⟨n, hn⟩)).mono ?_
      rintro _ s'' rfl
      refine ⟨_, Function.update_idem _ _ _, fun i hi => ?_⟩
      by_cases hin : (i 0).val = n
      · refine (put_in (s := T2 256 128) (Function.update s 10 x 10) ![n, 0] ![1, 128] _ i (ix2 (n0 := 1) (n1 := 128) 0 (i 1)) fun a => ?_).trans ?_
        · match a with
          | ⟨0, _⟩ => exact hin
          | ⟨1, _⟩ => show (i 1).val = 0 + (i 1).val; omega
        · refine window_at (s := T2 32000 128) (s 1) _ ![1, 128] _ _ _ fun a => ?_
          have e : token (s 0) ⟨p, by omega⟩ ⟨q, hq⟩ (i 0) = token (s 0) ⟨p, by omega⟩ ⟨q, hq⟩ ⟨n, hn⟩ := congrArg _ (Fin.ext hin)
          match a with
          | ⟨0, _⟩ =>
            show (token (s 0) ⟨p, _⟩ ⟨q, hq⟩ (i 0)).toNat % 32000 = (token (s 0) ⟨p, _⟩ ⟨q, hq⟩ ⟨n, hn⟩).toNat + 0
            rw [e, Nat.mod_eq_of_lt (lt_of_inTable (hv ⟨n, hn⟩))]; rfl
          | ⟨1, _⟩ => show (i 1).val = 0 + (i 1).val; omega
      · refine (put_out (s := T2 256 128) (Function.update s 10 x 10) ![n, 0] ![1, 128] _ i 0 (by show (i 0).val < n ∨ n + 1 ≤ (i 0).val; omega)).trans ?_
        show Function.update s 10 x 10 i = _
        rw [Function.update_self]
        exact hx i (by omega)
    · rintro _ s' ⟨x, rfl, hx⟩
      exact congrArg _ (funext fun i => hx i (idx2_lt0 i))
  obtain ⟨a, s', e, rfl⟩ := hl
  show (Cmd.bind _ fun _ => finish).run s = _
  rw [Cmd.run_bind, e]
  exact finish_run _

end Cert.Proof.Ffn

end
-- ==== Proof.Owns.lean ====
/-
  Running a command on buffers owned at given contents.
-/
module

public import proofs.«01_k».proof.Proof.Body

@[expose] public section

noncomputable section

namespace Cert.Proof.Body

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {n : ℕ} {B : Bank n} {Val : EltTy → Type} {α : Type}
variable {nD : Nat} {τ : Topo} {sig : RefSig} {Λ : Labels}
variable {Ix : Type} [DecidableEq Ix] {Name : Type} [DecidableEq Name]
variable {U : Type} [URA U] {Lvl : Type} [Preorder Lvl] {defs : Defs nD τ sig Val Λ} (𝒱 : Variants) (c : Dev nD) (bd : Option 𝒱.V) (E : Set Name)

local notation "𝕄" => MT nD τ sig Ix Val Name U Lvl

variable [∀ e, Nonempty (Val e)]

/-- A buffer owned at a vector is held whole at it. -/
theorem hold_of_owns {cs : CoreSpace} {s : Shape} {e : EltTy} (m : Memref sig .tc cs s e) (x : s.Idx → Val e) :
    (owns (c : Thread nD τ) m fullShare x : sProp 𝕄) ⊢ Hold c m x := by
  unfold owns
  iintro ⟨%f, %hf, H⟩
  iapply (pointsTo_rep_of_read (c : Thread nD τ) m f fullShare x hf)
  iexact H

/-- A buffer held whole at a vector is owned at it. -/
theorem owns_of_hold {cs : CoreSpace} {s : Shape} {e : EltTy} (m : Memref sig .tc cs s e) (x : s.Idx → Val e) :
    (Hold c m x : sProp 𝕄) ⊢ owns (c : Thread nD τ) m fullShare x := by
  unfold owns
  iintro H
  iexists (m.view.rep x)
  isplitr
  · ipureintro; exact View.read_rep _ _
  iexact H

/-- All buffers of the family owned at given contents. -/
def Owns (m : Mems B sig) (s : State B Val) : sProp 𝕄 := bigSep Finset.univ fun j => owns (c : Thread nD τ) (m j) fullShare (s j)

/-- A command that runs runs on owned buffers. -/
theorem wp_cmd (m : Mems B sig) {p : Cmd B Val α} (Q : α → sProp 𝕄) {s : State B Val} {a : α} {s' : State B Val} (h : p.run s = some (a, s')) :
    iprop(Owns c m s ∗ (Owns c m s' -∗ Q a)) ⊢ wp frame (wpE defs 𝒱 (c : Thread nD τ) bd) E (p.toProg m) Q := by
  refine .trans ?_ (wp_toProg 𝒱 c bd E m p Q s a s' h)
  have h1 : (Owns c m s : sProp 𝕄) ⊢ Own c m s := bigSep_mono fun j _ => hold_of_owns c (m j) (s j)
  have h2 : (Own c m s' : sProp 𝕄) ⊢ Owns c m s' := bigSep_mono fun j _ => owns_of_hold c (m j) (s' j)
  iintro ⟨H, K⟩
  isplitl [H]
  · iapply h1; iexact H
  iintro H'
  iapply K
  iapply h2
  iexact H'

end Cert.Proof.Body

end
-- ==== Proof.FfnRegionIdeal.lean ====
/-
  The key computation's call of the idealized program: what its pipeline holds at each grid point, and its body's obligation.
-/
module

public import proofs.«01_k».proof.Proof.Gen.KernelIdeal.Launch
public import proofs.«01_k».proof.Proof.Gen.KernelIdeal.Points
public import proofs.«01_k».proof.Proof.FfnEqIdeal
public import proofs.«01_k».proof.Proof.FfnRun
public import proofs.«01_k».proof.Proof.Owns
public import Idealize.ShloMosaic.Lib.Pipeline.FrameBody

@[expose] public section

noncomputable section

namespace Cert.Proof.FfnRegionIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen
open Cert.Proof.Body Cert.Proof.FfnEqIdeal

variable [Cert.KernelIdeal.Facts]
variable {F : FTy → Type} [FloatOps F] [Named F]

local notation "𝕄" => MT nD τ sig Unit (Elt F) ℕ (UR sig nD τ) ℕ

variable (W : Dev nD → Valuation τ sig (Elt F))

/-- The block of a window's array at a point. -/
abbrev blk (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))

/-- The nine inputs' blocks, and the result's and the gathered rows' buffers at anything. -/
def given (c : Dev nD) (t : Fin cfg0.N) (x : (Ffn.bank.shp 9).Idx → Elt F (Ffn.bank.el 9)) (y : (Ffn.bank.shp 10).Idx → Elt F (Ffn.bank.el 10)) :
    State Ffn.bank (Elt F)
  | 0 => blk W c 0 t
  | 1 => blk W c 1 t
  | 2 => blk W c 2 t
  | 3 => blk W c 3 t
  | 4 => blk W c 4 t
  | 5 => blk W c 5 t
  | 6 => blk W c 6 t
  | 7 => blk W c 7 t
  | 8 => blk W c 8 t
  | 9 => x
  | 10 => y

/-- The grid point's two numbers. -/
abbrev half (t : Fin cfg0.N) : Fin 64 := ⟨(grid0.coords t 0).val, Nat.lt_of_lt_of_le (grid0.coords t 0).isLt (by decide)⟩
abbrev part (t : Fin cfg0.N) : Fin 64 := ⟨(grid0.coords t 1).val, (grid0.coords t 1).isLt⟩

/-- The keys' block at a point. -/
def left (c : Dev nD) (t : Fin cfg0.N) : (Ffn.bank.shp 9).Idx → Elt F (Ffn.bank.el 9) :=
  Ffn.keys (F := F) (Ffn.scale (Ffn.center (Ffn.feed (Ffn.gathered (F := F) (blk W c 0 t) (blk W c 1 t) (half t) (part t)) (blk W c 2 t) (blk W c 3 t) (blk W c 4 t) (blk W c 5 t))))
    (blk W c 6 t) (blk W c 7 t) (blk W c 8 t)

/-- The pipeline's proof data: arrays as found, inputs left in place, the result's block the keys. -/
def dat (c : Dev nD) : Dat τ (Elt F) Unit ℕ (UR sig nD τ) ℕ cfg0 c where
  A w := W c (Pipeline.arrRef spec0 w)
  after w t := match w with
    | ⟨0, _⟩ => blk W c 0 t
    | ⟨1, _⟩ => blk W c 1 t
    | ⟨2, _⟩ => blk W c 2 t
    | ⟨3, _⟩ => blk W c 3 t
    | ⟨4, _⟩ => blk W c 4 t
    | ⟨5, _⟩ => blk W c 5 t
    | ⟨6, _⟩ => blk W c 6 t
    | ⟨7, _⟩ => blk W c 7 t
    | ⟨8, _⟩ => blk W c 8 t
    | ⟨9, _⟩ => left W c t
  Φ _ := Pipeline.scopedRest (Ix := Unit) (Name := ℕ) (U := UR sig nD τ) (Lvl := ℕ) (Val := Elt F) spec0 c
  q _ := fullShare
  owed _ := 0

/-- Between its points the call holds only the buffers it does not use. -/
theorem Φ_eq (c : Dev nD) : (dat W c).Φ
    = fun _ => Pipeline.scopedRest (Ix := Unit) (Name := ℕ) (U := UR sig nD τ) (Lvl := ℕ) (Val := Elt F) spec0 c := rfl

/-- The arrays of the pipeline are those the program has when the call starts. -/
theorem A_eq (c : Dev nD) (w : Fin cfg0.W) : (dat W c).A w = W c (Pipeline.arrRef spec0 w) := rfl

/-- The block that the window number 0 holds at a point. -/
theorem before_0 (c : Dev nD) (t : Fin cfg0.N) (d) : (dat W c).before 0 t d = blk W c 0 t :=
  (dat W c).before_in_eq_fetched 0 rfl (fun _ => rfl) (fun _ _ _ => rfl) (fun _ => rfl) t d
/-- The block that the window number 1 holds at a point. -/
theorem before_1 (c : Dev nD) (t : Fin cfg0.N) (d) : (dat W c).before 1 t d = blk W c 1 t :=
  (dat W c).before_in_eq_fetched 1 rfl (fun _ => rfl) (fun _ _ _ => rfl) (fun _ => rfl) t d
/-- The block that the window number 2 holds at a point. -/
theorem before_2 (c : Dev nD) (t : Fin cfg0.N) (d) : (dat W c).before 2 t d = blk W c 2 t :=
  (dat W c).before_in_eq_fetched 2 rfl (fun _ => rfl) (fun _ _ _ => rfl) (fun _ => rfl) t d
/-- The block that the window number 3 holds at a point. -/
theorem before_3 (c : Dev nD) (t : Fin cfg0.N) (d) : (dat W c).before 3 t d = blk W c 3 t :=
  (dat W c).before_in_eq_fetched 3 rfl (fun _ => rfl) (fun _ _ _ => rfl) (fun _ => rfl) t d
/-- The block that the window number 4 holds at a point. -/
theorem before_4 (c : Dev nD) (t : Fin cfg0.N) (d) : (dat W c).before 4 t d = blk W c 4 t :=
  (dat W c).before_in_eq_fetched 4 rfl (fun _ => rfl) (fun _ _ _ => rfl) (fun _ => rfl) t d
/-- The block that the window number 5 holds at a point. -/
theorem before_5 (c : Dev nD) (t : Fin cfg0.N) (d) : (dat W c).before 5 t d = blk W c 5 t :=
  (dat W c).before_in_eq_fetched 5 rfl (fun _ => rfl) (fun _ _ _ => rfl) (fun _ => rfl) t d
/-- The block that the window number 6 holds at a point. -/
theorem before_6 (c : Dev nD) (t : Fin cfg0.N) (d) : (dat W c).before 6 t d = blk W c 6 t :=
  (dat W c).before_in_eq_fetched 6 rfl (fun _ => rfl) (fun _ _ _ => rfl) (fun _ => rfl) t d
/-- The block that the window number 7 holds at a point. -/
theorem before_7 (c : Dev nD) (t : Fin cfg0.N) (d) : (dat W c).before 7 t d = blk W c 7 t :=
  (dat W c).before_in_eq_fetched 7 rfl (fun _ => rfl) (fun _ _ _ => rfl) (fun _ => rfl) t d
/-- The block that the window number 8 holds at a point. -/
theorem before_8 (c : Dev nD) (t : Fin cfg0.N) (d) : (dat W c).before 8 t d = blk W c 8 t :=
  (dat W c).before_in_eq_fetched 8 rfl (fun _ => rfl) (fun _ _ _ => rfl) (fun _ => rfl) t d

/-- The buffers at a point: the staging buffers and the scratch. -/
abbrev at' (t : Fin cfg0.N) : Mems Ffn.bank sig :=
  mems (st0_0 t) (st0_1 t) (st0_2 t) (st0_3 t) (st0_4 t) (st0_5 t) (st0_6 t) (st0_7 t) (st0_8 t) (st0_9 t) (Memref.whole cc0_scratch0)

/-- The family's buffers owned, one by one. -/
theorem owns_list (c : Dev nD) (t : Fin cfg0.N) (s : State Ffn.bank (Elt F)) :
    (Owns c (at' t) s : sProp 𝕄) = iprop(owns (c : Thread nD τ) (st0_0 t) fullShare (s 0)
      ∗ owns (c : Thread nD τ) (st0_1 t) fullShare (s 1)
      ∗ owns (c : Thread nD τ) (st0_2 t) fullShare (s 2)
      ∗ owns (c : Thread nD τ) (st0_3 t) fullShare (s 3)
      ∗ owns (c : Thread nD τ) (st0_4 t) fullShare (s 4)
      ∗ owns (c : Thread nD τ) (st0_5 t) fullShare (s 5)
      ∗ owns (c : Thread nD τ) (st0_6 t) fullShare (s 6)
      ∗ owns (c : Thread nD τ) (st0_7 t) fullShare (s 7)
      ∗ owns (c : Thread nD τ) (st0_8 t) fullShare (s 8)
      ∗ owns (c : Thread nD τ) (st0_9 t) fullShare (s 9)
      ∗ owns (c : Thread nD τ) (Memref.whole cc0_scratch0) fullShare (s 10)) := by
  unfold Owns
  rw [bigSep_univ_eq_bigSepL [(0 : Fin 11), 1, 2, 3, 4, 5, 6, 7, 8, 9, 10] (by decide) (by decide)]
  rfl

/-- The body's program at a point. -/
theorem prog_eq (t : Fin cfg0.N) : (defs₀ (F := F)) .tc cfg0.body (cfg0.bodyArgs t (cfg0.slots t))
    = (Ffn.body (F := F) (grid0.coords t 0).val (grid0.coords t 1).val (grid0.coords t 0).isLt (grid0.coords t 1).isLt).toProg (at' t) :=
  body_eq (grid0.coords t) (st0_0 t) (hstage0_0 ((cfg0.slots t 0).cast nbuf0_0))
    (st0_1 t) (hstage0_1 ((cfg0.slots t 1).cast nbuf0_1))
    (st0_2 t) (hstage0_2 ((cfg0.slots t 2).cast nbuf0_2))
    (st0_3 t) (hstage0_3 ((cfg0.slots t 3).cast nbuf0_3))
    (st0_4 t) (hstage0_4 ((cfg0.slots t 4).cast nbuf0_4))
    (st0_5 t) (hstage0_5 ((cfg0.slots t 5).cast nbuf0_5))
    (st0_6 t) (hstage0_6 ((cfg0.slots t 6).cast nbuf0_6))
    (st0_7 t) (hstage0_7 ((cfg0.slots t 7).cast nbuf0_7))
    (st0_8 t) (hstage0_8 ((cfg0.slots t 8).cast nbuf0_8))
    (st0_9 t) (hstage0_9 ((cfg0.slots t 9).cast nbuf0_9))
    (Memref.whole cc0_scratch0) (Memref.isWhole_whole _)

/-- The scratch beside the other scoped buffers. -/
theorem scratch_split (c : Dev nD) : (Pipeline.scopedRest (Ix := Unit) (Name := ℕ) (U := UR sig nD τ) (Lvl := ℕ) (Val := Elt F) spec0 c : sProp 𝕄)
    = iprop((∃ f : Buf (Elt F) ((c : Thread nD τ).loc cc0_scratch0), ((c : Thread nD τ).loc cc0_scratch0) ↦{fullShare} f)
      ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- The body meets its obligation at every point, if every token is a row of the table. -/
theorem body_obligation (c : Dev nD) (hv : ∀ t p q n, Ffn.inTable (Ffn.token (blk W c 0 t) p q n)) :
    BodyObligation (dat W c) (defs₀ (F := F)) Variants.none () Set.univ := fun t => by
  rw [bigSep_W0, bigSep_W0, prog_eq]
  rw [show (dat W c).Φ t.castSucc = (dat W c).Φ t.succ from rfl, show (dat W c).Φ t.succ = Pipeline.scopedRest spec0 c from rfl, scratch_split]
  iintro ⟨⟨⟨%y, H10⟩, HΦ⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (wp_cmd Variants.none c none Set.univ (at' t) _ (Ffn.body_run (grid0.coords t 0).val (grid0.coords t 1).val (grid0.coords t 0).isLt (grid0.coords t 1).isLt
    (given W c t ((dat W c).before 9 t d9) y) fun n => hv t _ _ n))
  rw [owns_list, owns_list]
  simp only [owns_whole]
  isplitl [H0 H1 H2 H3 H4 H5 H6 H7 H8 H9 H10]
  · isplitl [H0]; · iapply (Entails.of_eq (congrArg (owns (c : Thread nD τ) (st0_0 t) fullShare) (before_0 W c t d0))); iexact H0
    isplitl [H1]; · iapply (Entails.of_eq (congrArg (owns (c : Thread nD τ) (st0_1 t) fullShare) (before_1 W c t d1))); iexact H1
    isplitl [H2]; · iapply (Entails.of_eq (congrArg (owns (c : Thread nD τ) (st0_2 t) fullShare) (before_2 W c t d2))); iexact H2
    isplitl [H3]; · iapply (Entails.of_eq (congrArg (owns (c : Thread nD τ) (st0_3 t) fullShare) (before_3 W c t d3))); iexact H3
    isplitl [H4]; · iapply (Entails.of_eq (congrArg (owns (c : Thread nD τ) (st0_4 t) fullShare) (before_4 W c t d4))); iexact H4
    isplitl [H5]; · iapply (Entails.of_eq (congrArg (owns (c : Thread nD τ) (st0_5 t) fullShare) (before_5 W c t d5))); iexact H5
    isplitl [H6]; · iapply (Entails.of_eq (congrArg (owns (c : Thread nD τ) (st0_6 t) fullShare) (before_6 W c t d6))); iexact H6
    isplitl [H7]; · iapply (Entails.of_eq (congrArg (owns (c : Thread nD τ) (st0_7 t) fullShare) (before_7 W c t d7))); iexact H7
    isplitl [H8]; · iapply (Entails.of_eq (congrArg (owns (c : Thread nD τ) (st0_8 t) fullShare) (before_8 W c t d8))); iexact H8
    isplitl [H9]; · iexact H9
    iexact H10
  iintro ⟨H0, H1, H2, H3, H4, H5, H6, H7, H8, H9, H10⟩
  isplitl [HΦ H10]
  · isplitl [H10]; · iexists _; iexact H10
    iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.Proof.FfnRegionIdeal

end
-- ==== Proof.ScanEqIdeal.lean ====
/-
  The idealized kernel's scan body is the command `Scan.body` on its memrefs.
-/
module

public import proofs.«01_k».proof.KernelIdeal
public import proofs.«01_k».proof.Proof.ScanBody

@[expose] public section

set_option maxRecDepth 65536

noncomputable section

namespace Cert.Proof.ScanEqIdeal

open Idealize.ShloMosaic Idealize.SL.Sem
open Idealize.ShloMosaic.Tactic
open Cert.KernelIdeal
open Cert.Proof.Body

variable [Cert.KernelIdeal.Facts]
variable {F : FTy → Type} [FloatOps F] [Named F]

/-- The body's memrefs, by number. -/
abbrev mems (a2 : Memref sig .tc .vmem S32x64x128 .f32) (a3 : Memref sig .tc .vmem S32x128 .f32)
    (a4 : Memref sig .tc .vmem S32x128x128 .f32) (a5 a6 : Memref sig .tc .vmem S32x64x128 .f32) (a7 : Memref sig .tc .vmem S32x64x64 .f32)
    (a8 : Memref sig .tc .vmem S32x64x128 .f32) (a9 : Memref sig .tc .vmem S32x128 .f32) : Mems Scan.bank sig
  | 0 => a2
  | 1 => a3
  | 2 => a4
  | 3 => a5
  | 4 => a6
  | 5 => a7
  | 6 => a8
  | 7 => a9

/-- The body, as the program has it, is the command. -/
theorem body_eq (i : grid1.Coords) (a2 : Memref sig .tc .vmem S32x64x128 .f32) (h2 : a2.IsWhole) (a3 : Memref sig .tc .vmem S32x128 .f32) (h3 : a3.IsWhole)
    (a4 : Memref sig .tc .vmem S32x128x128 .f32) (h4 : a4.IsWhole) (a5 : Memref sig .tc .vmem S32x64x128 .f32) (h5 : a5.IsWhole)
    (a6 : Memref sig .tc .vmem S32x64x128 .f32) (h6 : a6.IsWhole) (a7 : Memref sig .tc .vmem S32x64x64 .f32) (h7 : a7.IsWhole)
    (a8 : Memref sig .tc .vmem S32x64x128 .f32) (h8 : a8.IsWhole) (a9 : Memref sig .tc .vmem S32x128 .f32) (h9 : a9.IsWhole) :
    (cc1_velocity_gate_scan (F := F) i a2 h2 a3 h3 a4 h4 a5 h5 a6 h6 a7 h7 a8 h8 a9 h9 : Prog (TpuEff nD τ sig (Elt F) Λ₀ .tc) PUnit)
      = (Scan.body (Named.named κ "floor2" 0x2B8CBCCC#32) (Named.named κ "vel2" 0x3C23D70A#32) (BitVec.ofNat 32 (i 1).val)).toProg (mems a2 a3 a4 a5 a6 a7 a8 a9) := by
  by_cases h : Scan.isChunk (BitVec.ofNat 32 (i 1).val) 0#32
  · rw [show (Scan.body (Named.named κ "floor2" 0x2B8CBCCC#32) (Named.named κ "vel2" 0x3C23D70A#32) (BitVec.ofNat 32 (i 1).val)).toProg (nD := nD) (τ := τ) (Λ := Λ₀) (mems a2 a3 a4 a5 a6 a7 a8 a9)
        = (Cmd.bind Scan.start fun _ => Scan.rest (F := F) (Named.named κ "floor2" 0x2B8CBCCC#32) (Named.named κ "vel2" 0x3C23D70A#32) (BitVec.ofNat 32 (i 1).val)).toProg (mems a2 a3 a4 a5 a6 a7 a8 a9)
      from dif_pos h]
    unfold cc1_velocity_gate_scan k1_part186 k1_part14
    simp only [dif_pos h]
    sl_kernel_rfl
  · rw [show (Scan.body (Named.named κ "floor2" 0x2B8CBCCC#32) (Named.named κ "vel2" 0x3C23D70A#32) (BitVec.ofNat 32 (i 1).val)).toProg (nD := nD) (τ := τ) (Λ := Λ₀) (mems a2 a3 a4 a5 a6 a7 a8 a9)
        = (Scan.rest (F := F) (Named.named κ "floor2" 0x2B8CBCCC#32) (Named.named κ "vel2" 0x3C23D70A#32) (BitVec.ofNat 32 (i 1).val)).toProg (mems a2 a3 a4 a5 a6 a7 a8 a9)
      from dif_neg h]
    unfold cc1_velocity_gate_scan k1_part186 k1_part14
    simp only [dif_neg h]
    sl_kernel_rfl

end Cert.Proof.ScanEqIdeal

end
-- ==== Proof.ScanDet.lean ====
/-
  The scan's body always ends, and what it leaves in the memory, in the last value prediction and at the last chunk in
  the read-out is settled by the keys and, at every chunk but the first, by the memory and the last value prediction.
-/
module

public import proofs.«01_k».proof.Proof.ScanBody
public import proofs.«01_k».proof.Proof.Windows

@[expose] public section

noncomputable section

namespace Cert.Proof.Scan

open Idealize.ShloMosaic
open Cert.Proof.Body

variable {F : FTy → Type} [FloatOps F]

/-- The contents that are settled: the keys; the read-out if `r`; the memory and the last prediction if `m` and `v`; the
    unit keys if `u`; the predictions of the first `g` rows of the batch, their overlaps; the first `t` updates. -/
def dom (r m v u : Prop) (g h t : ℕ) : Dom bank
  | 0, _ => True
  | 1, _ => r
  | 2, _ => m
  | 3, i => (i 1).val < t
  | 4, i => (i 0).val < g
  | 5, i => (i 0).val < h
  | 6, _ => u
  | 7, _ => v

/-- The buffers a chunk may change. -/
def writes (r : Prop) (j : Fin 8) : Prop := j ≠ 0 ∧ (j = 1 → r)

variable {q r m v u : Prop} {g h t : ℕ}

/-- An index of three axes lies in a window. -/
theorem in3 {A B C a b c x y z : ℕ} {i : (T3 A B C).Idx} (h : (a ≤ (i 0).val ∧ (i 0).val < a + x) ∧ (b ≤ (i 1).val ∧ (i 1).val < b + y) ∧
    (c ≤ (i 2).val ∧ (i 2).val < c + z)) : ∀ d : Fin 3, (![a, b, c] : Fin 3 → ℕ) d ≤ (i d).val ∧ (i d).val < (![a, b, c] : Fin 3 → ℕ) d + (![x, y, z] : Fin 3 → ℕ) d := by
  intro d
  match d with
  | 0 => exact h.1
  | 1 => exact h.2.1
  | 2 => exact h.2.2

/-- An index of two axes lies in a window. -/
theorem in2 {A B a b x y : ℕ} {i : (T2 A B).Idx} (h : (a ≤ (i 0).val ∧ (i 0).val < a + x) ∧ (b ≤ (i 1).val ∧ (i 1).val < b + y)) :
    ∀ d : Fin 2, (![a, b] : Fin 2 → ℕ) d ≤ (i d).val ∧ (i d).val < (![a, b] : Fin 2 → ℕ) d + (![x, y] : Fin 2 → ℕ) d := by
  intro d
  match d with
  | 0 => exact h.1
  | 1 => exact h.2

/-- An index is below its first axis. -/
theorem lt0 {A B C : ℕ} (i : (T3 A B C).Idx) : (i 0).val < A := (i 0).isLt
/-- An index is below its second axis. -/
theorem lt1 {A B C : ℕ} (i : (T3 A B C).Idx) : (i 1).val < B := (i 1).isLt
/-- An index is below its third axis. -/
theorem lt2 {A B C : ℕ} (i : (T3 A B C).Idx) : (i 2).val < C := (i 2).isLt
/-- An index of two axes is below its first. -/
theorem lt0' {A B : ℕ} (i : (T2 A B).Idx) : (i 0).val < A := (i 0).isLt
/-- An index of two axes is below its second. -/
theorem lt1' {A B : ℕ} (i : (T2 A B).Idx) : (i 1).val < B := (i 1).isLt

/-- Every buffer but the keys and the read-out may be changed. -/
theorem writes_of {q : Prop} {j : Fin 8} (h0 : j ≠ 0) (h1 : j ≠ 1) : writes q j := ⟨h0, fun h => absurd h h1⟩

/-- After the start the memory and the last prediction are settled. -/
theorem start_det : Cmd.Det (writes q) (dom r m v u g h t) (start (F := F)) (dom r True True u g h t) := by
  refine Cmd.Det.skip (Cmd.Det.store (dom r True v u g h t) (writes_of (by decide) (by decide)) (fun i _ => .inr ?_) ?_
    (Cmd.Det.skip (Cmd.Det.store (dom r True True u g h t) (writes_of (by decide) (by decide)) (fun i _ => .inr ?_) ?_ (Cmd.Det.ret fun _ _ h => h))))
  · exact in3 (by have := lt0 i; have := lt1 i; have := lt2 i; omega)
  · intro j i hj hi
    fin_cases j <;> first | exact hi | exact absurd rfl hj
  · exact in2 (by have := lt0' i; have := lt1' i; omega)
  · intro j i hj hi
    fin_cases j <;> first | exact hi | exact absurd rfl hj

/-- A row of the batch has its predictions and overlaps settled by its preparation. -/
theorem prepare_det (n : ℕ) (hn : n < 32) (a : PUnit) :
    Cmd.Det (writes q) (dom r True True True n n t) (prepare (F := F) n hn a) (dom r True True True (n + 1) (n + 1) t) := by
  refine Cmd.Det.load (fun _ _ => trivial) fun kn => Cmd.Det.load (fun _ _ => trivial) fun N => ?_
  refine Cmd.Det.skip (Cmd.Det.store (dom r True True True (n + 1) n t) (writes_of (by decide) (by decide)) (fun i hi => ?_) ?_
    (Cmd.Det.skip (Cmd.Det.store (dom r True True True (n + 1) (n + 1) t) (writes_of (by decide) (by decide)) (fun i hi => ?_) ?_ (Cmd.Det.ret fun _ _ h => h))))
  · by_cases hl : (i 0).val < n
    · exact .inl hl
    · exact .inr (in3 (by have : (i 0).val < n + 1 := hi; have := lt1 i; have := lt2 i; omega))
  · intro j i hj hi
    fin_cases j <;> first | exact hi | exact absurd rfl hj
  · by_cases hl : (i 0).val < n
    · exact .inl hl
    · exact .inr (in3 (by have : (i 0).val < n + 1 := hi; have := lt1 i; have := lt2 i; omega))
  · intro j i hj hi
    fin_cases j <;> first | exact hi | exact absurd rfl hj

/-- What is settled once the predictions are prepared: everything but the read-out and the updates from `t` on. -/
abbrev full (r : Prop) (t : ℕ) : Dom bank := dom r True True True 32 32 t

/-- Catching up one row of a sub-block reads what is settled and leaves it settled. -/
theorem catchRow_det (j : ℕ) (hj : j + 1 < 8) (n : ℕ) (hn : n < 32) (a : PUnit) :
    Cmd.Det (writes q) (full r (8 * (j + 1))) (catchRow (F := F) j hj n hn a) (full r (8 * (j + 1))) := by
  refine Cmd.Det.load (fun i _ => lt0 i) fun A => Cmd.Det.load (fun i _ => lt0 i) fun P => Cmd.Det.load (fun i hi => ?_) fun U => ?_
  · have := (hi 1).2
    show (i 1).val < 8 * (j + 1)
    simpa using this
  · refine Cmd.Det.skip (Cmd.Det.store (full r (8 * (j + 1))) (writes_of (by decide) (by decide)) (fun i hi => .inl hi) ?_ (Cmd.Det.ret fun _ _ h => h))
    exact fun _ _ _ hi => hi

/-- So does catching up a sub-block. -/
theorem catchBlock_det : ∀ (j : ℕ) (hj : j < 8), Cmd.Det (writes q) (full r (8 * j)) (catchBlock (F := F) j hj) (full r (8 * j))
  | 0, _ => Cmd.Det.ret fun _ _ h => h
  | j + 1, hj => Cmd.Det.loop (fun _ => full r (8 * (j + 1))) fun n hn a => catchRow_det j hj n hn a

/-- So does following a row by the updates within its sub-block. -/
theorem follow_det (j : ℕ) (hj : j < 8) (i : ℕ) (hi : i < 8) (p : ℕ → FVec F (T2 32 128) .f32) (x vp : FVec F (T2 32 128) .f32) :
    Cmd.Det (writes q) (full r t) (follow j hj i hi p x vp) (full r t) := by
  unfold follow
  split
  · exact Cmd.Det.ret fun _ _ h => h
  · exact Cmd.Det.load (fun i _ => lt0 i) fun A => Cmd.Det.ret fun _ _ h => h

/-- A row of a sub-block settles its update. -/
theorem row_det (c : BitVec 32) (th : FVec F (T2 32 64) .f32) (j : ℕ) (hj : j < 8) (i : ℕ) (hi : i < 8) (x : Carry F) :
    Cmd.Det (writes q) (full r (8 * j + i)) (row c th j hj i hi x) (full r (8 * j + (i + 1))) := by
  refine Cmd.Det.load (fun _ _ => trivial) fun k => Cmd.Det.skip (Cmd.Det.store (full r (8 * j + (i + 1))) (writes_of (by decide) (by decide)) (fun y hy => ?_) ?_ ?_)
  · by_cases hl : (y 1).val < 8 * j + i
    · exact .inl hl
    · exact .inr (in3 (by have : (y 1).val < 8 * j + (i + 1) := hy; have := lt0 y; have := lt2 y; omega))
  · intro j' y hj hy
    fin_cases j' <;> first | exact hy | exact absurd rfl hj
  · exact follow_det j hj i hi _ _ _

/-- A sub-block settles its eight updates. -/
theorem block_det (c : BitVec 32) (th : FVec F (T2 32 64) .f32) (j : ℕ) (hj : j < 8) (vpp : FVec F (T2 32 128) .f32) :
    Cmd.Det (writes q) (full r (8 * j)) (block c th j hj vpp) (full r (8 * (j + 1))) := by
  refine Cmd.Det.bind (catchBlock_det j hj) fun _ => Cmd.Det.load (fun i _ => lt0 i) fun P => Cmd.Det.ret_bind ?_
  exact Cmd.Det.bind (M := full r (8 * (j + 1)))
    (Cmd.Det.loop (fun i => full r (8 * j + i)) fun i hi a => row_det c th j hj i hi a) fun _ => Cmd.Det.ret fun _ _ h => h

/-- Absorbing the updates of one row of the batch leaves everything settled. -/
theorem absorbRow_det (n : ℕ) (hn : n < 32) (a : PUnit) :
    Cmd.Det (writes q) (full r 64) (absorbRow (F := F) n hn a) (full r 64) := by
  refine Cmd.Det.load (fun _ _ => trivial) fun N => Cmd.Det.load (fun _ _ => trivial) fun kn => Cmd.Det.load (fun i _ => lt1 i) fun U => ?_
  refine Cmd.Det.skip (Cmd.Det.store (full r 64) (writes_of (by decide) (by decide)) (fun i _ => .inl trivial) (fun _ _ _ hi => hi) (Cmd.Det.ret fun _ _ h => h))

/-- What follows the start settles the memory, the last prediction and, at the last chunk, the read-out. -/
theorem rest_det (fl vl : F .f32) (c : BitVec 32) :
    Cmd.Det (writes (isChunk c 7#32)) (dom r True True u 0 0 0) (rest fl vl c) (full (r ∨ isChunk c 7#32) 64) := by
  refine Cmd.Det.load (fun _ _ => trivial) fun k => Cmd.Det.skip (Cmd.Det.store (dom r True True True 0 0 0) (writes_of (by decide) (by decide)) (fun i _ => .inr ?_) ?_ ?_)
  · exact in3 (by have := lt0 i; have := lt1 i; have := lt2 i; omega)
  · intro j i hj hi
    fin_cases j <;> first | exact hi | exact absurd rfl hj
  refine Cmd.Det.ret_bind (Cmd.Det.bind (M := full r 0) (Cmd.Det.loop (fun i => dom r True True True i i 0) fun i hi a => prepare_det i hi a) fun _ => ?_)
  refine Cmd.Det.load (fun _ _ => trivial) fun vpp => ?_
  refine Cmd.Det.ret_bind (Cmd.Det.bind (M := full r 64) (Cmd.Det.loop (fun j => full r (8 * j)) fun j hj a => block_det c _ j hj a) fun vp => ?_)
  refine Cmd.Det.skip (Cmd.Det.store (full r 64) (writes_of (by decide) (by decide)) (fun i _ => .inl trivial) (fun _ _ _ hi => hi) ?_)
  refine Cmd.Det.ret_bind (Cmd.Det.bind (M := full r 64) (Cmd.Det.cond (fun _ => Cmd.Det.loop (fun _ => full r 64) fun n hn a => absorbRow_det n hn a) fun _ => Cmd.Det.ret fun _ _ h => h) fun _ => ?_)
  refine Cmd.Det.cond (fun h7 => Cmd.Det.skip (Cmd.Det.store (full True 64) ⟨by decide, fun _ => h7⟩ (fun i _ => .inr ?_) ?_ (Cmd.Det.ret ?_)))
    fun h7 => Cmd.Det.ret ?_
  · exact in2 (by have := lt0' i; have := lt1' i; omega)
  · intro j i hj hi
    fin_cases j <;> first | exact hi | exact absurd rfl hj
  · intro j i hi
    fin_cases j <;> first | exact hi | exact trivial
  · intro j i hi
    fin_cases j <;> first | exact hi | exact hi.resolve_right h7

/-- The whole body. -/
theorem body_det (fl vl : F .f32) (c : BitVec 32) :
    Cmd.Det (writes (isChunk c 7#32)) (dom False (¬isChunk c 0#32) (¬isChunk c 0#32) False 0 0 0) (body fl vl c) (full (isChunk c 7#32) 64) := by
  refine Cmd.Det.bind (M := dom False True True False 0 0 0) (Cmd.Det.cond (fun _ => start_det) fun h => Cmd.Det.ret ?_)
    fun _ => (rest_det fl vl c).mono (fun _ _ h => h) ?_
  · intro j i hi
    fin_cases j <;> first | exact hi | exact h
  · intro j i hi
    fin_cases j <;> first | exact hi | exact .inr hi

/-- Contents with given keys, memory and last value prediction. -/
def given (k : FVec F (T3 32 64 128) .f32) (N : FVec F (T3 32 128 128) .f32) (vpp : FVec F (T2 32 128) .f32) : State bank (Elt F)
  | 0 => k
  | 2 => N
  | 7 => vpp
  | 1 => fun _ => Scalar.ofBits .f32 0x00000000#32
  | 3 => fun _ => Scalar.ofBits .f32 0x00000000#32
  | 4 => fun _ => Scalar.ofBits .f32 0x00000000#32
  | 5 => fun _ => Scalar.ofBits .f32 0x00000000#32
  | 6 => fun _ => Scalar.ofBits .f32 0x00000000#32

/-- What one chunk leaves. -/
def after (fl vl : F .f32) (c : BitVec 32) (k : FVec F (T3 32 64 128) .f32) (N : FVec F (T3 32 128 128) .f32) (vpp : FVec F (T2 32 128) .f32) : State bank (Elt F) :=
  (((body fl vl c).run (given k N vpp)).map Prod.snd).getD (given k N vpp)

/-- From contents with nothing left over the body ends with these. -/
theorem after_run (fl vl : F .f32) (c : BitVec 32) (k : FVec F (T3 32 64 128) .f32) (N : FVec F (T3 32 128 128) .f32) (vpp : FVec F (T2 32 128) .f32) :
    (body fl vl c).run (given k N vpp) = some (⟨⟩, after fl vl c k N vpp) := by
  obtain ⟨a, t, t', d, -⟩ := body_det fl vl c (given k N vpp) (given k N vpp) fun _ _ _ => rfl
  unfold after
  rw [d]; rfl

/-- From any contents with these keys and, except at the first chunk, this memory and this last prediction, the body ends
    with the same memory and last prediction; with the same read-out at the last chunk and its own read-out before; and with the keys as they were. -/
theorem body_run (fl vl : F .f32) (c : BitVec 32) (k : FVec F (T3 32 64 128) .f32) (N : FVec F (T3 32 128 128) .f32) (vpp : FVec F (T2 32 128) .f32)
    (s : State bank (Elt F)) (h0 : s 0 = k) (h2 : ¬isChunk c 0#32 → s 2 = N) (h7 : ¬isChunk c 0#32 → s 7 = vpp) :
    ∃ t, (body fl vl c).run s = some (⟨⟩, t) ∧ t 0 = k ∧ t 2 = after fl vl c k N vpp 2 ∧ t 7 = after fl vl c k N vpp 7 ∧
      (¬isChunk c 7#32 → t 1 = s 1) ∧ (isChunk c 7#32 → t 1 = after fl vl c k N vpp 1) := by
  obtain ⟨a, t, t', d, d', ht, hw⟩ := body_det fl vl c s (given k N vpp) (by
    intro j i hi
    fin_cases j
    · exact congrFun h0 i
    · exact absurd hi id
    · exact congrFun (h2 hi) i
    · exact absurd hi (Nat.not_lt_zero _)
    · exact absurd hi (Nat.not_lt_zero _)
    · exact absurd hi (Nat.not_lt_zero _)
    · exact absurd hi id
    · exact congrFun (h7 hi) i)
  have e := d'.symm.trans (after_run fl vl c k N vpp)
  obtain rfl : t' = after fl vl c k N vpp := by simpa using e
  exact ⟨t, d, (hw 0 fun h => h.1 rfl).trans h0, funext fun i => ht 2 i trivial, funext fun i => ht 7 i trivial,
    fun h => hw 1 fun h' => h (h'.2 rfl), fun h => funext fun i => ht 1 i h⟩

end Cert.Proof.Scan

end
-- ==== Proof.ScanRegionIdeal.lean ====
/-
  The scan's call of the idealized program: what its pipeline holds at each grid point, and its body's obligation.
-/
module

public import proofs.«01_k».proof.Proof.Gen.KernelIdeal.Launch
public import proofs.«01_k».proof.Proof.Gen.KernelIdeal.Points
public import proofs.«01_k».proof.Proof.ScanEqIdeal
public import proofs.«01_k».proof.Proof.ScanDet
public import proofs.«01_k».proof.Proof.Owns
public import Idealize.ShloMosaic.Lib.Pipeline.FrameBody

@[expose] public section

noncomputable section

namespace Cert.Proof.ScanRegionIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen
open Cert.Proof.Body Cert.Proof.ScanEqIdeal

variable [Cert.KernelIdeal.Facts]
variable {F : FTy → Type} [FloatOps F] [Named F]

local notation "𝕄" => MT nD τ sig Unit (Elt F) ℕ (UR sig nD τ) ℕ

variable (W : Dev nD → Valuation τ sig (Elt F))

/-- The block of a window's array at a point. -/
abbrev blk (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

/-- The chunk at a point, as the body receives it. -/
abbrev chunk (t : Fin cfg1.N) : BitVec 32 := BitVec.ofNat 32 (grid1.coords t 1).val

/-- The body's two named numbers. -/
abbrev fl : F .f32 := Named.named κ "floor2" 0x2B8CBCCC#32
abbrev vl : F .f32 := Named.named κ "vel2" 0x3C23D70A#32

/-- The memory, last prediction and read-out after the first `n` points. -/
def acc (c : Dev nD) : ℕ → State Scan.bank (Elt F)
  | 0 => Scan.given (F := F) (fun _ => Scalar.ofBits .f32 0x00000000#32) (fun _ => Scalar.ofBits .f32 0x00000000#32) (fun _ => Scalar.ofBits .f32 0x00000000#32)
  | n + 1 => if h : n < cfg1.N then Scan.after (F := F) fl vl (chunk ⟨n, h⟩) (blk W c 0 ⟨n, h⟩) (acc c n 2) (acc c n 7) else acc c n

/-- One more point of the grid runs one more chunk. -/
theorem acc_succ (c : Dev nD) (t : Fin cfg1.N) :
    acc W c (t.val + 1) = Scan.after (F := F) fl vl (chunk t) (blk W c 0 t) (acc W c t.val 2) (acc W c t.val 7) := by
  rw [acc]; exact dif_pos t.isLt

/-- The read-out's block at a point. -/
def left (c : Dev nD) (t : Fin cfg1.N) : (Scan.bank.shp 1).Idx → Elt F (Scan.bank.el 1) := acc W c (t.val + 1) 1

/-- The scratch buffers owned at given contents. -/
def scratch (c : Dev nD) (s : State Scan.bank (Elt F)) : sProp 𝕄 :=
  iprop(owns (c : Thread nD τ) (Memref.whole cc1_scratch0) fullShare (s 2) ∗ owns (c : Thread nD τ) (Memref.whole cc1_scratch1) fullShare (s 3)
    ∗ owns (c : Thread nD τ) (Memref.whole cc1_scratch2) fullShare (s 4) ∗ owns (c : Thread nD τ) (Memref.whole cc1_scratch3) fullShare (s 5)
    ∗ owns (c : Thread nD τ) (Memref.whole cc1_scratch4) fullShare (s 6) ∗ owns (c : Thread nD τ) (Memref.whole cc1_scratch5) fullShare (s 7))

/-- Contents of the scratch buffers as contents of the family. -/
def ofScratch (f2 : (Scan.bank.shp 2).Idx → Elt F (Scan.bank.el 2)) (f3 : (Scan.bank.shp 3).Idx → Elt F (Scan.bank.el 3))
    (f4 : (Scan.bank.shp 4).Idx → Elt F (Scan.bank.el 4)) (f5 : (Scan.bank.shp 5).Idx → Elt F (Scan.bank.el 5))
    (f6 : (Scan.bank.shp 6).Idx → Elt F (Scan.bank.el 6)) (f7 : (Scan.bank.shp 7).Idx → Elt F (Scan.bank.el 7)) : State Scan.bank (Elt F)
  | 0 => fun _ => Scalar.ofBits .f32 0x00000000#32
  | 1 => fun _ => Scalar.ofBits .f32 0x00000000#32
  | 2 => f2
  | 3 => f3
  | 4 => f4
  | 5 => f5
  | 6 => f6
  | 7 => f7

/-- The other scoped buffers. -/
abbrev others (c : Dev nD) : sProp 𝕄 := Pipeline.scopedRestBut (Ix := Unit) (Name := ℕ) (U := UR sig nD τ) (Lvl := ℕ) (Val := Elt F) spec1 c
  [cc1_scratch0, cc1_scratch1, cc1_scratch2, cc1_scratch3, cc1_scratch4, cc1_scratch5]

/-- Between points: the scratch holds, after the first point, the memory and the last prediction. -/
def between (c : Dev nD) (k : ℕ) : sProp 𝕄 :=
  iprop((∃ s : State Scan.bank (Elt F), ⌜k ≠ 0 → s 2 = acc W c k 2 ∧ s 7 = acc W c k 7⌝ ∗ scratch c s) ∗ others c)

/-- The pipeline's proof data. -/
def dat (c : Dev nD) : Dat τ (Elt F) Unit ℕ (UR sig nD τ) ℕ cfg1 c where
  A w := W c (Pipeline.arrRef spec1 w)
  after w t := match w with
    | ⟨0, _⟩ => blk W c 0 t
    | ⟨1, _⟩ => left W c t
  Φ k := between W c k.val
  q _ := fullShare
  owed _ := 0

/-- The arrays of the pipeline are those the program has when the call starts. -/
theorem A_eq (c : Dev nD) (w : Fin cfg1.W) : (dat W c).A w = W c (Pipeline.arrRef spec1 w) := rfl

/-- The block that the window number 0 holds at a point. -/
theorem before_0 (c : Dev nD) (t : Fin cfg1.N) (d) : (dat W c).before 0 t d = blk W c 0 t :=
  (dat W c).before_in_eq_fetched 0 rfl (fun _ => rfl) (fun _ _ _ => rfl) (fun _ => rfl) t d

/-- The buffers at a point: the staging buffers and the scratch. -/
abbrev at' (t : Fin cfg1.N) : Mems Scan.bank sig :=
  mems (st1_0 t) (st1_1 t) (Memref.whole cc1_scratch0) (Memref.whole cc1_scratch1) (Memref.whole cc1_scratch2) (Memref.whole cc1_scratch3)
    (Memref.whole cc1_scratch4) (Memref.whole cc1_scratch5)

/-- The buffers' contents: the keys' block, the read-out's buffer at anything, the scratch's. -/
def given (c : Dev nD) (t : Fin cfg1.N) (x : (Scan.bank.shp 1).Idx → Elt F (Scan.bank.el 1)) (s : State Scan.bank (Elt F)) : State Scan.bank (Elt F)
  | 0 => blk W c 0 t
  | 1 => x
  | 2 => s 2
  | 3 => s 3
  | 4 => s 4
  | 5 => s 5
  | 6 => s 6
  | 7 => s 7

/-- The family's buffers owned, one by one. -/
theorem owns_list (c : Dev nD) (t : Fin cfg1.N) (s : State Scan.bank (Elt F)) :
    (Owns c (at' t) s : sProp 𝕄) = iprop(owns (c : Thread nD τ) (st1_0 t) fullShare (s 0) ∗ owns (c : Thread nD τ) (st1_1 t) fullShare (s 1) ∗ scratch c s) := by
  unfold Owns scratch
  rw [bigSep_univ_eq_bigSepL [(0 : Fin 8), 1, 2, 3, 4, 5, 6, 7] (by decide) (by decide)]
  rfl

/-- The body's program at a point. -/
theorem prog_eq (t : Fin cfg1.N) : (defs₀ (F := F)) .tc cfg1.body (cfg1.bodyArgs t (cfg1.slots t)) = (Scan.body (F := F) fl vl (chunk t)).toProg (at' t) :=
  body_eq (grid1.coords t) (st1_0 t) (hstage1_0 ((cfg1.slots t 0).cast nbuf1_0)) (st1_1 t) (hstage1_1 ((cfg1.slots t 1).cast nbuf1_1))
    (Memref.whole cc1_scratch0) (Memref.isWhole_whole _) (Memref.whole cc1_scratch1) (Memref.isWhole_whole _) (Memref.whole cc1_scratch2) (Memref.isWhole_whole _)
    (Memref.whole cc1_scratch3) (Memref.isWhole_whole _) (Memref.whole cc1_scratch4) (Memref.isWhole_whole _) (Memref.whole cc1_scratch5) (Memref.isWhole_whole _)

/-- The first point is a first chunk. -/
theorem first (t : Fin cfg1.N) (h : ¬Scan.isChunk (chunk t) 0#32) : t.val ≠ 0 := fun e =>
  h ((by decide : ∀ t : Fin grid1.N, t.val = 0 → Scan.isChunk (BitVec.ofNat 32 (grid1.coords t 1).val) 0#32) t e)

/-- The read-out's window is idle, and not written back, exactly away from the last chunk. -/
theorem idle_of_not (t : Fin cfg1.N) (h : ¬Scan.isChunk (chunk t) 7#32) : cfg1.idle (1 : Fin 2) (cfg1.grid.coords t) = true ∧ (cfg1.win (1 : Fin 2)).flush t = false := by
  have e := (by decide : ∀ t : Fin grid1.N, ¬Scan.isChunk (BitVec.ofNat 32 (grid1.coords t 1).val) 7#32 → idle1 1 (grid1.coords t) = true ∧ ¬t.val % 8 = 7) t h
  exact ⟨e.1, Bool.eq_false_iff.mpr fun f => e.2 ((flush1_1 t).mp f)⟩

/-- The read-out's window is in use at the last chunk. -/
theorem busy_of (t : Fin cfg1.N) (h : Scan.isChunk (chunk t) 7#32) : cfg1.idle (1 : Fin 2) (cfg1.grid.coords t) = false :=
  (by decide : ∀ t : Fin grid1.N, Scan.isChunk (BitVec.ofNat 32 (grid1.coords t 1).val) 7#32 → idle1 1 (grid1.coords t) = false) t h

/-- The body meets its obligation at every point. -/
theorem body_obligation (c : Dev nD) : BodyObligation (dat W c) (defs₀ (F := F)) Variants.none () Set.univ := fun t => by
  rw [bigSep_W1, bigSep_W1, prog_eq]
  rw [show (dat W c).Φ t.castSucc = between W c t.val from rfl, show (dat W c).Φ t.succ = between W c (t.val + 1) from rfl]
  unfold between
  iintro ⟨⟨⟨%s, %hs, Hs⟩, HΦ⟩, HO, ⟨%d0, H0⟩, ⟨%d1, H1⟩⟩
  obtain ⟨u, hu, h0, h2, h7, hn, hl⟩ := Scan.body_run (F := F) fl vl (chunk t) (blk W c 0 t) (acc W c t.val 2) (acc W c t.val 7)
    (given W c t ((dat W c).before 1 t d1) s) rfl (fun h => (hs (first t h)).1) (fun h => (hs (first t h)).2)
  iapply (wp_cmd Variants.none c none Set.univ (at' t) _ hu)
  rw [owns_list, owns_list]
  isplitl [H0 H1 Hs]
  · isplitl [H0]; · iapply (Entails.of_eq (congrArg (owns (c : Thread nD τ) (st1_0 t) fullShare) (before_0 W c t d0))); iexact H0
    isplitl [H1]; · iexact H1
    iexact Hs
  iintro ⟨H0, H1, Hs⟩
  isplitl [HΦ Hs]
  · isplitl [Hs]
    · iexists u
      isplitr
      · ipureintro
        intro _
        rw [acc_succ]
        exact ⟨h2, h7⟩
      iexact Hs
    iexact HΦ
  isplitl [HO]; · iexact HO
  isplitl [H0]
  · iapply (Entails.of_eq (congrArg (owns (c : Thread nD τ) (st1_0 t) fullShare) h0)); iexact H0
  by_cases h : Scan.isChunk (chunk t) 7#32
  · rw [busy_of t h]
    iapply (Entails.of_eq (congrArg (owns (c : Thread nD τ) (st1_1 t) fullShare) (show u 1 = left W c t by unfold left; rw [acc_succ]; exact hl h)))
    iexact H1
  · rw [(idle_of_not t h).1, (idle_of_not t h).2]
    iexists d1
    iapply (Entails.of_eq (congrArg (owns (c : Thread nD τ) (st1_1 t) fullShare) (hn h)))
    iexact H1

end Cert.Proof.ScanRegionIdeal

end
-- ==== Proof.OutBody.lean ====
/-
  The body of the output projection, as a command over its six buffers.
-/
module

public import proofs.«01_k».proof.Proof.ScanBody

@[expose] public section

noncomputable section

namespace Cert.Proof.Out

open Idealize.ShloMosaic
open Cert.Proof.Body
open Cert.Proof.Scan (T1 T2 inb2 pos2)

/-- The buffers: 0 the read-out, 1 and 2 its projection and bias, 3 and 4 a block of the output weights and bias,
    5 the block of logits. -/
abbrev bank : Bank 6 where
  sp _ := .vmem
  el _ := .f32
  shp
    | 0 => T2 64 128
    | 1 => T2 128 128
    | 2 => T2 1 128
    | 3 => T2 128 3200
    | 4 => T2 1 3200
    | 5 => T2 64 3200

variable {F : FTy → Type} [FloatOps F]

/-- The block of logits. -/
def logits (r : FVec F (T2 64 128) .f32) (wr : FVec F (T2 128 128) .f32) (br : FVec F (T2 1 128) .f32) (wo : FVec F (T2 128 3200) .f32)
    (bo : FVec F (T2 1 3200) .f32) : FVec F (T2 64 3200) .f32 :=
  addf (matmul (DotDims.plain 64 128 3200) none
      (addf (matmul (DotDims.plain 64 128 128) none (shapeCast (T2 64 128) r rfl) wr (constant (T2 64 128) .f32 0x00000000#32))
        (broadcastTo (T2 64 128) (shapeCast (T2 1 128) br rfl)))
      wo (constant (T2 64 3200) .f32 0x00000000#32))
    (broadcastTo (T2 64 3200) (shapeCast (T2 1 3200) bo rfl))

/-- The body. -/
def body : Cmd bank (Elt F) PUnit := do
  let r : FVec F (T2 64 128) .f32 ← Cmd.ld (B := bank) 0 ![0, 0] ![64, 128] (inb2 (by decide)) (pos2 (by decide))
  let wr : FVec F (T2 128 128) .f32 ← Cmd.ld (B := bank) 1 ![0, 0] ![128, 128] (inb2 (by decide)) (pos2 (by decide))
  let br : FVec F (T2 1 128) .f32 ← Cmd.ld (B := bank) 2 ![0, 0] ![1, 128] (inb2 (by decide)) (pos2 (by decide))
  let wo : FVec F (T2 128 3200) .f32 ← Cmd.ld (B := bank) 3 ![0, 0] ![128, 3200] (inb2 (by decide)) (pos2 (by decide))
  let bo : FVec F (T2 1 3200) .f32 ← Cmd.ld (B := bank) 4 ![0, 0] ![1, 3200] (inb2 (by decide)) (pos2 (by decide))
  let _ ← Cmd.ld (B := bank) 5 ![0, 0] ![64, 3200] (inb2 (by decide)) (pos2 (by decide))
  Cmd.st (B := bank) 5 ![0, 0] ![64, 3200] (inb2 (by decide)) (pos2 (by decide)) (logits r wr br wo bo : FVec F (T2 64 3200) .f32)

end Cert.Proof.Out

end
-- ==== Proof.OutEqIdeal.lean ====
/-
  The idealized kernel's output body is the command `Out.body` on its memrefs.
-/
module

public import proofs.«01_k».proof.KernelIdeal
public import proofs.«01_k».proof.Proof.OutBody

@[expose] public section

set_option maxRecDepth 65536

noncomputable section

namespace Cert.Proof.OutEqIdeal

open Idealize.ShloMosaic Idealize.SL.Sem
open Idealize.ShloMosaic.Tactic
open Cert.KernelIdeal
open Cert.Proof.Body

variable [Cert.KernelIdeal.Facts]
variable {F : FTy → Type} [FloatOps F] [Named F]

/-- The body's memrefs, by number. -/
abbrev mems (a2 : Memref sig .tc .vmem S64x128 .f32) (a3 : Memref sig .tc .vmem S128x128 .f32) (a4 : Memref sig .tc .vmem S1x128 .f32)
    (a5 : Memref sig .tc .vmem S128x3200 .f32) (a6 : Memref sig .tc .vmem S1x3200 .f32) (a7 : Memref sig .tc .vmem S64x3200 .f32) : Mems Out.bank sig
  | 0 => a2
  | 1 => a3
  | 2 => a4
  | 3 => a5
  | 4 => a6
  | 5 => a7

/-- The body, as the program has it, is the command. -/
theorem body_eq (i : grid2.Coords) (a2 : Memref sig .tc .vmem S64x128 .f32) (h2 : a2.IsWhole) (a3 : Memref sig .tc .vmem S128x128 .f32) (h3 : a3.IsWhole)
    (a4 : Memref sig .tc .vmem S1x128 .f32) (h4 : a4.IsWhole) (a5 : Memref sig .tc .vmem S128x3200 .f32) (h5 : a5.IsWhole)
    (a6 : Memref sig .tc .vmem S1x3200 .f32) (h6 : a6.IsWhole) (a7 : Memref sig .tc .vmem S64x3200 .f32) (h7 : a7.IsWhole) :
    (cc2_out_proj (F := F) i a2 h2 a3 h3 a4 h4 a5 h5 a6 h6 a7 h7 : Prog (TpuEff nD τ sig (Elt F) Λ₀ .tc) PUnit)
      = Out.body.toProg (mems a2 a3 a4 a5 a6 a7) := by
  sl_kernel_rfl

end Cert.Proof.OutEqIdeal

end
-- ==== Proof.OutRun.lean ====
/-
  What the output projection's body leaves.
-/
module

public import proofs.«01_k».proof.Proof.OutBody
public import proofs.«01_k».proof.Proof.Windows

@[expose] public section

noncomputable section

namespace Cert.Proof.Out

open Idealize.ShloMosaic
open Cert.Proof.Body
open Cert.Proof.Scan (T1 T2 inb2 pos2)

variable {F : FTy → Type} [FloatOps F]

/-- The logits of the buffers' contents. -/
def result (s : State bank (Elt F)) : FVec F (T2 64 3200) .f32 := logits (s 0) (s 1) (s 2) (s 3) (s 4)

/-- The body writes the logits, and nothing else. -/
theorem body_run (s : State bank (Elt F)) : (body (F := F)).run s = some (⟨⟩, Function.update s 5 (result s)) := by
  have e0 := window_full (s := T2 64 128) (s 0) ![0, 0] (inb2 (by decide))
  have e1 := window_full (s := T2 128 128) (s 1) ![0, 0] (inb2 (by decide))
  have e2 := window_full (s := T2 1 128) (s 2) ![0, 0] (inb2 (by decide))
  have e3 := window_full (s := T2 128 3200) (s 3) ![0, 0] (inb2 (by decide))
  have e4 := window_full (s := T2 1 3200) (s 4) ![0, 0] (inb2 (by decide))
  have e5 := put_full (s := T2 64 3200) (s 5) ![0, 0] (inb2 (by decide)) (result s)
  have e : (body (F := F)).run s = some (⟨⟩, Function.update s 5 (VecWindow.put (s 5) ![0, 0] ![64, 3200]
    (logits (VecWindow.window (s 0) ![0, 0] (T2 64 128).size (inb2 (by decide))) (VecWindow.window (s 1) ![0, 0] (T2 128 128).size (inb2 (by decide)))
      (VecWindow.window (s 2) ![0, 0] (T2 1 128).size (inb2 (by decide))) (VecWindow.window (s 3) ![0, 0] (T2 128 3200).size (inb2 (by decide)))
      (VecWindow.window (s 4) ![0, 0] (T2 1 3200).size (inb2 (by decide)))))) := rfl
  rw [e]
  refine congrArg (fun x => some (PUnit.unit, Function.update s 5 x)) (.trans ?_ e5)
  exact congrArg (VecWindow.put (s 5) ![0, 0] ![64, 3200]) (by
    unfold result; exact congr (congr (congr (congr (congrArg logits e0) e1) e2) e3) e4)

end Cert.Proof.Out

end
-- ==== Proof.OutRegionIdeal.lean ====
/-
  The output projection's call of the idealized program: what its pipeline holds at each grid point, and its body's obligation.
-/
module

public import proofs.«01_k».proof.Proof.Gen.KernelIdeal.Launch
public import proofs.«01_k».proof.Proof.Gen.KernelIdeal.Points
public import proofs.«01_k».proof.Proof.OutEqIdeal
public import proofs.«01_k».proof.Proof.OutRun
public import proofs.«01_k».proof.Proof.Owns
public import Idealize.ShloMosaic.Lib.Pipeline.FrameBody

@[expose] public section

noncomputable section

namespace Cert.Proof.OutRegionIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen
open Cert.Proof.Body Cert.Proof.OutEqIdeal

variable [Cert.KernelIdeal.Facts]
variable {F : FTy → Type} [FloatOps F] [Named F]

local notation "𝕄" => MT nD τ sig Unit (Elt F) ℕ (UR sig nD τ) ℕ

variable (W : Dev nD → Valuation τ sig (Elt F))

/-- The block of a window's array at a point. -/
abbrev blk (c : Dev nD) (w : Fin cfg2.W) (t : Fin cfg2.N) : ((cfg2.win w).xblock (cfg2.grid.coords t)).Idx → Elt F (cfg2.win w).elt :=
  ((cfg2.win w).blk t).view.read (Elt F) (W c (Pipeline.arrRef spec2 w))

/-- The five inputs' blocks, and the result's buffer at anything. -/
def given (c : Dev nD) (t : Fin cfg2.N) (x : (Out.bank.shp 5).Idx → Elt F (Out.bank.el 5)) : State Out.bank (Elt F)
  | 0 => blk W c 0 t
  | 1 => blk W c 1 t
  | 2 => blk W c 2 t
  | 3 => blk W c 3 t
  | 4 => blk W c 4 t
  | 5 => x

/-- The logits' block at a point. -/
def left (c : Dev nD) (t : Fin cfg2.N) : (Out.bank.shp 5).Idx → Elt F (Out.bank.el 5) :=
  Out.logits (F := F) (blk W c 0 t) (blk W c 1 t) (blk W c 2 t) (blk W c 3 t) (blk W c 4 t)

/-- The pipeline's proof data: arrays as found, inputs left in place, the result's block the logits. -/
def dat (c : Dev nD) : Dat τ (Elt F) Unit ℕ (UR sig nD τ) ℕ cfg2 c where
  A w := W c (Pipeline.arrRef spec2 w)
  after w t := match w with
    | ⟨0, _⟩ => blk W c 0 t
    | ⟨1, _⟩ => blk W c 1 t
    | ⟨2, _⟩ => blk W c 2 t
    | ⟨3, _⟩ => blk W c 3 t
    | ⟨4, _⟩ => blk W c 4 t
    | ⟨5, _⟩ => left W c t
  Φ _ := Pipeline.scopedRest (Ix := Unit) (Name := ℕ) (U := UR sig nD τ) (Lvl := ℕ) (Val := Elt F) spec2 c
  q _ := fullShare
  owed _ := 0

/-- Between its points the call holds only the buffers it does not use. -/
theorem Φ_eq (c : Dev nD) : (dat W c).Φ
    = fun _ => Pipeline.scopedRest (Ix := Unit) (Name := ℕ) (U := UR sig nD τ) (Lvl := ℕ) (Val := Elt F) spec2 c := rfl

/-- The arrays of the pipeline are those the program has when the call starts. -/
theorem A_eq (c : Dev nD) (w : Fin cfg2.W) : (dat W c).A w = W c (Pipeline.arrRef spec2 w) := rfl

/-- The block that the window number 0 holds at a point. -/
theorem before_0 (c : Dev nD) (t : Fin cfg2.N) (d) : (dat W c).before 0 t d = blk W c 0 t :=
  (dat W c).before_in_eq_fetched 0 rfl (fun _ => rfl) (fun _ _ _ => rfl) (fun _ => rfl) t d
/-- The block that the window number 1 holds at a point. -/
theorem before_1 (c : Dev nD) (t : Fin cfg2.N) (d) : (dat W c).before 1 t d = blk W c 1 t :=
  (dat W c).before_in_eq_fetched 1 rfl (fun _ => rfl) (fun _ _ _ => rfl) (fun _ => rfl) t d
/-- The block that the window number 2 holds at a point. -/
theorem before_2 (c : Dev nD) (t : Fin cfg2.N) (d) : (dat W c).before 2 t d = blk W c 2 t :=
  (dat W c).before_in_eq_fetched 2 rfl (fun _ => rfl) (fun _ _ _ => rfl) (fun _ => rfl) t d
/-- The block that the window number 3 holds at a point. -/
theorem before_3 (c : Dev nD) (t : Fin cfg2.N) (d) : (dat W c).before 3 t d = blk W c 3 t :=
  (dat W c).before_in_eq_fetched 3 rfl (fun _ => rfl) (fun _ _ _ => rfl) (fun _ => rfl) t d
/-- The block that the window number 4 holds at a point. -/
theorem before_4 (c : Dev nD) (t : Fin cfg2.N) (d) : (dat W c).before 4 t d = blk W c 4 t :=
  (dat W c).before_in_eq_fetched 4 rfl (fun _ => rfl) (fun _ _ _ => rfl) (fun _ => rfl) t d

/-- The staging buffers at a point. -/
abbrev at' (t : Fin cfg2.N) : Mems Out.bank sig := mems (st2_0 t) (st2_1 t) (st2_2 t) (st2_3 t) (st2_4 t) (st2_5 t)

/-- The family's buffers owned, one by one. -/
theorem owns_list (c : Dev nD) (t : Fin cfg2.N) (s : State Out.bank (Elt F)) :
    (Owns c (at' t) s : sProp 𝕄) = iprop(owns (c : Thread nD τ) (st2_0 t) fullShare (s 0) ∗ owns (c : Thread nD τ) (st2_1 t) fullShare (s 1)
      ∗ owns (c : Thread nD τ) (st2_2 t) fullShare (s 2) ∗ owns (c : Thread nD τ) (st2_3 t) fullShare (s 3) ∗ owns (c : Thread nD τ) (st2_4 t) fullShare (s 4)
      ∗ owns (c : Thread nD τ) (st2_5 t) fullShare (s 5)) := by
  unfold Owns
  rw [bigSep_W2]

/-- The body's program at a point. -/
theorem prog_eq (t : Fin cfg2.N) : (defs₀ (F := F)) .tc cfg2.body (cfg2.bodyArgs t (cfg2.slots t)) = Out.body.toProg (at' t) :=
  body_eq (grid2.coords t) (st2_0 t) (hstage2_0 ((cfg2.slots t 0).cast nbuf2_0)) (st2_1 t) (hstage2_1 ((cfg2.slots t 1).cast nbuf2_1))
    (st2_2 t) (hstage2_2 ((cfg2.slots t 2).cast nbuf2_2)) (st2_3 t) (hstage2_3 ((cfg2.slots t 3).cast nbuf2_3))
    (st2_4 t) (hstage2_4 ((cfg2.slots t 4).cast nbuf2_4)) (st2_5 t) (hstage2_5 ((cfg2.slots t 5).cast nbuf2_5))

/-- The body meets its obligation at every point. -/
theorem body_obligation (c : Dev nD) : BodyObligation (dat W c) (defs₀ (F := F)) Variants.none () Set.univ := fun t => by
  rw [bigSep_W2, bigSep_W2, prog_eq]
  rw [show (dat W c).Φ t.castSucc = (dat W c).Φ t.succ from rfl]
  iintro ⟨HΦ, HO, ⟨%d0, H0⟩, ⟨%d1, H1⟩, ⟨%d2, H2⟩, ⟨%d3, H3⟩, ⟨%d4, H4⟩, ⟨%d5, H5⟩⟩
  iapply (wp_cmd Variants.none c none Set.univ (at' t) _ (Out.body_run (given W c t ((dat W c).before 5 t d5))))
  rw [owns_list, owns_list]
  isplitl [H0 H1 H2 H3 H4 H5]
  · isplitl [H0]; · iapply (Entails.of_eq (congrArg (owns (c : Thread nD τ) (st2_0 t) fullShare) (before_0 W c t d0))); iexact H0
    isplitl [H1]; · iapply (Entails.of_eq (congrArg (owns (c : Thread nD τ) (st2_1 t) fullShare) (before_1 W c t d1))); iexact H1
    isplitl [H2]; · iapply (Entails.of_eq (congrArg (owns (c : Thread nD τ) (st2_2 t) fullShare) (before_2 W c t d2))); iexact H2
    isplitl [H3]; · iapply (Entails.of_eq (congrArg (owns (c : Thread nD τ) (st2_3 t) fullShare) (before_3 W c t d3))); iexact H3
    isplitl [H4]; · iapply (Entails.of_eq (congrArg (owns (c : Thread nD τ) (st2_4 t) fullShare) (before_4 W c t d4))); iexact H4
    iexact H5
  iintro ⟨H0, H1, H2, H3, H4, H5⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  iexact H5

end Cert.Proof.OutRegionIdeal

end
-- ==== Proof.Segments.lean ====
/-
  One kernel call as a segment of a program, for a call without semaphores of its own: entered with every unscoped buffer
  held at one valuation, left with every unscoped buffer held at another.
-/
module

public import Idealize.ShloMosaic.Lib.Pipeline.FrameTail
public import Idealize.ShloMosaic.Lib.Pipeline.RegionsLoop

@[expose] public section

noncomputable section

namespace Cert.Proof.Segments

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} {Λ₀ : Idealize.SL.Sem.Labels} {P : Type} [Fintype P] [DecidableEq P] [∀ e, Nonempty (Val e)]

local notation "𝕄" => MT nD τ sig Unit Val ℕ (UR sig nD τ) ℕ

/-- No level is assigned: no core owes another anything. -/
abbrev L : GSem nD τ sig → Finset Unit := fun _ => ∅
abbrev lv : GSem nD τ sig → Unit → ℕ := fun _ _ => 0

/-- What rides beside the buffers: the core owes nothing. -/
abbrev Free (c : Dev nD) : sProp 𝕄 := iprop(∃ R, owes (c : Thread nD τ) (0 : CellTallies nD τ sig Unit) R)

variable (cfgs : P → Cfg sig Λ₀) (dats : (p : P) → (c : Dev nD) → Dat τ Val Unit ℕ (UR sig nD τ) ℕ (cfgs p) c) (p : P)
  (kit : LaunchFacts (nD := nD) (τ := τ) cfgs p) (defs₀ : Defs nD τ sig Val Λ₀) (V V' : Dev nD → Valuation τ sig Val)

omit [Fintype P] [DecidableEq P] [∀ e, Nonempty (Val e)] in
include kit in
/-- The call's layout, at the pinned configuration. -/
theorem pinned : PLaunchFacts (nD := nD) (τ := τ) (fun q => (cfgs q).toPCfg (Val := Val)) p := kit.toP

-- the lemmas' implicit arguments are found by unifying with the pinned configuration, which takes unfolding plain definitions
set_option backward.isDefEq.respectTransparency.types false in
/-- The segment of call `p`, from the buffers at `V` to the buffers at `V'`: `V'` has at each window's array what the
    pipeline leaves there, and is `V` elsewhere. -/
def segment (hbody : ∀ c, BodyObligation (dats p c) defs₀ Variants.none () Set.univ)
    (hshare : ∀ c w, (dats p c).share w = fullShare) (howed : ∀ c t, (dats p c).owed t = 0)
    (hrec : ∀ c x, x ∈ (dats p c).recorded 0)
    (hA : ∀ c w, (dats p c).A w = V c (Proc.devRef .tc (arrRef (cfgs p).spec w)))
    (hF : ∀ c w, (dats p c).arrAt w (cfgs p).N = V' c (Proc.devRef .tc (arrRef (cfgs p).spec w)))
    (hrest : ∀ c (b : Ref sig .tc), b ∉ Finset.univ.image (arrRef (cfgs p).spec) → V' c (Proc.devRef .tc b) = V c (Proc.devRef .tc b))
    (hin : ∀ c, (scopedRest (Ix := Unit) (Name := ℕ) (U := UR sig nD τ) (Lvl := ℕ) (Val := Val) (cfgs p).spec c : sProp 𝕄) ⊢ (dats p c).Φ 0)
    (hout : ∀ c, (dats p c).Φ (Fin.last (cfgs p).N) ⊢ (scopedRest (Ix := Unit) (Name := ℕ) (U := UR sig nD τ) (Lvl := ℕ) (Val := Val) (cfgs p).spec c : sProp 𝕄)) :
    RegionSeg (fun q => (cfgs q).toPCfg (Val := Val)) (fun q => (cfgs q).toPCfg_adm) dats () defs₀ Variants.none L lv p where
  win := (pinned cfgs p kit (Val := Val)).win.to₀
  block_pos := (pinned cfgs p kit (Val := Val)).block_pos
  stage_whole := (pinned cfgs p kit (Val := Val)).stage_whole
  K := PEmpty
  osem := fun k => k.elim
  ho := OwnSemFacts.none _
  hbody c := (hbody c).loose
  hwaits := hwaits_of_owed_zero (fun q => (cfgs q).toPCfg (Val := Val)) (fun q => (cfgs q).toPCfg_adm) dats () L lv p howed
  pre c := iprop(StableHlo.held (c : Thread nD τ) (ucRefs τ sig) (V c) ∗ Free c)
  post c := iprop(StableHlo.held (c : Thread nD τ) (ucRefs τ sig) (V' c) ∗ Free c)
  X _ := iprop(emp)
  Y _ := iprop(emp)
  Z c := unscopedRest (Ix := Unit) (Name := ℕ) (U := UR sig nD τ) (Lvl := ℕ) (cfgs p).spec c (fun b => V c (Proc.devRef .tc b))
  hentry c := by
    have hsplit := arrays_of_unscopedBufs (p := p) (fun q => (cfgs q).toPCfg (Val := Val)) (fun q => (cfgs q).toPCfg_adm) dats (pinned cfgs p kit (Val := Val)).win (pinned cfgs p kit (Val := Val)).arr_whole c
      (hshare c) (fun b => V c (Proc.devRef .tc b)) (fun w => hA c w)
    rw [ownSems0_none, show StableHlo.held (c : Thread nD τ) (ucRefs τ sig) (V c) = unscopedBufs c (fun b => V c (Proc.devRef .tc b))
      from (unscopedBufs_held (Ix := Unit) (Name := ℕ) (U := UR sig nD τ) (Lvl := ℕ) c (V c)).symm]
    iintro ⟨⟨Hb, ⟨%R, HO⟩⟩, -, -⟩
    ihave H := hsplit $$ Hb
    icases H with ⟨Ha, Hr⟩
    imodintro
    isplitl [Ha]; · iexact Ha
    isplitr
    · unfold prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Dat.owesAt owesWithin
      rw [howed c 0]
      iexists R; isplitr; · ipureintro; exact fun x _ => Or.inl (hrec c x)
      iexact HO
    isplitr; · iempintro
    iexact Hr
  hin c := (show _ ⊢ (scopedRest (Ix := Unit) (Name := ℕ) (U := UR sig nD τ) (Lvl := ℕ) (Val := Val) (cfgs p).spec c : sProp 𝕄) from by
    iintro ⟨-, -, Hr⟩; iexact Hr).trans (hin c)
  hout c := (hout c).trans (by
    rw [ownSems0_none]
    iintro Hr
    isplitr; · iempintro
    isplitr; · iempintro
    iexact Hr)
  hexit c := by
    have hjoin := unscopedBufs_of_arrays (p := p) (fun q => (cfgs q).toPCfg (Val := Val)) (fun q => (cfgs q).toPCfg_adm)
      (Ix := Unit) (Name := ℕ) (U := UR sig nD τ) (Lvl := ℕ) (pinned cfgs p kit (Val := Val)).win (pinned cfgs p kit (Val := Val)).arr_whole c dats (hshare c)
      (fun b => V c (Proc.devRef .tc b)) (fun b => V' c (Proc.devRef .tc b)) ((dats p c).arrAt · (cfgs p).N) (hF c) (hrest c)
    rw [show StableHlo.held (c : Thread nD τ) (ucRefs τ sig) (V' c) = unscopedBufs c (fun b => V' c (Proc.devRef .tc b))
      from (unscopedBufs_held (Ix := Unit) (Name := ℕ) (U := UR sig nD τ) (Lvl := ℕ) c (V' c)).symm]
    iintro ⟨Ha, HO, -, Hr⟩
    imodintro
    isplitl [Ha Hr]
    · iapply hjoin; isplitl [Ha] <;> iassumption
    unfold Dat.owesAt owesWithin
    rw [howed c (Fin.last _)]
    icases HO with ⟨%R, -, HO⟩; iexists R; iexact HO

/-- The segment of a call that keeps nothing of its own between its points. -/
def plain (hbody : ∀ c, BodyObligation (dats p c) defs₀ Variants.none () Set.univ)
    (hshare : ∀ c w, (dats p c).share w = fullShare) (howed : ∀ c t, (dats p c).owed t = 0)
    (hrec : ∀ c x, x ∈ (dats p c).recorded 0)
    (hA : ∀ c w, (dats p c).A w = V c (Proc.devRef .tc (arrRef (cfgs p).spec w)))
    (hF : ∀ c w, (dats p c).arrAt w (cfgs p).N = V' c (Proc.devRef .tc (arrRef (cfgs p).spec w)))
    (hrest : ∀ c (b : Ref sig .tc), b ∉ Finset.univ.image (arrRef (cfgs p).spec) → V' c (Proc.devRef .tc b) = V c (Proc.devRef .tc b))
    (hΦ : ∀ c, (dats p c).Φ = fun _ => (scopedRest (Ix := Unit) (Name := ℕ) (U := UR sig nD τ) (Lvl := ℕ) (Val := Val) (cfgs p).spec c : sProp 𝕄)) :
    RegionSeg (fun q => (cfgs q).toPCfg (Val := Val)) (fun q => (cfgs q).toPCfg_adm) dats () defs₀ Variants.none L lv p :=
  segment cfgs dats p kit defs₀ V V' hbody hshare howed hrec hA hF hrest
    (fun c => by rw [hΦ c]) (fun c => by rw [hΦ c])

end Cert.Proof.Segments

end
-- ==== Proof.LaunchIdeal.lean ====
/-
  The idealized program's run: every unscoped buffer at the end, in terms of the launch contents.
-/
module

public import proofs.«01_k».proof.Proof.Gen.KernelIdeal.Regions
public import proofs.«01_k».proof.Proof.FfnRegionIdeal
public import proofs.«01_k».proof.Proof.ScanRegionIdeal
public import proofs.«01_k».proof.Proof.OutRegionIdeal
public import proofs.«01_k».proof.Proof.Segments

@[expose] public section

noncomputable section

namespace Cert.Proof.LaunchIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg RegionSeg)
open Cert.KernelIdeal Cert.KernelIdeal.Gen
open Cert.Proof.Segments (L lv Free)

variable [Cert.KernelIdeal.Facts]
variable {F : FTy → Type} [FloatOps F] [Named F]

local notation "𝕄" => MT nD τ sig Unit (Elt F) ℕ (UR sig nD τ) ℕ

/-! ## The calls as segments -/

variable (W0 W1 W2 : Dev nD → Valuation τ sig (Elt F))

/-- The calls' proof data, each at the contents its call is entered with. -/
def dats : (p : Fin 3) → (c : Dev nD) → Dat τ (Elt F) Unit ℕ (UR sig nD τ) ℕ (cfgs p) c
  | 0, c => FfnRegionIdeal.dat W0 c
  | 1, c => ScanRegionIdeal.dat W1 c
  | 2, c => OutRegionIdeal.dat W2 c

/-- The keys, as the call leaves them from buffers `W0`. -/
def keysOf (c : Dev nD) : Buf (Elt F) ((c : Thread nD τ).loc main_v5) := (FfnRegionIdeal.dat W0 c).arrAt 9 cfg0.N

/-- The buffers after the call. -/
def next0 (c : Dev nD) : Valuation τ sig (Elt F) := Function.update (W0 c) (Proc.devRef .tc main_v5) (keysOf W0 c)

/-- At each window's array they are as the pipeline leaves it. -/
theorem left0 (c : Dev nD) (w : Fin cfg0.W) :
    (FfnRegionIdeal.dat W0 c).arrAt w cfg0.N = next0 W0 c (Proc.devRef .tc (Pipeline.arrRef cfg0.spec w)) := by
  unfold next0
  by_cases h : w = (9 : Fin 10)
  · subst h
    exact (Function.update_self (Proc.devRef .tc main_v5) (keysOf W0 c) (W0 c)).symm
  · refine ((FfnRegionIdeal.dat W0 c).arrAt_in w ((by decide : ∀ w : Fin 10, w ≠ 9 → (spec0 w).isOut = false) w h) cfg0.N).trans ?_
    exact (Function.update_of_ne (StableHlo.devRef_ne_of_ne ((by decide : ∀ w : Fin 10, w ≠ 9 → Pipeline.arrRef spec0 w ≠ main_v5) w h))
      (keysOf W0 c) (W0 c)).symm

/-- The read-out, as the call leaves them from buffers `W1`. -/
def readOf (c : Dev nD) : Buf (Elt F) ((c : Thread nD τ).loc main_v7) := (ScanRegionIdeal.dat W1 c).arrAt 1 cfg1.N

/-- The buffers after the call. -/
def next1 (c : Dev nD) : Valuation τ sig (Elt F) := Function.update (W1 c) (Proc.devRef .tc main_v7) (readOf W1 c)

/-- At each window's array they are as the pipeline leaves it. -/
theorem left1 (c : Dev nD) (w : Fin cfg1.W) :
    (ScanRegionIdeal.dat W1 c).arrAt w cfg1.N = next1 W1 c (Proc.devRef .tc (Pipeline.arrRef cfg1.spec w)) := by
  unfold next1
  by_cases h : w = (1 : Fin 2)
  · subst h
    exact (Function.update_self (Proc.devRef .tc main_v7) (readOf W1 c) (W1 c)).symm
  · refine ((ScanRegionIdeal.dat W1 c).arrAt_in w ((by decide : ∀ w : Fin 2, w ≠ 1 → (spec1 w).isOut = false) w h) cfg1.N).trans ?_
    exact (Function.update_of_ne (StableHlo.devRef_ne_of_ne ((by decide : ∀ w : Fin 2, w ≠ 1 → Pipeline.arrRef spec1 w ≠ main_v7) w h))
      (readOf W1 c) (W1 c)).symm

/-- The logits, as the call leaves them from buffers `W2`. -/
def logitsOf (c : Dev nD) : Buf (Elt F) ((c : Thread nD τ).loc main_v10) := (OutRegionIdeal.dat W2 c).arrAt 5 cfg2.N

/-- The buffers after the call. -/
def next2 (c : Dev nD) : Valuation τ sig (Elt F) := Function.update (W2 c) (Proc.devRef .tc main_v10) (logitsOf W2 c)

/-- At each window's array they are as the pipeline leaves it. -/
theorem left2 (c : Dev nD) (w : Fin cfg2.W) :
    (OutRegionIdeal.dat W2 c).arrAt w cfg2.N = next2 W2 c (Proc.devRef .tc (Pipeline.arrRef cfg2.spec w)) := by
  unfold next2
  by_cases h : w = (5 : Fin 6)
  · subst h
    exact (Function.update_self (Proc.devRef .tc main_v10) (logitsOf W2 c) (W2 c)).symm
  · refine ((OutRegionIdeal.dat W2 c).arrAt_in w ((by decide : ∀ w : Fin 6, w ≠ 5 → (spec2 w).isOut = false) w h) cfg2.N).trans ?_
    exact (Function.update_of_ne (StableHlo.devRef_ne_of_ne ((by decide : ∀ w : Fin 6, w ≠ 5 → Pipeline.arrRef spec2 w ≠ main_v10) w h))
      (logitsOf W2 c) (W2 c)).symm

/-- A buffer that is no array of a call's is not its result's array. -/
theorem off {b r : Ref sig .tc} {S : Finset (Ref sig .tc)} (hr : r ∈ S) (hb : b ∉ S) : (Proc.devRef .tc b : DevRef τ sig) ≠ Proc.devRef .tc r :=
  StableHlo.devRef_ne_of_ne fun e => hb (e ▸ hr)

/-- The scan's invariant before the first point, and what it gives back after the last. -/
theorem scan_in (c : Dev nD) : (Pipeline.scopedRest (Ix := Unit) (Name := ℕ) (U := UR sig nD τ) (Lvl := ℕ) (Val := Elt F) spec1 c : sProp 𝕄)
    ⊢ ScanRegionIdeal.between W1 c 0 := by
  rw [scopedRest1_split]
  unfold ScanRegionIdeal.between ScanRegionIdeal.scratch
  simp only [owns_whole]
  iintro ⟨⟨⟨%f2, H2⟩, ⟨%f3, H3⟩, ⟨%f4, H4⟩, ⟨%f5, H5⟩, ⟨%f6, H6⟩, ⟨%f7, H7⟩⟩, Hr⟩
  isplitr [Hr]
  · iexists (ScanRegionIdeal.ofScratch (F := F) f2 f3 f4 f5 f6 f7)
    isplitr; · ipureintro; exact fun h => absurd rfl h
    isplitl [H2]; · iexact H2
    isplitl [H3]; · iexact H3
    isplitl [H4]; · iexact H4
    isplitl [H5]; · iexact H5
    isplitl [H6]; · iexact H6
    iexact H7
  iexact Hr

/-- What the scan holds between two points is, at its end, the scratch with some contents. -/
theorem scan_out (c : Dev nD) (k : ℕ) : ScanRegionIdeal.between W1 c k
    ⊢ (Pipeline.scopedRest (Ix := Unit) (Name := ℕ) (U := UR sig nD τ) (Lvl := ℕ) (Val := Elt F) spec1 c : sProp 𝕄) := by
  rw [scopedRest1_split]
  unfold ScanRegionIdeal.between ScanRegionIdeal.scratch
  simp only [owns_whole]
  iintro ⟨⟨%s, -, H2, H3, H4, H5, H6, H7⟩, Hr⟩
  isplitr [Hr]
  · isplitl [H2]; · iexists _; iexact H2
    isplitl [H3]; · iexists _; iexact H3
    isplitl [H4]; · iexists _; iexact H4
    isplitl [H5]; · iexists _; iexact H5
    isplitl [H6]; · iexists _; iexact H6
    iexists _; iexact H7
  iexact Hr

/-- The call as a segment. -/
def call0 (hv : ∀ c t p q n, Ffn.inTable (Ffn.token (FfnRegionIdeal.blk W0 c 0 t) p q n)) : RegionSeg (pcfgs (F := F)) adm (dats W0 W1 W2) () defs₀ Variants.none L lv 0 :=
  Segments.plain cfgs (dats W0 W1 W2) 0 launch0 defs₀ W0 (next0 W0)
    (fun c => FfnRegionIdeal.body_obligation W0 c (hv c))
    (fun c => (dats W0 W1 W2 0 c).share_full fun _ => rfl) (fun _ _ => rfl) (fun _ _ => trivial) (FfnRegionIdeal.A_eq W0) (left0 W0)
    (fun c b hb => Function.update_of_ne (off (Finset.mem_image.mpr ⟨(9 : Fin 10), Finset.mem_univ _, rfl⟩) hb) _ _)
    (fun c => FfnRegionIdeal.Φ_eq W0 c)

/-- The call as a segment. -/
def call1 : RegionSeg (pcfgs (F := F)) adm (dats W0 W1 W2) () defs₀ Variants.none L lv 1 :=
  Segments.segment cfgs (dats W0 W1 W2) 1 launch1 defs₀ W1 (next1 W1)
    (ScanRegionIdeal.body_obligation W1)
    (fun c => (dats W0 W1 W2 1 c).share_full fun _ => rfl) (fun _ _ => rfl) (fun _ _ => trivial) (ScanRegionIdeal.A_eq W1) (left1 W1)
    (fun c b hb => Function.update_of_ne (off (Finset.mem_image.mpr ⟨(1 : Fin 2), Finset.mem_univ _, rfl⟩) hb) _ _)
    (fun c => scan_in W1 c) (fun c => scan_out W1 c _)

/-- The call as a segment. -/
def call2 : RegionSeg (pcfgs (F := F)) adm (dats W0 W1 W2) () defs₀ Variants.none L lv 2 :=
  Segments.plain cfgs (dats W0 W1 W2) 2 launch2 defs₀ W2 (next2 W2)
    (OutRegionIdeal.body_obligation W2)
    (fun c => (dats W0 W1 W2 2 c).share_full fun _ => rfl) (fun _ _ => rfl) (fun _ _ => trivial) (OutRegionIdeal.A_eq W2) (left2 W2)
    (fun c b hb => Function.update_of_ne (off (Finset.mem_image.mpr ⟨(5 : Fin 6), Finset.mem_univ _, rfl⟩) hb) _ _)
    (fun c => OutRegionIdeal.Φ_eq W2 c)

/-! ## The buffers between the calls -/

variable (m : (ℓ : Loc nD τ sig) → Buf (Elt F) ℓ)

abbrev A2 (c : Dev nD) : Valuation τ sig (Elt F) := next0 (V1 m) c
abbrev A3 (c : Dev nD) : Valuation τ sig (Elt F) := StableHlo.after hostOps1 (A2 m c)
abbrev A4 (c : Dev nD) : Valuation τ sig (Elt F) := next1 (A3 m) c
abbrev A5 (c : Dev nD) : Valuation τ sig (Elt F) := StableHlo.after hostOps2 (A4 m c)
abbrev A6 (c : Dev nD) : Valuation τ sig (Elt F) := next2 (A5 m) c

/-- What the calls leave, as the generated valuations read it. -/
def outs : Outs (F := F) := fun J r c => if J = 2 then A2 m c r else if J = 4 then A4 m c r else A6 m c r

/-- The contents after the first call. -/
theorem V2_eq (c : Dev nD) : V2 m (outs m) c = A2 m c := by
  have e : outs m 2 main_v5 c = keysOf (V1 m) c := (if_pos rfl).trans (Function.update_self ..)
  unfold V2 A2 next0
  rw [e]
/-- The contents before the second call. -/
theorem V3_eq (c : Dev nD) : V3 m (outs m) c = A3 m c := congrArg (StableHlo.after hostOps1) (V2_eq m c)
/-- The contents after the second call. -/
theorem V4_eq (c : Dev nD) : V4 m (outs m) c = A4 m c := by
  have e : outs m 4 main_v7 c = readOf (A3 m) c := (if_neg (by decide)).trans ((if_pos rfl).trans (Function.update_self ..))
  unfold V4 A4 next1
  rw [e, V3_eq]
/-- The contents before the third call. -/
theorem V5_eq (c : Dev nD) : V5 m (outs m) c = A5 m c := congrArg (StableHlo.after hostOps2) (V4_eq m c)

/-! ## The run -/

variable (hv : ∀ c t p q n, Ffn.inTable (Ffn.token (FfnRegionIdeal.blk (V1 m) c 0 t) p q n))

/-- The launch's ghost state: the pipelines' cells and nothing else. -/
abbrev ghost : UR sig nD τ := initOf (Pipeline.cells cfgs cellOf_inj) (Pipeline.launchToks cfgs cellOf_inj)

-- the launch theorem's implicit arguments are found by unifying its conclusion with this one, which takes unfolding plain definitions
set_option backward.isDefEq.respectTransparency.types false in
include hv in
/-- From any memory whose tokens are rows of the table, the program runs, and at the end every unscoped buffer is as the three
    calls leave it and every semaphore counter is zero. -/
theorem run_main (ρ : Dev nD → PrngReg) :
    θ_run defs (onTc (τ := τ) (main (F := F))) ⟨m, fun _ => 0, ρ⟩
      (fun r => (∀ c : Dev nD, ∀ b ∈ Pipeline.ucRefs τ sig, r.2.mem ((c : Thread nD τ).1, b) = A6 m c b) ∧ r.2.sem = fun _ => 0) := by
  refine Pipeline.θ_run_regions_kit_dev_sems (pcfgs (F := F)) adm (dats (V1 m) (A3 m) (A5 m)) () cellOf_inj emb₁ defs₀ Variants.none L lv m ρ main
    (segs m (outs m) Variants.none L lv (fun _ c => Free c) () (dats (V1 m) (A3 m) (A5 m)) (call0 (V1 m) (A3 m) (A5 m) hv) (call1 (V1 m) (A3 m) (A5 m)) (call2 (V1 m) (A3 m) (A5 m)))
    (fun c Q => by
      rewrite [main_chain c, Seg.run_eq_chain,
        show (segs m (outs m) Variants.none L lv (fun _ c => Free c) () (dats (V1 m) (A3 m) (A5 m)) (call0 (V1 m) (A3 m) (A5 m) hv) (call1 (V1 m) (A3 m) (A5 m)) (call2 (V1 m) (A3 m) (A5 m)) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) (fun _ => 0) (fun _ _ => rfl) (fun _ => iprop(emp)) ghost
    (by
      iintro Hu; imodintro
      isplitl [Hu]; · iapply (show (ownU ghost : sProp 𝕄) ⊢ BI.own (emb₁ ghost) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Free c))
    (Tₙ := fun c => StableHlo.held (c : Thread nD τ) (Pipeline.ucRefs τ sig) (A6 m c))
    (hch := fun c => ⟨.rfl, .rfl, ?_, ?_, ?_, ?_, .rfl⟩)
    (hinit := ?_) (QY := fun c s => ∀ b ∈ Pipeline.ucRefs τ sig, s.mem ((c : Thread nD τ).1, b) = A6 m c b)
    (hfin := fun c s' => ?_) (hQ := fun _ h hz => ⟨h, funext fun g => hz g (.inr (regions_no_unscoped g.2))⟩)
  · exact (Entails.of_eq (congrArg (fun V => iprop(StableHlo.held (c : Thread nD τ) (Pipeline.ucRefs τ sig) V ∗ Free c)) (V2_eq m c).symm))
  · exact (Entails.of_eq (congrArg (fun V => iprop(StableHlo.held (c : Thread nD τ) (Pipeline.ucRefs τ sig) V ∗ Free c)) (V3_eq m c)))
  · exact (Entails.of_eq (congrArg (fun V => iprop(StableHlo.held (c : Thread nD τ) (Pipeline.ucRefs τ sig) V ∗ Free c)) (V4_eq m c).symm))
  · exact (Entails.of_eq (congrArg (fun V => iprop(StableHlo.held (c : Thread nD τ) (Pipeline.ucRefs τ sig) V ∗ Free c)) (V5_eq m c)))
  · refine Pipeline.initEach L lv fun c => ?_
    rw [show unscopedBufs c (fun b => m ((c : Thread nD τ).loc b)) = StableHlo.held (c : Thread nD τ) (Pipeline.ucRefs τ sig) (V0 m c)
      from Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (A6 m c) s') $$ [Hh HSI]
    · isplitl [Hh] <;> iassumption
    imodintro; iexact Hr

end Cert.Proof.LaunchIdeal

end
-- ==== Proof.Pre.lean ====
/-
  What the precondition says of the arguments: every token is a row of the table.
-/
module

public import proofs.«01_k».proof.Pre_tokens_in_range
public import Idealize.ShloMosaic.Lib.ReduceAll
public import Idealize.ShloMosaic.PureOps.Ideal

@[expose] public section

noncomputable section

namespace Cert.Proof.Pre

open Idealize.ShloMosaic

instance : Subsingleton (Shape.Idx ⟨0, ![]⟩) := ⟨fun _ _ => funext fun i => i.elim0⟩

/-- The one index of a number standing alone. -/
def only : Shape.Idx ⟨0, ![]⟩ := fun i => i.elim0

/-- A conjunction of two tests holds when both do. -/
theorem both {x y : BitVec 1} (h : IntOp.andi x y = 1#1) : x = 1#1 ∧ y = 1#1 := by
  revert x y; decide

/-- A token that is at least 0 and below 32000 as a signed number is below 32000. -/
theorem lt_of_tests {v : BitVec 32} (h0 : IntOp.cmpi .sge v 0#32 = 1#1) (h1 : IntOp.cmpi .slt v 32000#32 = 1#1) : v.toNat < 32000 := by
  have a : (0#32).sle v = true := by
    revert h0; simp only [IntOp.cmpi]; cases (0#32).sle v <;> simp
  have b : v.slt 32000#32 = true := by
    revert h1; simp only [IntOp.cmpi]; cases v.slt 32000#32 <;> simp
  rw [BitVec.sle_iff_toInt_le] at a
  rw [BitVec.slt_iff_toInt_lt] at b
  have e0 : (0#32).toInt = 0 := by decide
  have e1 : (32000#32).toInt = 32000 := by decide
  rw [e0] at a; rw [e1] at b
  rw [BitVec.toInt_eq_toNat_cond] at a b
  have := v.isLt
  split at a <;> omega

section Tokens
variable {F : FTy → Type} [FloatOps F] [Cert.Pre_tokens_in_range.Facts]
open Cert.Pre_tokens_in_range

/-- Under the precondition every token is below 32000. -/
theorem tokens (a0) (a1) (a2) (a3) (a4) (a5) (a6) (a7) (a8) (a9) (a10) (a11) (a12)
    (h : fn (F := F) a0 a1 a2 a3 a4 a5 a6 a7 a8 a9 a10 a11 a12 = fun _ => 1#1) (i) : (a0 i).toNat < 32000 := by
  have e := congrFun h i
  unfold fn at e
  obtain ⟨l, r⟩ := both e
  exact lt_of_tests l r

end Tokens

end Cert.Proof.Pre

end
-- ==== Proof.FrameIdeal.lean ====
/-
  The idealized program's frame: from any memory whose tokens are rows of the table the run ends with the arguments as they were
  and every semaphore counter at zero.
-/
module

public import proofs.«01_k».proof.Proof.LaunchIdeal
public import proofs.«01_k».proof.Proof.Pre
public import Idealize.ShloMosaic.Lib.StableHlo.RunHlo
public import Idealize.ShloMosaic.Lib.StableHlo.RunRead

@[expose] public section

noncomputable section

namespace Cert.Proof.FrameIdeal

open Idealize.ShloMosaic Idealize.ShloMosaic.TcCoe Idealize.ShloMosaic.StableHlo Idealize.ShloMosaic.Tactic
open Idealize.SL Idealize.SL.Sem
open Cert.KernelIdeal Cert.KernelIdeal.Gen
open Cert.Proof.LaunchIdeal

variable [Cert.KernelIdeal.Facts]
variable {F : FTy → Type} [FloatOps F] [Named F]
variable (m : (ℓ : Loc nD τ sig) → Buf (Elt F) ℓ)

/-- The tokens as the first call reads them are those of the first argument, laid out in one line. -/
theorem V1_tokens (c : Dev nD) : V1 m c main_v0 = shapeCast S32768 (m ((c : Thread nD τ).loc main_arg0)) shapeCasts_S64x512_S32768 := by
  show StableHlo.after hostOps0 (V0 m c) (Proc.devRef .tc main_v0) = _
  after_reads_simp
  rfl

/-- Tokens below 32000 are rows of the table, at every point of the grid. -/
theorem tokens_ok (h : ∀ (c : Dev nD) i, (m ((c : Thread nD τ).loc main_arg0) i).toNat < 32000) :
    ∀ c t p q n, Ffn.inTable (Ffn.token (FfnRegionIdeal.blk (V1 m) c 0 t) p q n) := fun c t p q n => by
  refine Ffn.inTable_of_lt ?_
  have key : ∀ i, (V1 m c main_v0 i).toNat < 32000 := fun i => by
    rw [V1_tokens]; exact h c _
  exact key _

/-- A buffer no call and no host operation writes is at the end as it was. -/
theorem kept (c : Dev nD) (r : Ref sig .tc) (h0 : r ∉ hostOps0_W) (h1 : r ∉ hostOps1_W) (h2 : r ∉ hostOps2_W)
    (h5 : r ≠ main_v5) (h7 : r ≠ main_v7) (h10 : r ≠ main_v10) : A6 m c r = m ((c : Thread nD τ).loc r) := by
  unfold A6 next2
  rw [Function.update_of_ne (StableHlo.devRef_ne_of_ne h10)]
  unfold A5
  rw [StableHlo.after_of_writes_sub hostOps2 _ hostOps2_writes h2]
  unfold A4 next1
  rw [Function.update_of_ne (StableHlo.devRef_ne_of_ne h7)]
  unfold A3
  rw [StableHlo.after_of_writes_sub hostOps1 _ hostOps1_writes h1]
  unfold A2 next0
  rw [Function.update_of_ne (StableHlo.devRef_ne_of_ne h5), V1_of m c r h0]

/-- The arguments, all thirteen, are as they were. -/
def Same (s : MemSt nD τ sig (Elt F)) : Prop := ∀ c : Dev nD,
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)
  ∧ s.mem ((c.tc : Thread nD τ).loc main_arg11) = m ((c.tc : Thread nD τ).loc main_arg11)
  ∧ s.mem ((c.tc : Thread nD τ).loc main_arg12) = m ((c.tc : Thread nD τ).loc main_arg12)

/-- With tokens below 32000 the program runs, leaves its arguments, has its result as the three calls make it and all
    counters at zero. -/
theorem run (h : ∀ (c : Dev nD) i, (m ((c : Thread nD τ).loc main_arg0) i).toNat < 32000) (ρ : Dev nD → PrngReg) :
    θ_run defs (onTc (τ := τ) (main (F := F))) ⟨m, fun _ => 0, ρ⟩
      (fun r => ((∀ c : Dev nD, r.2.mem ((c.tc : Thread nD τ).loc main_v10) = A6 m c main_v10) ∧ Same m r.2) ∧ r.2.sem = fun _ => 0) :=
  θ_run_mono (run_main m (tokens_ok m h) ρ) fun r hr => by
    have at' : ∀ (c : Dev nD) (b : Ref sig .tc), (Proc.devRef .tc b : DevRef τ sig).isScoped = false →
        r.2.mem ((c : Thread nD τ).loc b) = A6 m c b := fun c b hb =>
      hr.1 c b (Finset.mem_filter.mpr ⟨StableHlo.devRef_mem_tcRefs b, by rw [hb]; exact Bool.false_ne_true⟩)
    have arg : ∀ (c : Dev nD) (b : Ref sig .tc), (Proc.devRef .tc b : DevRef τ sig).isScoped = false → b ∉ hostOps0_W → b ∉ hostOps1_W → b ∉ hostOps2_W →
        b ≠ main_v5 → b ≠ main_v7 → b ≠ main_v10 → r.2.mem ((c : Thread nD τ).loc b) = m ((c : Thread nD τ).loc b) :=
      fun c b hb h0 h1 h2 h5 h7 h10 => (at' c b hb).trans (kept m c b h0 h1 h2 h5 h7 h10)
    refine ⟨⟨fun c => at' c main_v10 (by decide), fun c => ?_⟩, hr.2⟩
    refine ⟨?_, ?_, ?_, ?_, ?_, ?_, ?_, ?_, ?_, ?_, ?_, ?_, ?_⟩ <;>
      exact arg c _ (by decide) (by decide) (by decide) (by decide) (by decide) (by decide) (by decide)

end Cert.Proof.FrameIdeal

end
-- ==== Proof.FfnEqKernel.lean ====
/-
  The kernel's feed-forward body is the command `Ffn.body` on its memrefs.
-/
module

public import proofs.«01_k».proof.Kernel
public import proofs.«01_k».proof.Proof.FfnBody

@[expose] public section

set_option maxRecDepth 65536

noncomputable section

namespace Cert.Proof.FfnEqKernel

open Idealize.ShloMosaic Idealize.SL.Sem
open Idealize.ShloMosaic.Tactic
open Cert.Kernel
open Cert.Proof.Body

variable [Cert.Kernel.Facts]
variable {F : FTy → Type} [FloatOps F]

/-- The body's memrefs, by number. -/
abbrev mems (a2 : Memref sig .tc .smem S32768 .i32) (a3 : Memref sig .tc .vmem S32000x128 .f32) (a4 : Memref sig .tc .vmem S128x256 .f32)
    (a5 : Memref sig .tc .vmem S1x256 .f32) (a6 : Memref sig .tc .vmem S256x128 .f32) (a7 a8 a9 : Memref sig .tc .vmem S1x128 .f32)
    (a10 : Memref sig .tc .vmem S128x128 .f32) (a11 a12 : Memref sig .tc .vmem S256x128 .f32) : Mems Ffn.bank sig
  | 0 => a2
  | 1 => a3
  | 2 => a4
  | 3 => a5
  | 4 => a6
  | 5 => a7
  | 6 => a8
  | 7 => a9
  | 8 => a10
  | 9 => a11
  | 10 => a12

/-- The body, as the program has it, is the command. -/
theorem body_eq (i : grid0.Coords) (a2 : Memref sig .tc .smem S32768 .i32) (h2 : a2.IsWhole) (a3 : Memref sig .tc .vmem S32000x128 .f32) (h3 : a3.IsWhole)
    (a4 : Memref sig .tc .vmem S128x256 .f32) (h4 : a4.IsWhole) (a5 : Memref sig .tc .vmem S1x256 .f32) (h5 : a5.IsWhole)
    (a6 : Memref sig .tc .vmem S256x128 .f32) (h6 : a6.IsWhole) (a7 : Memref sig .tc .vmem S1x128 .f32) (h7 : a7.IsWhole)
    (a8 : Memref sig .tc .vmem S1x128 .f32) (h8 : a8.IsWhole) (a9 : Memref sig .tc .vmem S1x128 .f32) (h9 : a9.IsWhole)
    (a10 : Memref sig .tc .vmem S128x128 .f32) (h10 : a10.IsWhole) (a11 : Memref sig .tc .vmem S256x128 .f32) (h11 : a11.IsWhole)
    (a12 : Memref sig .tc .vmem S256x128 .f32) (h12 : a12.IsWhole) :
    (cc0_ffn_keys (F := F) i a2 h2 a3 h3 a4 h4 a5 h5 a6 h6 a7 h7 a8 h8 a9 h9 a10 h10 a11 h11 a12 h12 : Prog (TpuEff nD τ sig (Elt F) Λ₀ .tc) PUnit)
      = (Ffn.body (i 0).val (i 1).val (i 0).isLt (i 1).isLt).toProg (mems a2 a3 a4 a5 a6 a7 a8 a9 a10 a11 a12) := by
  sl_kernel_rfl

end Cert.Proof.FfnEqKernel

end
-- ==== Proof.ScanEqKernel.lean ====
/-
  The kernel's scan body is the command `Scan.body` on its memrefs.
-/
module

public import proofs.«01_k».proof.Kernel
public import proofs.«01_k».proof.Proof.ScanBody

@[expose] public section

set_option maxRecDepth 65536

noncomputable section

namespace Cert.Proof.ScanEqKernel

open Idealize.ShloMosaic Idealize.SL.Sem
open Idealize.ShloMosaic.Tactic
open Cert.Kernel
open Cert.Proof.Body

variable [Cert.Kernel.Facts]
variable {F : FTy → Type} [FloatOps F]

/-- The body's memrefs, by number. -/
abbrev mems (a2 : Memref sig .tc .vmem S32x64x128 .f32) (a3 : Memref sig .tc .vmem S32x128 .f32)
    (a4 : Memref sig .tc .vmem S32x128x128 .f32) (a5 a6 : Memref sig .tc .vmem S32x64x128 .f32) (a7 : Memref sig .tc .vmem S32x64x64 .f32)
    (a8 : Memref sig .tc .vmem S32x64x128 .f32) (a9 : Memref sig .tc .vmem S32x128 .f32) : Mems Scan.bank sig
  | 0 => a2
  | 1 => a3
  | 2 => a4
  | 3 => a5
  | 4 => a6
  | 5 => a7
  | 6 => a8
  | 7 => a9

/-- The body, as the program has it, is the command. -/
theorem body_eq (i : grid1.Coords) (a2 : Memref sig .tc .vmem S32x64x128 .f32) (h2 : a2.IsWhole) (a3 : Memref sig .tc .vmem S32x128 .f32) (h3 : a3.IsWhole)
    (a4 : Memref sig .tc .vmem S32x128x128 .f32) (h4 : a4.IsWhole) (a5 : Memref sig .tc .vmem S32x64x128 .f32) (h5 : a5.IsWhole)
    (a6 : Memref sig .tc .vmem S32x64x128 .f32) (h6 : a6.IsWhole) (a7 : Memref sig .tc .vmem S32x64x64 .f32) (h7 : a7.IsWhole)
    (a8 : Memref sig .tc .vmem S32x64x128 .f32) (h8 : a8.IsWhole) (a9 : Memref sig .tc .vmem S32x128 .f32) (h9 : a9.IsWhole) :
    (cc1_velocity_gate_scan (F := F) i a2 h2 a3 h3 a4 h4 a5 h5 a6 h6 a7 h7 a8 h8 a9 h9 : Prog (TpuEff nD τ sig (Elt F) Λ₀ .tc) PUnit)
      = (Scan.body (Scalar.ofBits .f32 0x2B8CBCCC#32) (Scalar.ofBits .f32 0x3C23D70A#32) (BitVec.ofNat 32 (i 1).val)).toProg (mems a2 a3 a4 a5 a6 a7 a8 a9) := by
  by_cases h : Scan.isChunk (BitVec.ofNat 32 (i 1).val) 0#32
  · rw [show (Scan.body (Scalar.ofBits .f32 0x2B8CBCCC#32) (Scalar.ofBits .f32 0x3C23D70A#32) (BitVec.ofNat 32 (i 1).val)).toProg (nD := nD) (τ := τ) (Λ := Λ₀) (mems a2 a3 a4 a5 a6 a7 a8 a9)
        = (Cmd.bind Scan.start fun _ => Scan.rest (F := F) (Scalar.ofBits .f32 0x2B8CBCCC#32) (Scalar.ofBits .f32 0x3C23D70A#32) (BitVec.ofNat 32 (i 1).val)).toProg (mems a2 a3 a4 a5 a6 a7 a8 a9)
      from dif_pos h]
    unfold cc1_velocity_gate_scan k1_part186 k1_part14
    simp only [dif_pos h]
    sl_kernel_rfl
  · rw [show (Scan.body (Scalar.ofBits .f32 0x2B8CBCCC#32) (Scalar.ofBits .f32 0x3C23D70A#32) (BitVec.ofNat 32 (i 1).val)).toProg (nD := nD) (τ := τ) (Λ := Λ₀) (mems a2 a3 a4 a5 a6 a7 a8 a9)
        = (Scan.rest (F := F) (Scalar.ofBits .f32 0x2B8CBCCC#32) (Scalar.ofBits .f32 0x3C23D70A#32) (BitVec.ofNat 32 (i 1).val)).toProg (mems a2 a3 a4 a5 a6 a7 a8 a9)
      from dif_neg h]
    unfold cc1_velocity_gate_scan k1_part186 k1_part14
    simp only [dif_neg h]
    sl_kernel_rfl

end Cert.Proof.ScanEqKernel

end
-- ==== Proof.OutEqKernel.lean ====
/-
  The kernel's output body is the command `Out.body` on its memrefs.
-/
module

public import proofs.«01_k».proof.Kernel
public import proofs.«01_k».proof.Proof.OutBody

@[expose] public section

set_option maxRecDepth 65536

noncomputable section

namespace Cert.Proof.OutEqKernel

open Idealize.ShloMosaic Idealize.SL.Sem
open Idealize.ShloMosaic.Tactic
open Cert.Kernel
open Cert.Proof.Body

variable [Cert.Kernel.Facts]
variable {F : FTy → Type} [FloatOps F]

/-- The body's memrefs, by number. -/
abbrev mems (a2 : Memref sig .tc .vmem S64x128 .f32) (a3 : Memref sig .tc .vmem S128x128 .f32) (a4 : Memref sig .tc .vmem S1x128 .f32)
    (a5 : Memref sig .tc .vmem S128x3200 .f32) (a6 : Memref sig .tc .vmem S1x3200 .f32) (a7 : Memref sig .tc .vmem S64x3200 .f32) : Mems Out.bank sig
  | 0 => a2
  | 1 => a3
  | 2 => a4
  | 3 => a5
  | 4 => a6
  | 5 => a7

/-- The body, as the program has it, is the command. -/
theorem body_eq (i : grid2.Coords) (a2 : Memref sig .tc .vmem S64x128 .f32) (h2 : a2.IsWhole) (a3 : Memref sig .tc .vmem S128x128 .f32) (h3 : a3.IsWhole)
    (a4 : Memref sig .tc .vmem S1x128 .f32) (h4 : a4.IsWhole) (a5 : Memref sig .tc .vmem S128x3200 .f32) (h5 : a5.IsWhole)
    (a6 : Memref sig .tc .vmem S1x3200 .f32) (h6 : a6.IsWhole) (a7 : Memref sig .tc .vmem S64x3200 .f32) (h7 : a7.IsWhole) :
    (cc2_out_proj (F := F) i a2 h2 a3 h3 a4 h4 a5 h5 a6 h6 a7 h7 : Prog (TpuEff nD τ sig (Elt F) Λ₀ .tc) PUnit)
      = Out.body.toProg (mems a2 a3 a4 a5 a6 a7) := by
  sl_kernel_rfl

end Cert.Proof.OutEqKernel

end
-- ==== Proof.LaunchKernel.lean ====
/-
  The run of the program as written: every unscoped buffer at the end, in terms of the launch contents.
-/
module

public import proofs.«01_k».proof.Proof.Gen.Kernel.Regions
public import proofs.«01_k».proof.Proof.FfnRegionKernel
public import proofs.«01_k».proof.Proof.ScanRegionKernel
public import proofs.«01_k».proof.Proof.OutRegionKernel
public import proofs.«01_k».proof.Proof.Segments

@[expose] public section

noncomputable section

namespace Cert.Proof.LaunchKernel

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg RegionSeg)
open Cert.Kernel Cert.Kernel.Gen
open Cert.Proof.Segments (L lv Free)

variable [Cert.Kernel.Facts]
variable {F : FTy → Type} [FloatOps F]

local notation "𝕄" => MT nD τ sig Unit (Elt F) ℕ (UR sig nD τ) ℕ

/-! ## The calls as segments -/

variable (W0 W1 W2 : Dev nD → Valuation τ sig (Elt F))

/-- The calls' proof data, each at the contents its call is entered with. -/
def dats : (p : Fin 3) → (c : Dev nD) → Dat τ (Elt F) Unit ℕ (UR sig nD τ) ℕ (cfgs p) c
  | 0, c => FfnRegionKernel.dat W0 c
  | 1, c => ScanRegionKernel.dat W1 c
  | 2, c => OutRegionKernel.dat W2 c

/-- The keys, as the call leaves them from buffers `W0`. -/
def keysOf (c : Dev nD) : Buf (Elt F) ((c : Thread nD τ).loc main_v5) := (FfnRegionKernel.dat W0 c).arrAt 9 cfg0.N

/-- The buffers after the call. -/
def next0 (c : Dev nD) : Valuation τ sig (Elt F) := Function.update (W0 c) (Proc.devRef .tc main_v5) (keysOf W0 c)

/-- At each window's array they are as the pipeline leaves it. -/
theorem left0 (c : Dev nD) (w : Fin cfg0.W) :
    (FfnRegionKernel.dat W0 c).arrAt w cfg0.N = next0 W0 c (Proc.devRef .tc (Pipeline.arrRef cfg0.spec w)) := by
  unfold next0
  by_cases h : w = (9 : Fin 10)
  · subst h
    exact (Function.update_self (Proc.devRef .tc main_v5) (keysOf W0 c) (W0 c)).symm
  · refine ((FfnRegionKernel.dat W0 c).arrAt_in w ((by decide : ∀ w : Fin 10, w ≠ 9 → (spec0 w).isOut = false) w h) cfg0.N).trans ?_
    exact (Function.update_of_ne (StableHlo.devRef_ne_of_ne ((by decide : ∀ w : Fin 10, w ≠ 9 → Pipeline.arrRef spec0 w ≠ main_v5) w h))
      (keysOf W0 c) (W0 c)).symm

/-- The read-out, as the call leaves them from buffers `W1`. -/
def readOf (c : Dev nD) : Buf (Elt F) ((c : Thread nD τ).loc main_v7) := (ScanRegionKernel.dat W1 c).arrAt 1 cfg1.N

/-- The buffers after the call. -/
def next1 (c : Dev nD) : Valuation τ sig (Elt F) := Function.update (W1 c) (Proc.devRef .tc main_v7) (readOf W1 c)

/-- At each window's array they are as the pipeline leaves it. -/
theorem left1 (c : Dev nD) (w : Fin cfg1.W) :
    (ScanRegionKernel.dat W1 c).arrAt w cfg1.N = next1 W1 c (Proc.devRef .tc (Pipeline.arrRef cfg1.spec w)) := by
  unfold next1
  by_cases h : w = (1 : Fin 2)
  · subst h
    exact (Function.update_self (Proc.devRef .tc main_v7) (readOf W1 c) (W1 c)).symm
  · refine ((ScanRegionKernel.dat W1 c).arrAt_in w ((by decide : ∀ w : Fin 2, w ≠ 1 → (spec1 w).isOut = false) w h) cfg1.N).trans ?_
    exact (Function.update_of_ne (StableHlo.devRef_ne_of_ne ((by decide : ∀ w : Fin 2, w ≠ 1 → Pipeline.arrRef spec1 w ≠ main_v7) w h))
      (readOf W1 c) (W1 c)).symm

/-- The logits, as the call leaves them from buffers `W2`. -/
def logitsOf (c : Dev nD) : Buf (Elt F) ((c : Thread nD τ).loc main_v10) := (OutRegionKernel.dat W2 c).arrAt 5 cfg2.N

/-- The buffers after the call. -/
def next2 (c : Dev nD) : Valuation τ sig (Elt F) := Function.update (W2 c) (Proc.devRef .tc main_v10) (logitsOf W2 c)

/-- At each window's array they are as the pipeline leaves it. -/
theorem left2 (c : Dev nD) (w : Fin cfg2.W) :
    (OutRegionKernel.dat W2 c).arrAt w cfg2.N = next2 W2 c (Proc.devRef .tc (Pipeline.arrRef cfg2.spec w)) := by
  unfold next2
  by_cases h : w = (5 : Fin 6)
  · subst h
    exact (Function.update_self (Proc.devRef .tc main_v10) (logitsOf W2 c) (W2 c)).symm
  · refine ((OutRegionKernel.dat W2 c).arrAt_in w ((by decide : ∀ w : Fin 6, w ≠ 5 → (spec2 w).isOut = false) w h) cfg2.N).trans ?_
    exact (Function.update_of_ne (StableHlo.devRef_ne_of_ne ((by decide : ∀ w : Fin 6, w ≠ 5 → Pipeline.arrRef spec2 w ≠ main_v10) w h))
      (logitsOf W2 c) (W2 c)).symm

/-- A buffer that is no array of a call's is not its result's array. -/
theorem off {b r : Ref sig .tc} {S : Finset (Ref sig .tc)} (hr : r ∈ S) (hb : b ∉ S) : (Proc.devRef .tc b : DevRef τ sig) ≠ Proc.devRef .tc r :=
  StableHlo.devRef_ne_of_ne fun e => hb (e ▸ hr)

/-- The scan's invariant before the first point, and what it gives back after the last. -/
theorem scan_in (c : Dev nD) : (Pipeline.scopedRest (Ix := Unit) (Name := ℕ) (U := UR sig nD τ) (Lvl := ℕ) (Val := Elt F) spec1 c : sProp 𝕄)
    ⊢ ScanRegionKernel.between W1 c 0 := by
  rw [scopedRest1_split]
  unfold ScanRegionKernel.between ScanRegionKernel.scratch
  simp only [owns_whole]
  iintro ⟨⟨⟨%f2, H2⟩, ⟨%f3, H3⟩, ⟨%f4, H4⟩, ⟨%f5, H5⟩, ⟨%f6, H6⟩, ⟨%f7, H7⟩⟩, Hr⟩
  isplitr [Hr]
  · iexists (ScanRegionKernel.ofScratch (F := F) f2 f3 f4 f5 f6 f7)
    isplitr; · ipureintro; exact fun h => absurd rfl h
    isplitl [H2]; · iexact H2
    isplitl [H3]; · iexact H3
    isplitl [H4]; · iexact H4
    isplitl [H5]; · iexact H5
    isplitl [H6]; · iexact H6
    iexact H7
  iexact Hr

/-- What the scan holds between two points is, at its end, the scratch with some contents. -/
theorem scan_out (c : Dev nD) (k : ℕ) : ScanRegionKernel.between W1 c k
    ⊢ (Pipeline.scopedRest (Ix := Unit) (Name := ℕ) (U := UR sig nD τ) (Lvl := ℕ) (Val := Elt F) spec1 c : sProp 𝕄) := by
  rw [scopedRest1_split]
  unfold ScanRegionKernel.between ScanRegionKernel.scratch
  simp only [owns_whole]
  iintro ⟨⟨%s, -, H2, H3, H4, H5, H6, H7⟩, Hr⟩
  isplitr [Hr]
  · isplitl [H2]; · iexists _; iexact H2
    isplitl [H3]; · iexists _; iexact H3
    isplitl [H4]; · iexists _; iexact H4
    isplitl [H5]; · iexists _; iexact H5
    isplitl [H6]; · iexists _; iexact H6
    iexists _; iexact H7
  iexact Hr

/-- The call as a segment. -/
def call0 (hv : ∀ c t p q n, Ffn.inTable (Ffn.token (FfnRegionKernel.blk W0 c 0 t) p q n)) : RegionSeg (pcfgs (F := F)) adm (dats W0 W1 W2) () defs₀ Variants.none L lv 0 :=
  Segments.plain cfgs (dats W0 W1 W2) 0 launch0 defs₀ W0 (next0 W0)
    (fun c => FfnRegionKernel.body_obligation W0 c (hv c))
    (fun c => (dats W0 W1 W2 0 c).share_full fun _ => rfl) (fun _ _ => rfl) (fun _ _ => trivial) (FfnRegionKernel.A_eq W0) (left0 W0)
    (fun c b hb => Function.update_of_ne (off (Finset.mem_image.mpr ⟨(9 : Fin 10), Finset.mem_univ _, rfl⟩) hb) _ _)
    (fun c => FfnRegionKernel.Φ_eq W0 c)

/-- The call as a segment. -/
def call1 : RegionSeg (pcfgs (F := F)) adm (dats W0 W1 W2) () defs₀ Variants.none L lv 1 :=
  Segments.segment cfgs (dats W0 W1 W2) 1 launch1 defs₀ W1 (next1 W1)
    (ScanRegionKernel.body_obligation W1)
    (fun c => (dats W0 W1 W2 1 c).share_full fun _ => rfl) (fun _ _ => rfl) (fun _ _ => trivial) (ScanRegionKernel.A_eq W1) (left1 W1)
    (fun c b hb => Function.update_of_ne (off (Finset.mem_image.mpr ⟨(1 : Fin 2), Finset.mem_univ _, rfl⟩) hb) _ _)
    (fun c => scan_in W1 c) (fun c => scan_out W1 c _)

/-- The call as a segment. -/
def call2 : RegionSeg (pcfgs (F := F)) adm (dats W0 W1 W2) () defs₀ Variants.none L lv 2 :=
  Segments.plain cfgs (dats W0 W1 W2) 2 launch2 defs₀ W2 (next2 W2)
    (OutRegionKernel.body_obligation W2)
    (fun c => (dats W0 W1 W2 2 c).share_full fun _ => rfl) (fun _ _ => rfl) (fun _ _ => trivial) (OutRegionKernel.A_eq W2) (left2 W2)
    (fun c b hb => Function.update_of_ne (off (Finset.mem_image.mpr ⟨(5 : Fin 6), Finset.mem_univ _, rfl⟩) hb) _ _)
    (fun c => OutRegionKernel.Φ_eq W2 c)

/-! ## The buffers between the calls -/

variable (m : (ℓ : Loc nD τ sig) → Buf (Elt F) ℓ)

abbrev A2 (c : Dev nD) : Valuation τ sig (Elt F) := next0 (V1 m) c
abbrev A3 (c : Dev nD) : Valuation τ sig (Elt F) := StableHlo.after hostOps1 (A2 m c)
abbrev A4 (c : Dev nD) : Valuation τ sig (Elt F) := next1 (A3 m) c
abbrev A5 (c : Dev nD) : Valuation τ sig (Elt F) := StableHlo.after hostOps2 (A4 m c)
abbrev A6 (c : Dev nD) : Valuation τ sig (Elt F) := next2 (A5 m) c

/-- What the calls leave, as the generated valuations read it. -/
def outs : Outs (F := F) := fun J r c => if J = 2 then A2 m c r else if J = 4 then A4 m c r else A6 m c r

/-- The contents after the first call. -/
theorem V2_eq (c : Dev nD) : V2 m (outs m) c = A2 m c := by
  have e : outs m 2 main_v5 c = keysOf (V1 m) c := (if_pos rfl).trans (Function.update_self ..)
  unfold V2 A2 next0
  rw [e]
/-- The contents before the second call. -/
theorem V3_eq (c : Dev nD) : V3 m (outs m) c = A3 m c := congrArg (StableHlo.after hostOps1) (V2_eq m c)
/-- The contents after the second call. -/
theorem V4_eq (c : Dev nD) : V4 m (outs m) c = A4 m c := by
  have e : outs m 4 main_v7 c = readOf (A3 m) c := (if_neg (by decide)).trans ((if_pos rfl).trans (Function.update_self ..))
  unfold V4 A4 next1
  rw [e, V3_eq]
/-- The contents before the third call. -/
theorem V5_eq (c : Dev nD) : V5 m (outs m) c = A5 m c := congrArg (StableHlo.after hostOps2) (V4_eq m c)

/-! ## The run -/

variable (hv : ∀ c t p q n, Ffn.inTable (Ffn.token (FfnRegionKernel.blk (V1 m) c 0 t) p q n))

/-- The launch's ghost state: the pipelines' cells and nothing else. -/
abbrev ghost : UR sig nD τ := initOf (Pipeline.cells cfgs cellOf_inj) (Pipeline.launchToks cfgs cellOf_inj)

-- the launch theorem's implicit arguments are found by unifying its conclusion with this one, which takes unfolding plain definitions
set_option backward.isDefEq.respectTransparency.types false in
include hv in
/-- From any memory whose tokens are rows of the table, the program runs, and at the end every unscoped buffer is as the three
    calls leave it and every semaphore counter is zero. -/
theorem run_main (ρ : Dev nD → PrngReg) :
    θ_run defs (onTc (τ := τ) (main (F := F))) ⟨m, fun _ => 0, ρ⟩
      (fun r => (∀ c : Dev nD, ∀ b ∈ Pipeline.ucRefs τ sig, r.2.mem ((c : Thread nD τ).1, b) = A6 m c b) ∧ r.2.sem = fun _ => 0) := by
  refine Pipeline.θ_run_regions_kit_dev_sems (pcfgs (F := F)) adm (dats (V1 m) (A3 m) (A5 m)) () cellOf_inj emb₁ defs₀ Variants.none L lv m ρ main
    (segs m (outs m) Variants.none L lv (fun _ c => Free c) () (dats (V1 m) (A3 m) (A5 m)) (call0 (V1 m) (A3 m) (A5 m) hv) (call1 (V1 m) (A3 m) (A5 m)) (call2 (V1 m) (A3 m) (A5 m)))
    (fun c Q => by
      rewrite [main_chain c, Seg.run_eq_chain,
        show (segs m (outs m) Variants.none L lv (fun _ c => Free c) () (dats (V1 m) (A3 m) (A5 m)) (call0 (V1 m) (A3 m) (A5 m) hv) (call1 (V1 m) (A3 m) (A5 m)) (call2 (V1 m) (A3 m) (A5 m)) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) (fun _ => 0) (fun _ _ => rfl) (fun _ => iprop(emp)) ghost
    (by
      iintro Hu; imodintro
      isplitl [Hu]; · iapply (show (ownU ghost : sProp 𝕄) ⊢ BI.own (emb₁ ghost) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Free c))
    (Tₙ := fun c => StableHlo.held (c : Thread nD τ) (Pipeline.ucRefs τ sig) (A6 m c))
    (hch := fun c => ⟨.rfl, .rfl, ?_, ?_, ?_, ?_, .rfl⟩)
    (hinit := ?_) (QY := fun c s => ∀ b ∈ Pipeline.ucRefs τ sig, s.mem ((c : Thread nD τ).1, b) = A6 m c b)
    (hfin := fun c s' => ?_) (hQ := fun _ h hz => ⟨h, funext fun g => hz g (.inr (regions_no_unscoped g.2))⟩)
  · exact (Entails.of_eq (congrArg (fun V => iprop(StableHlo.held (c : Thread nD τ) (Pipeline.ucRefs τ sig) V ∗ Free c)) (V2_eq m c).symm))
  · exact (Entails.of_eq (congrArg (fun V => iprop(StableHlo.held (c : Thread nD τ) (Pipeline.ucRefs τ sig) V ∗ Free c)) (V3_eq m c)))
  · exact (Entails.of_eq (congrArg (fun V => iprop(StableHlo.held (c : Thread nD τ) (Pipeline.ucRefs τ sig) V ∗ Free c)) (V4_eq m c).symm))
  · exact (Entails.of_eq (congrArg (fun V => iprop(StableHlo.held (c : Thread nD τ) (Pipeline.ucRefs τ sig) V ∗ Free c)) (V5_eq m c)))
  · refine Pipeline.initEach L lv fun c => ?_
    rw [show unscopedBufs c (fun b => m ((c : Thread nD τ).loc b)) = StableHlo.held (c : Thread nD τ) (Pipeline.ucRefs τ sig) (V0 m c)
      from Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (A6 m c) s') $$ [Hh HSI]
    · isplitl [Hh] <;> iassumption
    imodintro; iexact Hr

end Cert.Proof.LaunchKernel

end
-- ==== Proof.FrameKernel.lean ====
/-
  The program as written's frame: from any memory whose tokens are rows of the table the run ends with the arguments as they were
  and every semaphore counter at zero.
-/
module

public import proofs.«01_k».proof.Proof.LaunchKernel
public import proofs.«01_k».proof.Proof.Pre
public import Idealize.ShloMosaic.Lib.StableHlo.RunHlo
public import Idealize.ShloMosaic.Lib.StableHlo.RunRead

@[expose] public section

noncomputable section

namespace Cert.Proof.FrameKernel

open Idealize.ShloMosaic Idealize.ShloMosaic.TcCoe Idealize.ShloMosaic.StableHlo Idealize.ShloMosaic.Tactic
open Idealize.SL Idealize.SL.Sem
open Cert.Kernel Cert.Kernel.Gen
open Cert.Proof.LaunchKernel

variable [Cert.Kernel.Facts]
variable {F : FTy → Type} [FloatOps F]
variable (m : (ℓ : Loc nD τ sig) → Buf (Elt F) ℓ)

/-- The tokens as the first call reads them are those of the first argument, laid out in one line. -/
theorem V1_tokens (c : Dev nD) : V1 m c main_v0 = shapeCast S32768 (m ((c : Thread nD τ).loc main_arg0)) shapeCasts_S64x512_S32768 := by
  show StableHlo.after hostOps0 (V0 m c) (Proc.devRef .tc main_v0) = _
  after_reads_simp
  rfl

/-- Tokens below 32000 are rows of the table, at every point of the grid. -/
theorem tokens_ok (h : ∀ (c : Dev nD) i, (m ((c : Thread nD τ).loc main_arg0) i).toNat < 32000) :
    ∀ c t p q n, Ffn.inTable (Ffn.token (FfnRegionKernel.blk (V1 m) c 0 t) p q n) := fun c t p q n => by
  refine Ffn.inTable_of_lt ?_
  have key : ∀ i, (V1 m c main_v0 i).toNat < 32000 := fun i => by
    rw [V1_tokens]; exact h c _
  exact key _

/-- A buffer no call and no host operation writes is at the end as it was. -/
theorem kept (c : Dev nD) (r : Ref sig .tc) (h0 : r ∉ hostOps0_W) (h1 : r ∉ hostOps1_W) (h2 : r ∉ hostOps2_W)
    (h5 : r ≠ main_v5) (h7 : r ≠ main_v7) (h10 : r ≠ main_v10) : A6 m c r = m ((c : Thread nD τ).loc r) := by
  unfold A6 next2
  rw [Function.update_of_ne (StableHlo.devRef_ne_of_ne h10)]
  unfold A5
  rw [StableHlo.after_of_writes_sub hostOps2 _ hostOps2_writes h2]
  unfold A4 next1
  rw [Function.update_of_ne (StableHlo.devRef_ne_of_ne h7)]
  unfold A3
  rw [StableHlo.after_of_writes_sub hostOps1 _ hostOps1_writes h1]
  unfold A2 next0
  rw [Function.update_of_ne (StableHlo.devRef_ne_of_ne h5), V1_of m c r h0]

/-- The arguments, all thirteen, are as they were. -/
def Same (s : MemSt nD τ sig (Elt F)) : Prop := ∀ c : Dev nD,
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)
  ∧ s.mem ((c.tc : Thread nD τ).loc main_arg11) = m ((c.tc : Thread nD τ).loc main_arg11)
  ∧ s.mem ((c.tc : Thread nD τ).loc main_arg12) = m ((c.tc : Thread nD τ).loc main_arg12)

/-- With tokens below 32000 the program runs, leaves its arguments, has its result as the three calls make it and all
    counters at zero. -/
theorem run (h : ∀ (c : Dev nD) i, (m ((c : Thread nD τ).loc main_arg0) i).toNat < 32000) (ρ : Dev nD → PrngReg) :
    θ_run defs (onTc (τ := τ) (main (F := F))) ⟨m, fun _ => 0, ρ⟩
      (fun r => ((∀ c : Dev nD, r.2.mem ((c.tc : Thread nD τ).loc main_v10) = A6 m c main_v10) ∧ Same m r.2) ∧ r.2.sem = fun _ => 0) :=
  θ_run_mono (run_main m (tokens_ok m h) ρ) fun r hr => by
    have at' : ∀ (c : Dev nD) (b : Ref sig .tc), (Proc.devRef .tc b : DevRef τ sig).isScoped = false →
        r.2.mem ((c : Thread nD τ).loc b) = A6 m c b := fun c b hb =>
      hr.1 c b (Finset.mem_filter.mpr ⟨StableHlo.devRef_mem_tcRefs b, by rw [hb]; exact Bool.false_ne_true⟩)
    have arg : ∀ (c : Dev nD) (b : Ref sig .tc), (Proc.devRef .tc b : DevRef τ sig).isScoped = false → b ∉ hostOps0_W → b ∉ hostOps1_W → b ∉ hostOps2_W →
        b ≠ main_v5 → b ≠ main_v7 → b ≠ main_v10 → r.2.mem ((c : Thread nD τ).loc b) = m ((c : Thread nD τ).loc b) :=
      fun c b hb h0 h1 h2 h5 h7 h10 => (at' c b hb).trans (kept m c b h0 h1 h2 h5 h7 h10)
    refine ⟨⟨fun c => at' c main_v10 (by decide), fun c => ?_⟩, hr.2⟩
    refine ⟨?_, ?_, ?_, ?_, ?_, ?_, ?_, ?_, ?_, ?_, ?_, ?_, ?_⟩ <;>
      exact arg c _ (by decide) (by decide) (by decide) (by decide) (by decide) (by decide) (by decide)

end Cert.Proof.FrameKernel

end
-- ==== Proof.RefFrame.lean ====
/-
  The reference's run: which buffers it leaves as they were.
-/
module

public import proofs.«01_k».proof.Proof.Gen.ReferenceIdeal.Run
public import Idealize.ShloMosaic.Lib.Quiescent
public import Idealize.ShloMosaic.Lib.StableHlo.RunHlo

@[expose] public section

noncomputable section

namespace Cert.Proof.RefFrame

open Idealize.ShloMosaic Idealize.ShloMosaic.TcCoe Idealize.ShloMosaic.StableHlo
open Idealize.SL Idealize.SL.Sem
open Cert.ReferenceIdeal Cert.ReferenceIdeal.Gen Cert.ReferenceIdeal.Value

variable [Cert.ReferenceIdeal.Facts]
variable {F : FTy → Type} [FloatOps F]
variable (m : (ℓ : Loc nD τ sig) → Buf (Elt F) ℓ)

/-- The buffers at the end of the run. -/
abbrev final (c : Dev nD) : Valuation τ sig (Elt F) := finalContents condOps preI bodyI postI 511 m c

/-- Everything the operations before the loop write. -/
abbrev before : List (Ref sig .tc) := hostOps0_W ++ hostOps0_1_W ++ hostOps0_2_W ++ hostOps0_3_W ++ hostOps0_4_W
/-- Everything one trip writes. -/
abbrev trip : List (Ref sig .tc) := condOps_W ++ while0Ops0_W ++ while0Ops0_1_W ++ while0Ops0_2_W ++ while0Ops0_3_W ++ while0Ops0_4_W
  ++ while0Ops0_5_W ++ while0Ops0_6_W ++ while0Ops0_7_W ++ while0Ops0_8_W ++ while0Ops0_9_W

/-- Everything the operations after the loop write. -/
abbrev behind : List (Ref sig .tc) := [main_v41, main_v42, main_v43, main_v44, main_v45, main_v46, main_v47, main_v48, main_v49, main_v50, main_v51]

/-- The operations after the loop write these. -/
theorem behind_writes : (hostOps0_5 : List (HloOp τ sig (Elt F))).Forall fun op => op.writes ⊆ (behind.map (Proc.devRef (τ := τ) .tc)).toFinset :=
  forall_writes_sub_of_map rfl

/-- What the operations before the loop do not write they leave. -/
theorem entry_keeps (c : Dev nD) (r : Ref sig .tc) (h : r ∉ before) :
    entryContents preI m c (Proc.devRef .tc r) = m ((c : Thread nD τ).loc r) := by
  simp only [before, List.mem_append, not_or] at h
  obtain ⟨⟨⟨⟨h0, h1⟩, h2⟩, h3⟩, h4⟩ := h
  simp only [entryContents, afterL_cons, afterL_nil]
  rw [after_of_writes_sub _ _ hostOps0_4_writes h4, after_of_writes_sub _ _ hostOps0_3_writes h3, after_of_writes_sub _ _ hostOps0_2_writes h2,
    after_of_writes_sub _ _ hostOps0_1_writes h1, after_of_writes_sub _ _ hostOps0_writes h0]

/-- What a trip does not write stays through the loop. -/
theorem loop_keeps (c : Dev nD) (r : Ref sig .tc) (h : r ∉ trip) : ∀ k, atK m k c (Proc.devRef .tc r) = entryContents preI m c (Proc.devRef .tc r)
  | 0 => rfl
  | k + 1 => by
    have ih := loop_keeps c r h k
    simp only [trip, List.mem_append, not_or] at h
    obtain ⟨⟨⟨⟨⟨⟨⟨⟨⟨⟨hc, h0⟩, h1⟩, h2⟩, h3⟩, h4⟩, h5⟩, h6⟩, h7⟩, h8⟩, h9⟩ := h
    rw [show atK m (k + 1) c = afterL bodyI (after condOps (atK m k c)) from rfl]
    simp only [afterL_cons, afterL_nil]
    rw [after_of_writes_sub _ _ while0Ops0_9_writes h9, after_of_writes_sub _ _ while0Ops0_8_writes h8,
      after_of_writes_sub _ _ while0Ops0_7_writes h7, after_of_writes_sub _ _ while0Ops0_6_writes h6,
      after_of_writes_sub _ _ while0Ops0_5_writes h5, after_of_writes_sub _ _ while0Ops0_4_writes h4,
      after_of_writes_sub _ _ while0Ops0_3_writes h3, after_of_writes_sub _ _ while0Ops0_2_writes h2,
      after_of_writes_sub _ _ while0Ops0_1_writes h1, after_of_writes_sub _ _ while0Ops0_writes h0,
      after_of_writes_sub _ _ condOps_writes hc]
    exact ih

/-- What nothing writes ends as it was. -/
theorem final_keeps (c : Dev nD) (r : Ref sig .tc) (hb : r ∉ before) (ht : r ∉ trip) (hp : r ∉ behind) :
    final m c (Proc.devRef .tc r) = m ((c : Thread nD τ).loc r) := by
  have hc : r ∉ condOps_W := fun h => ht (by simp only [trip, List.mem_append]; tauto)
  unfold final finalContents
  simp only [afterL_cons, afterL_nil]
  rw [after_of_writes_sub _ _ behind_writes hp, after_of_writes_sub _ _ condOps_writes hc]
  exact (loop_keeps m c r ht 511).trans (entry_keeps m c r hb)

/-- The reference runs; at the end every buffer is as the fold has it and the counters are zero. -/
theorem run (ρ : Dev nD → PrngReg) : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c : Thread nD τ).loc b) = final m c (Proc.devRef .tc b)) ∧ r.2.sem = fun _ => 0) :=
  θ_run_mono (run_fold m ρ) fun r hr => ⟨hr, sem_eq_zero_of_no_sems rfl r.2⟩

end Cert.Proof.RefFrame

end
-- ==== Proof.Frames.lean ====
/-
  The frame claims and the two named constants.
-/
module

public import proofs.«01_k».proof.Defs
public import proofs.«01_k».proof.Proof.FrameIdeal
public import proofs.«01_k».proof.Proof.FrameKernel
public import proofs.«01_k».proof.Proof.RefFrame
public import proofs.«01_k».proof.Proof.Pre

@[expose] public section

noncomputable section

namespace Cert.Proof.Frames

open Idealize.ShloMosaic Idealize.ShloMosaic.TcCoe Idealize.ShloMosaic.StableHlo
open Idealize.SL Idealize.SL.Sem

/-- The program as written runs and leaves its arguments. -/
theorem written [Cert.Kernel.Facts] [Cert.Pre_tokens_in_range.Facts] : Cert.quiescent_Kernel := fun m g h =>
  θ_run_mono (FrameKernel.run m (fun c => Pre.tokens _ _ _ _ _ _ _ _ _ _ _ _ _ (h c)) g) fun _ hr => ⟨hr.1.2, hr.2⟩

/-- So does the idealized program. -/
theorem ideal [Cert.KernelIdeal.Facts] [Cert.Pre_tokens_in_range.Facts] : Cert.quiescent_KernelIdeal := fun m g h =>
  θ_run_mono (FrameIdeal.run m (fun c => Pre.tokens _ _ _ _ _ _ _ _ _ _ _ _ _ (h c)) g) fun _ hr => ⟨hr.1.2, hr.2⟩

/-- The reference leaves its arguments. -/
theorem same [Cert.ReferenceIdeal.Facts] {F : FTy → Type} [FloatOps F] (m : (ℓ : Loc Cert.ReferenceIdeal.nD Cert.ReferenceIdeal.τ Cert.ReferenceIdeal.sig) → Buf (Elt F) ℓ)
    (c : Dev Cert.ReferenceIdeal.nD) (b : Ref Cert.ReferenceIdeal.sig .tc) (h0 : b ∉ RefFrame.before) (h1 : b ∉ RefFrame.trip) (h2 : b ∉ RefFrame.behind)
    (hb : (Proc.devRef .tc b : DevRef Cert.ReferenceIdeal.τ Cert.ReferenceIdeal.sig).isScoped = false)
    {s : MemSt Cert.ReferenceIdeal.nD Cert.ReferenceIdeal.τ Cert.ReferenceIdeal.sig (Elt F)}
    (hs : ∀ (c : Dev Cert.ReferenceIdeal.nD) (b : Ref Cert.ReferenceIdeal.sig .tc), (Proc.devRef .tc b : DevRef Cert.ReferenceIdeal.τ Cert.ReferenceIdeal.sig).isScoped = false →
      s.mem ((c : Thread Cert.ReferenceIdeal.nD Cert.ReferenceIdeal.τ).loc b) = RefFrame.final m c (Proc.devRef .tc b)) :
    s.mem ((c : Thread Cert.ReferenceIdeal.nD Cert.ReferenceIdeal.τ).loc b) = m ((c : Thread Cert.ReferenceIdeal.nD Cert.ReferenceIdeal.τ).loc b) :=
  (hs c b hb).trans (RefFrame.final_keeps m c b h0 h1 h2)

/-- Over any floats the reference's operations run, leave the arguments and end with the counters zero. -/
theorem leaves [Cert.ReferenceIdeal.Facts] {F : FTy → Type} [FloatOps F] (m : (ℓ : Loc Cert.ReferenceIdeal.nD Cert.ReferenceIdeal.τ Cert.ReferenceIdeal.sig) → Buf (Elt F) ℓ)
    (g : Dev Cert.ReferenceIdeal.nD → PrngReg) :
    θ_run (Cert.ReferenceIdeal.defs (F := F)) (onTc (τ := Cert.ReferenceIdeal.τ) (Cert.ReferenceIdeal.main (F := F))) ⟨m, fun _ => 0, g⟩ (fun r => (∀ c : Dev Cert.ReferenceIdeal.nD,
      r.2.mem ((c : Thread Cert.ReferenceIdeal.nD Cert.ReferenceIdeal.τ).loc Cert.ReferenceIdeal.main_arg0) = m ((c : Thread Cert.ReferenceIdeal.nD Cert.ReferenceIdeal.τ).loc Cert.ReferenceIdeal.main_arg0)
      ∧ r.2.mem ((c : Thread Cert.ReferenceIdeal.nD Cert.ReferenceIdeal.τ).loc Cert.ReferenceIdeal.main_arg1) = m ((c : Thread Cert.ReferenceIdeal.nD Cert.ReferenceIdeal.τ).loc Cert.ReferenceIdeal.main_arg1)
      ∧ r.2.mem ((c : Thread Cert.ReferenceIdeal.nD Cert.ReferenceIdeal.τ).loc Cert.ReferenceIdeal.main_arg2) = m ((c : Thread Cert.ReferenceIdeal.nD Cert.ReferenceIdeal.τ).loc Cert.ReferenceIdeal.main_arg2)
      ∧ r.2.mem ((c : Thread Cert.ReferenceIdeal.nD Cert.ReferenceIdeal.τ).loc Cert.ReferenceIdeal.main_arg3) = m ((c : Thread Cert.ReferenceIdeal.nD Cert.ReferenceIdeal.τ).loc Cert.ReferenceIdeal.main_arg3)
      ∧ r.2.mem ((c : Thread Cert.ReferenceIdeal.nD Cert.ReferenceIdeal.τ).loc Cert.ReferenceIdeal.main_arg4) = m ((c : Thread Cert.ReferenceIdeal.nD Cert.ReferenceIdeal.τ).loc Cert.ReferenceIdeal.main_arg4)
      ∧ r.2.mem ((c : Thread Cert.ReferenceIdeal.nD Cert.ReferenceIdeal.τ).loc Cert.ReferenceIdeal.main_arg5) = m ((c : Thread Cert.ReferenceIdeal.nD Cert.ReferenceIdeal.τ).loc Cert.ReferenceIdeal.main_arg5)
      ∧ r.2.mem ((c : Thread Cert.ReferenceIdeal.nD Cert.ReferenceIdeal.τ).loc Cert.ReferenceIdeal.main_arg6) = m ((c : Thread Cert.ReferenceIdeal.nD Cert.ReferenceIdeal.τ).loc Cert.ReferenceIdeal.main_arg6)
      ∧ r.2.mem ((c : Thread Cert.ReferenceIdeal.nD Cert.ReferenceIdeal.τ).loc Cert.ReferenceIdeal.main_arg7) = m ((c : Thread Cert.ReferenceIdeal.nD Cert.ReferenceIdeal.τ).loc Cert.ReferenceIdeal.main_arg7)
      ∧ r.2.mem ((c : Thread Cert.ReferenceIdeal.nD Cert.ReferenceIdeal.τ).loc Cert.ReferenceIdeal.main_arg8) = m ((c : Thread Cert.ReferenceIdeal.nD Cert.ReferenceIdeal.τ).loc Cert.ReferenceIdeal.main_arg8)
      ∧ r.2.mem ((c : Thread Cert.ReferenceIdeal.nD Cert.ReferenceIdeal.τ).loc Cert.ReferenceIdeal.main_arg9) = m ((c : Thread Cert.ReferenceIdeal.nD Cert.ReferenceIdeal.τ).loc Cert.ReferenceIdeal.main_arg9)
      ∧ r.2.mem ((c : Thread Cert.ReferenceIdeal.nD Cert.ReferenceIdeal.τ).loc Cert.ReferenceIdeal.main_arg10) = m ((c : Thread Cert.ReferenceIdeal.nD Cert.ReferenceIdeal.τ).loc Cert.ReferenceIdeal.main_arg10)
      ∧ r.2.mem ((c : Thread Cert.ReferenceIdeal.nD Cert.ReferenceIdeal.τ).loc Cert.ReferenceIdeal.main_arg11) = m ((c : Thread Cert.ReferenceIdeal.nD Cert.ReferenceIdeal.τ).loc Cert.ReferenceIdeal.main_arg11)
      ∧ r.2.mem ((c : Thread Cert.ReferenceIdeal.nD Cert.ReferenceIdeal.τ).loc Cert.ReferenceIdeal.main_arg12) = m ((c : Thread Cert.ReferenceIdeal.nD Cert.ReferenceIdeal.τ).loc Cert.ReferenceIdeal.main_arg12))
      ∧ r.2.sem = fun _ => 0) :=
  θ_run_mono (RefFrame.run m g) fun r hr => by
    refine ⟨fun c => ?_, hr.2⟩
    refine ⟨?_, ?_, ?_, ?_, ?_, ?_, ?_, ?_, ?_, ?_, ?_, ?_, ?_⟩ <;>
      exact same m c _ (by decide) (by decide) (by decide) (by decide) hr.1

/-- The idealized reference runs and leaves its arguments. -/
theorem reference [Cert.ReferenceIdeal.Facts] : Cert.quiescent_ReferenceIdeal := fun m g _ => leaves m g

/-- So does it under the value claim's precondition. -/
theorem reference_tokens [Cert.ReferenceIdeal.Facts] [Cert.Pre_tokens_in_range.Facts] : Cert.quiescent_ReferenceIdeal_pre_tokens_in_range :=
  fun m g _ => reference m g trivial

/-- The two named constants stand for the words of the program as written. -/
theorem constants : Cert.preserves_Kernel_KernelIdeal :=
  ⟨IdealRules.named_const.statement _ _ _ _ _ rfl, IdealRules.named_const.statement _ _ _ _ _ rfl⟩

end Cert.Proof.Frames

end
-- ==== Proof.RefWritten.lean ====
/-
  The reference as written: its text is that of the idealized reference, read over machine floats, so the run already proved carries over.
-/
module

public import proofs.«01_k».proof.Defs
public import proofs.«01_k».proof.Proof.Gen.ReferenceIdeal
public import proofs.«01_k».proof.Proof.Frames

@[expose] public section

noncomputable section

namespace Cert.Proof.RefWritten

open Idealize.ShloMosaic Idealize.ShloMosaic.TcCoe Idealize.ShloMosaic.StableHlo
open Idealize.SL Idealize.SL.Sem

/-- The side conditions of the reference as written: they are those of the idealized reference. -/
theorem sides : Cert.Reference.Facts₀ where
  bcast_S_S64x512 := Cert.ReferenceIdeal.Gen.bcast_S_S64x512
  bcast_S64x512_S64x512x1_0_1 := Cert.ReferenceIdeal.Gen.bcast_S64x512_S64x512x1_0_1
  bcast_S256_S1x1x256_2 := Cert.ReferenceIdeal.Gen.bcast_S256_S1x1x256_2
  bcast_S1x1x256_S64x512x256_0_1_2 := Cert.ReferenceIdeal.Gen.bcast_S1x1x256_S64x512x256_0_1_2
  bcast_S_S64x512x256 := Cert.ReferenceIdeal.Gen.bcast_S_S64x512x256
  bcast_S128_S1x1x128_2 := Cert.ReferenceIdeal.Gen.bcast_S128_S1x1x128_2
  bcast_S1x1x128_S64x512x128_0_1_2 := Cert.ReferenceIdeal.Gen.bcast_S1x1x128_S64x512x128_0_1_2
  reducesTo_S64x512x128_S64x512_d2 := Cert.ReferenceIdeal.Gen.reducesTo_S64x512x128_S64x512_d2
  h_S_ := Cert.ReferenceIdeal.Gen.h_S_
  bcast_S_S64x512x1 := Cert.ReferenceIdeal.Gen.bcast_S_S64x512x1
  bcast_S64x512x1_S64x512x128_0_1_2 := Cert.ReferenceIdeal.Gen.bcast_S64x512x1_S64x512x128_0_1_2
  slices_S64x512x128_S64x511x128_0_0_0 := Cert.ReferenceIdeal.Gen.slices_S64x512x128_S64x511x128_0_0_0
  transposes_S64x511x128_S511x64x128_1_0_2 := Cert.ReferenceIdeal.Gen.transposes_S64x511x128_S511x64x128_1_0_2
  bcast_S_S64x128x128 := Cert.ReferenceIdeal.Gen.bcast_S_S64x128x128
  bcast_S_S64x128 := Cert.ReferenceIdeal.Gen.bcast_S_S64x128
  sliceFits_S511x64x128_S1x64x128 := Cert.ReferenceIdeal.Gen.sliceFits_S511x64x128_S1x64x128
  shapeCasts_S1x64x128_S64x128 := Cert.ReferenceIdeal.Gen.shapeCasts_S1x64x128_S64x128
  reducesTo_S64x128_S64_d1 := Cert.ReferenceIdeal.Gen.reducesTo_S64x128_S64_d1
  bcast_S64_S64x1_0 := Cert.ReferenceIdeal.Gen.bcast_S64_S64x1_0
  bcast_S_S64x1 := Cert.ReferenceIdeal.Gen.bcast_S_S64x1
  bcast_S64x1_S64x128_0_1 := Cert.ReferenceIdeal.Gen.bcast_S64x1_S64x128_0_1
  bcast_S64x128_S64x128x1_0_1 := Cert.ReferenceIdeal.Gen.bcast_S64x128_S64x128x1_0_1
  bcast_S64x128_S64x1x128_0_2 := Cert.ReferenceIdeal.Gen.bcast_S64x128_S64x1x128_0_2
  bcast_S64x128x1_S64x128x128_0_1_2 := Cert.ReferenceIdeal.Gen.bcast_S64x128x1_S64x128x128_0_1_2
  bcast_S64x1x128_S64x128x128_0_1_2 := Cert.ReferenceIdeal.Gen.bcast_S64x1x128_S64x128x128_0_1_2
  bcast_S_S64 := Cert.ReferenceIdeal.Gen.bcast_S_S64
  bcast_S64_S64x1x1_0 := Cert.ReferenceIdeal.Gen.bcast_S64_S64x1x1_0
  bcast_S_S64x1x1 := Cert.ReferenceIdeal.Gen.bcast_S_S64x1x1
  bcast_S64x1x1_S64x128x128_0_1_2 := Cert.ReferenceIdeal.Gen.bcast_S64x1x1_S64x128x128_0_1_2
  slices_S64x512x128_S64x1x128_0_511_0 := Cert.ReferenceIdeal.Gen.slices_S64x512x128_S64x1x128_0_511_0
  shapeCasts_S64x1x128_S64x128 := Cert.ReferenceIdeal.Gen.shapeCasts_S64x1x128_S64x128
  bcast_S128_S1x128_1 := Cert.ReferenceIdeal.Gen.bcast_S128_S1x128_1
  bcast_S1x128_S64x128_0_1 := Cert.ReferenceIdeal.Gen.bcast_S1x128_S64x128_0_1
  bcast_S32000_S1x32000_1 := Cert.ReferenceIdeal.Gen.bcast_S32000_S1x32000_1
  bcast_S1x32000_S64x32000_0_1 := Cert.ReferenceIdeal.Gen.bcast_S1x32000_S64x32000_0_1
  gather_S32000x128_S64x512x1_S64x512x128_2_0_n_n_0_2_1128_wf := Cert.ReferenceIdeal.Gen.gather_S32000x128_S64x512x1_S64x512x128_2_0_n_n_0_2_1128_wf
  dot_S64x512x128_S128x256_S64x512x256_2_0_01_1_n_n_wf := Cert.ReferenceIdeal.Gen.dot_S64x512x128_S128x256_S64x512x256_2_0_01_1_n_n_wf
  dot_S64x512x256_S256x128_S64x512x128_2_0_01_1_n_n_wf := Cert.ReferenceIdeal.Gen.dot_S64x512x256_S256x128_S64x512x128_2_0_01_1_n_n_wf
  dot_S64x512x128_S128x128_S64x512x128_2_0_01_1_n_n_wf := Cert.ReferenceIdeal.Gen.dot_S64x512x128_S128x128_S64x512x128_2_0_01_1_n_n_wf
  dot_S64x128x128_S64x128_S64x128_2_1_1_n_0_0_wf := Cert.ReferenceIdeal.Gen.dot_S64x128x128_S64x128_S64x128_2_1_1_n_0_0_wf
  dot_S64x128_S128x128_S64x128_1_0_0_1_n_n_wf := Cert.ReferenceIdeal.Gen.dot_S64x128_S128x128_S64x128_1_0_0_1_n_n_wf
  dot_S64x128_S128x32000_S64x32000_1_0_0_1_n_n_wf := Cert.ReferenceIdeal.Gen.dot_S64x128_S128x32000_S64x32000_1_0_0_1_n_n_wf
  main_while0_ok := Cert.ReferenceIdeal.Gen.main_while0_ok

/-- All the conditions it states. -/
theorem facts : Cert.Reference.Facts := { sides with }

set_option maxHeartbeats 4000000 in
/-- The reference as written runs and leaves its arguments, over machine floats. -/
theorem reference [Cert.Reference.Facts] : Cert.quiescent_Reference := fun m g _ =>
  letI := Cert.ReferenceIdeal.Gen.facts
  Frames.leaves (F := Bits) m g

end Cert.Proof.RefWritten

end
-- ==== Proof.ScanZero.lean ====
/-
  The vectors of the scan's body where the memory, the updates and the predictions are zero: whatever the keys are, zero or
  not, finite or not, the predictions stay zero, their change is zero, and the gate stays shut.
-/
module

public import proofs.«01_k».proof.Proof.ScanBody
public import Idealize.ShloMosaic.Lib.Pointwise
public import Idealize.ShloMosaic.Lib.MatmulPlain
public import Idealize.ShloMosaic.Lib.Pointwise.IndexBridge
public import Idealize.ShloMosaic.Lib.Pipeline.Value
public import Mathlib.Tactic.NormNum

@[expose] public section

noncomputable section

namespace Cert.Proof.Scan

open Idealize.ShloMosaic

/-- The root of zero. -/
theorem sqrt_zero : Ideal.sqrt 0 = 0 := by
  refine (Ideal.sqrt_coe 0).trans ?_
  rw [if_neg (lt_irrefl _), Real.sqrt_zero]; rfl

/-- Zero over a positive number, be it infinite. -/
theorem zero_div {y : EReal} (h : 0 < y) : Ideal.div 0 y = 0 := by
  unfold Ideal.div
  rw [if_neg h.ne', zero_mul]

variable {fl vl : Ideal .f32}

/-- The thresholds are positive, whatever the keys. -/
theorem thresh_pos (hfl : fl = ((1 / 1000000000000 : ℝ) : EReal)) (hvl : vl = ((1 / 100 : ℝ) : EReal)) (k : FVec Ideal (T3 32 64 128) .f32)
    (g : Fin 32) (t : Fin 64) : (0 : EReal) < thresh fl vl k (ix2 g t) := by
  show (0 : EReal) < (vl : EReal) * max (sumsq k (ix2 g t) : EReal) (fl : EReal)
  have h1 : (0 : EReal) < (vl : EReal) := by rw [hvl]; exact EReal.coe_pos.mpr (by norm_num)
  have h2 : (0 : EReal) < (fl : EReal) := by rw [hfl]; exact EReal.coe_pos.mpr (by norm_num)
  exact EReal.mul_pos h1 (lt_max_of_lt_right h2)

/-- A zero memory predicts zero. -/
theorem predict_zero {kn : FVec Ideal (T3 1 64 128) .f32} {N : FVec Ideal (T3 1 128 128) .f32}
    (hN : ∀ j i, N (ix3 0 j i) = (0 : EReal)) (t : Fin 64) (i : Fin 128) : predict kn N (ix3 0 t i) = (0 : EReal) := by
  unfold predict
  pointwise
  simp only [hN, mul_zero, Finset.sum_const_zero]

/-- Zero predictions catching up with zero updates are zero. -/
theorem catchUp_zero {w : ℕ} (hw : 0 + w ≤ 64) {A : FVec Ideal (T3 1 8 64) .f32} {P : FVec Ideal (T3 1 8 128) .f32} {U : FVec Ideal (T3 1 w 128) .f32}
    (hP : ∀ r i, P (ix3 0 r i) = (0 : EReal)) (hU : ∀ s i, U (ix3 0 s i) = (0 : EReal)) (r : Fin 8) (i : Fin 128) :
    catchUp w hw A P U (ix3 0 r i) = (0 : EReal) := by
  unfold catchUp
  pointwise
  have e := Ideal.matmul_plain_apply none (extractStridedSlice (T2 8 w) ![0, 0] (shapeCast (T2 8 64) A (casts_drop 8 64)) (slices2 (by omega)))
    (shapeCast (T2 w 128) U (casts_drop w 128)) (constant (F := Ideal) (T2 8 128) .f32 0x00000000#32) r i
  rw [← ix2_eq_valueIdx, Ideal.matmul_def] at e
  rw [e, hP]
  refine (zero_add _).trans ((congrArg₂ (· + ·) Ideal.ofBits_zero_f32 (Finset.sum_eq_zero fun s _ => ?_)).trans (zero_add _))
  rw [← ix2_eq_valueIdx, ← ix2_eq_valueIdx]
  rw [shapeCast_apply U (casts_drop w 128) (ix2 s i) (ix3 0 s i) (by
    rw [Shape.rowMajor_val_three, Shape.rowMajor_val_two]
    show (0 * w + s.val) * 128 + i.val = s.val * 128 + i.val
    rw [Nat.zero_mul, Nat.zero_add]), hU, mul_zero]

/-- Zero predictions do not change. -/
theorem change_zero {vp vpp : FVec Ideal (T2 32 128) .f32} (hv : ∀ g i, vp (ix2 g i) = (0 : EReal)) (hv' : ∀ g i, vpp (ix2 g i) = (0 : EReal)) (g : Fin 32) :
    change vp vpp (ix2 g 0) = (0 : EReal) := by
  unfold change
  pointwise
  simp only [hv, hv', sub_zero, mul_zero, Finset.sum_const_zero]

/-- The predictions of a block are zero where all are. -/
theorem pend0_zero {P : FVec Ideal (T3 32 8 128) .f32} (hP : ∀ g r i, P (ix3 g r i) = (0 : EReal)) (l : ℕ) (hl : l < 8) (g : Fin 32) (i : Fin 128) :
    pend0 P l (ix2 g i) = (0 : EReal) := by
  unfold pend0
  rw [dif_pos hl]
  pointwise
  exact hP g ⟨l, hl⟩ i

/-- The gate is shut where the prediction does not change. -/
theorem gate_zero (c : BitVec 32) {t : ℕ} (ht : t < 64) {th : FVec Ideal (T2 32 64) .f32} {d2 : FVec Ideal (T2 32 1) .f32}
    (hth : ∀ g t, (0 : EReal) < th (ix2 g t)) (hd : ∀ g, d2 (ix2 g 0) = (0 : EReal)) (g : Fin 32) :
    gate c t ht th d2 (ix2 g 0) = (0 : EReal) := by
  have e : extractStridedSlice (T2 32 1) ![0, t] th (slices2 (by omega)) (ix2 g 0) = th (ix2 g ⟨t, ht⟩) :=
    extractStridedSlice_apply _ _ _ _ _ (fun a => by match a with | 0 => exact (Nat.zero_add _).symm | 1 => rfl)
  have h1 : cmpf .oge d2 (extractStridedSlice (T2 32 1) ![0, t] th (slices2 (by omega))) (ix2 g 0) =
      Ideal.cmp .oge (d2 (ix2 g 0)) (extractStridedSlice (T2 32 1) ![0, t] th (slices2 (by omega)) (ix2 g 0)) := rfl
  rw [e, hd, show Ideal.cmp .oge (0 : EReal) (th (ix2 g ⟨t, ht⟩)) = 0#1 from
    congrArg BitVec.ofBool (decide_eq_false (not_le.mpr (hth g ⟨t, ht⟩)))] at h1
  have h2 : gate c t ht th d2 (ix2 g 0) = Scalar.select (Scalar.andi (cmpf .oge d2 (extractStridedSlice (T2 32 1) ![0, t] th (slices2 (by omega))) (ix2 g 0))
      (Scalar.cmpi .sle (Scalar.addi (Scalar.muli c 64#32) (BitVec.ofNat 32 t)) 510#32)) (Ideal.ofBits .f32 0x3D4CCCCD#32) (Ideal.ofBits .f32 0x00000000#32) := rfl
  rw [h2, h1, Ideal.ofBits_zero_f32]
  exact if_neg (by
    show ¬ (0#1 &&& _ = 1#1)
    rw [BitVec.zero_and]; decide)

/-- Behind a shut gate the update is zero, whatever the key. -/
theorem update_zero {gt : FVec Ideal (T2 32 1) .f32} {kr : FVec Ideal (T3 32 1 128) .f32} {vp : FVec Ideal (T2 32 128) .f32}
    (hg : ∀ g, gt (ix2 g 0) = (0 : EReal)) (g : Fin 32) (i : Fin 128) : update gt kr vp (ix2 g i) = (0 : EReal) := by
  unfold update
  pointwise
  simp only [hg, zero_mul]

/-- A zero prediction with a zero update is zero, whatever their overlap. -/
theorem advance_zero {A : FVec Ideal (T3 32 1 64) .f32} {u p : FVec Ideal (T2 32 128) .f32}
    (hu : ∀ g i, u (ix2 g i) = (0 : EReal)) (hp : ∀ g i, p (ix2 g i) = (0 : EReal)) (t : ℕ) (ht : t < 64) (g : Fin 32) (i : Fin 128) :
    advance A u t ht p (ix2 g i) = (0 : EReal) := by
  unfold advance
  pointwise
  simp only [hu, hp, mul_zero, add_zero]

/-- A zero memory that takes zero updates is zero. -/
theorem absorb_zero {N : FVec Ideal (T3 1 128 128) .f32} {kn U : FVec Ideal (T3 1 64 128) .f32}
    (hN : ∀ j i, N (ix3 0 j i) = (0 : EReal)) (hU : ∀ t i, U (ix3 0 t i) = (0 : EReal)) (j i : Fin 128) :
    absorb N kn U dotRows (ix3 0 j i) = (0 : EReal) := by
  unfold absorb dotRows
  pointwise
  simp only [hN, hU, mul_zero, Finset.sum_const_zero, add_zero]

/-- The read-out of a zero prediction is zero. -/
theorem read_zero {vp : FVec Ideal (T2 32 128) .f32} {ln : FVec Ideal (T2 32 64) .f32}
    (hv : ∀ g i, vp (ix2 g i) = (0 : EReal)) (g : Fin 32) (i : Fin 128) :
    mulf vp (broadcastTo (T2 32 128) (extractStridedSlice (T2 32 1) ![0, 63] ln)) (ix2 g i) = (0 : EReal) := by
  pointwise
  rw [hv, zero_mul]

end Cert.Proof.Scan

end
-- ==== Proof.Spec.lean ====
/-
  The logits of a read-out, as both programs' formula.
-/
module

public import proofs.«01_k».proof.Proof.ScanBody
public import Idealize.ShloMosaic.Lib.Pointwise.IndexBridge
public import Idealize.ShloMosaic.PureOps.Ideal

@[expose] public section

noncomputable section

namespace Cert.Proof.Spec

open Idealize.ShloMosaic
open Cert.Proof.Scan (T1 T2)

/-- The logits of a read-out, element by element. -/
def logit (r : (T2 64 128).Idx → EReal) (w : (T2 128 128).Idx → EReal) (β : (T1 128).Idx → EReal) (v : (T2 128 32000).Idx → EReal)
    (γ : (T1 32000).Idx → EReal) (b : Fin 64) (n : Fin 32000) : EReal :=
  (∑ d : Fin 128, ((∑ i : Fin 128, r (ix2 b i) * w (ix2 i d)) + β (ix1 d)) * v (ix2 d n)) + γ (ix1 n)

end Cert.Proof.Spec

end
-- ==== Proof.RefScan.lean ====
/-
  The reference's loop: its memory and its last prediction are zero before every trip, whatever the keys.
-/
module

public import proofs.«01_k».proof.Proof.Gen.ReferenceIdeal.Run
public import proofs.«01_k».proof.Proof.ScanZero
public import proofs.«01_k».proof.Proof.Spec
public import proofs.«01_k».proof.Proof.RefFrame
public import Idealize.ShloMosaic.Lib.StableHlo.RunRead

@[expose] public section

noncomputable section

namespace Cert.Proof.RefScan

open Idealize.ShloMosaic
open Idealize.ShloMosaic.TcCoe
open Idealize.ShloMosaic.StableHlo Idealize.ShloMosaic.Tactic
open Cert.ReferenceIdeal Cert.ReferenceIdeal.Gen Cert.ReferenceIdeal.Value
open Cert.Proof.Scan (sqrt_zero zero_div)

variable [Cert.ReferenceIdeal.Facts]

/-- The floor under the key's length in the gate's quotient, as its word has it. -/
theorem floor_word : Ideal.ofBits .f32 0x358637BD#32 = ((8796093 / 2 ^ 43 : ℝ) : EReal) := by
  simp [Ideal.ofBits, Ideal.ieee]; rw [← EReal.coe_mul]; norm_num
/-- The gate's threshold, as its word has it. -/
theorem threshold_word : Ideal.ofBits .f32 0x3DCCCCCD#32 = ((13421773 / 2 ^ 27 : ℝ) : EReal) := by
  simp [Ideal.ofBits, Ideal.ieee]; rw [← EReal.coe_mul]; norm_num

/-- What the carried buffers hold before every trip: a zero memory and a zero last prediction. -/
structure Holds (V : Valuation τ sig (Elt Ideal)) : Prop where
  mem : ∀ (b : Fin 64) (i j : Fin 128), (V (Proc.devRef .tc main_v40_2) : S64x128x128.Idx → EReal) (ix3 b i j) = (0 : EReal)
  last : ∀ (b : Fin 64) (i : Fin 128), (V (Proc.devRef .tc main_v40_3) : S64x128.Idx → EReal) (ix2 b i) = (0 : EReal)

variable {V : Valuation τ sig (Elt Ideal)}

/-- A sum of products with zeros. -/
theorem sum_zero {n : ℕ} (x y : Fin n → EReal) (h : ∀ j, x j = 0) : ∑ j, x j * y j = (0 : EReal) :=
  Finset.sum_eq_zero fun j _ => by rw [h j, zero_mul]

/-- The prediction of a trip. -/
theorem pred_zero (h : Holds V) (b : Fin 64) (i : Fin 128) : (res_main_while0b_v57 V : S64x128.Idx → EReal) (ix2 b i) = (0 : EReal) := by
  unfold res_main_while0b_v57
  generalize (res_main_while0b_v56 V : S64x128.Idx → EReal) = u
  pointwise [dot_S64x128x128_S64x128_S64x128_2_1_1_n_0_0]
  exact sum_zero _ _ fun j => h.mem b i j

/-- The change of the prediction. -/
theorem change_zero (h : Holds V) (b : Fin 64) (i : Fin 128) : (res_main_while0b_v64 V : S64x128.Idx → EReal) (ix2 b i) = (0 : EReal) := by
  unfold res_main_while0b_v64
  pointwise
  rw [pred_zero h, h.last]
  exact sub_zero (0 : EReal)

/-- A prediction that does not move does not open the gate, and the update is zero, whatever the key and the unit key are. -/
theorem update_zero (s δ u : EReal) :
    0 + Ideal.ofBits .f32 0x3D4CCCCD#32 * FloatOps.uitofp (F := Ideal) .f32 (BitVec.ofBool (decide (Ideal.ofBits .f32 0x3DCCCCCD#32 ≤
        Ideal.div (Ideal.sqrt 0) (max (Ideal.ofBits .f32 0x358637BD#32) s)))) * (δ * u) = (0 : EReal) := by
  have hp : (0 : EReal) < Ideal.ofBits .f32 0x358637BD#32 := floor_word ▸ EReal.coe_pos.mpr (by norm_num)
  have ht : (0 : EReal) < Ideal.ofBits .f32 0x3DCCCCCD#32 := threshold_word ▸ EReal.coe_pos.mpr (by norm_num)
  rw [sqrt_zero, zero_div (lt_max_of_lt_left hp), decide_eq_false (not_le.mpr ht)]
  have e : FloatOps.uitofp (F := Ideal) .f32 (BitVec.ofBool false) = (0 : EReal) := by
    show (((0 : ℕ) : ℝ) : EReal) = 0
    norm_num
  rw [e, mul_zero, zero_mul, add_zero]

/-- The memory after a trip. -/
theorem mem_zero (h : Holds V) (b : Fin 64) (i j : Fin 128) : (step_main_v40_2 V : S64x128x128.Idx → EReal) (ix3 b i j) = (0 : EReal) := by
  unfold step_main_v40_2
  rw [id_eq]
  pointwise
  simp only [id_eq, change_zero h, h.mem, mul_zero, Finset.sum_const_zero]
  exact update_zero _ _ _

/-- One trip. -/
theorem Holds.step (h : Holds V) : Holds (STEP V) where
  mem b i j := by rw [STEP_main_v40_2]; exact mem_zero h b i j
  last b i := by
    rw [STEP_main_v40_3]
    unfold step_main_v40_3
    rw [id_eq]
    exact pred_zero h b i

/-- All the trips. -/
theorem Holds.steps (h : Holds V) : ∀ n : ℕ, Holds (STEP^[n] V)
  | 0 => h
  | n + 1 => by
    rw [Function.iterate_succ_apply']
    exact (h.steps n).step

variable (m : (ℓ : Loc nD τ sig) → Buf (Elt Ideal) ℓ) (c : Dev nD)

/-- The buffers before the last operations ahead of the loop. -/
def ahead : Valuation τ sig (Elt Ideal) := after hostOps0_3 (after hostOps0_2 (after hostOps0_1 (after hostOps0 (fun b => m (c, b)))))

/-- The loop is entered with these. -/
theorem entry_eq : entryContents preI m c = after hostOps0_4 (ahead m c) := rfl

/-- Before the loop the memory and the last prediction are zero. -/
theorem holds_entry : Holds (entryContents preI m c) where
  mem b i j := by
    rw [entry_eq]; generalize ahead m c = X
    after_reads_simp
    exact Ideal.ofBits_zero_f32
  last b i := by
    rw [entry_eq]; generalize ahead m c = X
    after_reads_simp
    exact Ideal.ofBits_zero_f32

/-- The buffers after the loop. -/
def beyond : Valuation τ sig (Elt Ideal) := after condOps (atK m 511 c)

/-- The end follows the loop. -/
theorem final_eq : RefFrame.final m c = after hostOps0_5 (beyond m c) := rfl

/-- What nothing in the loop writes is after it as before it. -/
theorem beyond_keeps (r : Ref sig .tc) (h : r ∉ RefFrame.trip) : beyond m c (Proc.devRef .tc r) = entryContents preI m c (Proc.devRef .tc r) := by
  have hc : r ∉ condOps_W := fun h' => h (by simp only [RefFrame.trip, List.mem_append]; tauto)
  exact (after_of_writes_sub _ _ condOps_writes hc).trans (RefFrame.loop_keeps m c r h 511)

/-- The memory after the loop. -/
theorem beyond_mem (b : Fin 64) (i j : Fin 128) : (beyond m c (Proc.devRef .tc main_v40_2) : S64x128x128.Idx → EReal) (ix3 b i j) = (0 : EReal) := by
  have e : beyond m c (Proc.devRef .tc main_v40_2) = STEP^[511] (entryContents preI m c) (Proc.devRef .tc main_v40_2) :=
    (cond_keeps _ main_v40_2 (by decide)).trans (atK_agree m c 511 main_v40_2 (by decide))
  rw [e]
  exact ((holds_entry m c).steps 511).mem b i j

/-- The read-out is the memory times the last key. -/
theorem read_from (X : Valuation τ sig (Elt Ideal)) (x : S64x128x128.Idx → EReal) (y : S64x512x128.Idx → EReal)
    (hx : X (Proc.devRef .tc main_v40_2) = x) (hy : X (Proc.devRef .tc main_v35) = y) (b : Fin 64) (i : Fin 128) :
    (after hostOps0_5 X (Proc.devRef .tc main_v43) : S64x128.Idx → EReal) (ix2 b i) = ∑ j, x (ix3 b i j) * y (ix3 b 511 j) := by
  after_reads_simp
  rw [hx, hy]
  pointwise [dot_S64x128x128_S64x128_S64x128_2_1_1_n_0_0]

/-- The read-out. -/
theorem read_zero (b : Fin 64) (i : Fin 128) : (RefFrame.final m c (Proc.devRef .tc main_v43) : S64x128.Idx → EReal) (ix2 b i) = (0 : EReal) := by
  rw [final_eq, read_from _ _ _ rfl rfl]
  exact sum_zero _ _ fun j => beyond_mem m c b i j

/-- The logits are those of the read-out. -/
theorem logits_from (X : Valuation τ sig (Elt Ideal)) (b : Fin 64) (n : Fin 32000) :
    (after hostOps0_5 X (Proc.devRef .tc main_v51) : S64x32000.Idx → EReal) (ix2 b n)
    = Spec.logit (after hostOps0_5 X (Proc.devRef .tc main_v43)) (X (Proc.devRef .tc main_arg9)) (X (Proc.devRef .tc main_arg10))
        (X (Proc.devRef .tc main_arg11)) (X (Proc.devRef .tc main_arg12)) b n := by
  unfold Spec.logit
  after_reads_simp
  pointwise [dot_S64x128_S128x128_S64x128_1_0_0_1_n_n, dot_S64x128_S128x32000_S64x32000_1_0_0_1_n_n]

end Cert.Proof.RefScan

end
-- ==== Proof.ScanChunk.lean ====
/-
  One chunk of the scan where the memory and the last prediction before it are zero: they are zero after it, whatever the
  keys, and at the last chunk the read-out is zero.
-/
module

public import proofs.«01_k».proof.Proof.ScanZero
public import proofs.«01_k».proof.Proof.ScanDet

@[expose] public section

noncomputable section

namespace Cert.Proof.Scan

open Idealize.ShloMosaic
open Cert.Proof.Body

/-! ## Windows and stores, element by element -/

section Windows

variable {α : Type} {A B C a b c p q r : ℕ}

/-- An element of a part of an array of three axes. -/
theorem window3 (x : (T3 A B C).Idx → α) (inb : ∀ d : Fin 3, (![a, b, c] : Fin 3 → ℕ) d + (![p, q, r] : Fin 3 → ℕ) d ≤ (T3 A B C).size d)
    (i : Fin p) (j : Fin q) (k : Fin r) (i' : Fin A) (j' : Fin B) (k' : Fin C) (hi : i'.val = a + i.val) (hj : j'.val = b + j.val) (hk : k'.val = c + k.val) :
    VecWindow.window (s := T3 A B C) x ![a, b, c] ![p, q, r] inb (ix3 i j k) = x (ix3 i' j' k') :=
  congrArg x (funext fun d => Fin.ext (by
    match d with
    | 0 => show a + 1 * i.val = i'.val; omega
    | 1 => show b + 1 * j.val = j'.val; omega
    | 2 => show c + 1 * k.val = k'.val; omega))

/-- An element inside what is stored into an array of three axes. -/
theorem put3_in (x : (T3 A B C).Idx → α) (w : (T3 p q r).Idx → α)
    (i : Fin p) (j : Fin q) (k : Fin r) (i' : Fin A) (j' : Fin B) (k' : Fin C) (hi : i'.val = a + i.val) (hj : j'.val = b + j.val) (hk : k'.val = c + k.val) :
    VecWindow.put (s := T3 A B C) x ![a, b, c] ![p, q, r] w (ix3 i' j' k') = w (ix3 i j k) := by
  have h : ∀ d : Fin 3, (![a, b, c] : Fin 3 → ℕ) d ≤ ((ix3 i' j' k' : (T3 A B C).Idx) d).val ∧ ((ix3 i' j' k' : (T3 A B C).Idx) d).val < (![a, b, c] : Fin 3 → ℕ) d + (![p, q, r] : Fin 3 → ℕ) d :=
    in3 (by
      show (a ≤ i'.val ∧ i'.val < a + p) ∧ (b ≤ j'.val ∧ j'.val < b + q) ∧ (c ≤ k'.val ∧ k'.val < c + r)
      have := i.isLt; have := j.isLt; have := k.isLt; omega)
  unfold VecWindow.put
  rw [dif_pos h]
  exact congrArg w (funext fun d => Fin.ext (by
    match d with
    | 0 => show i'.val - a = i.val; omega
    | 1 => show j'.val - b = j.val; omega
    | 2 => show k'.val - c = k.val; omega))

/-- An element outside of what is stored. -/
theorem put3_out (x : (T3 A B C).Idx → α) (w : (T3 p q r).Idx → α) (i' : Fin A) (j' : Fin B) (k' : Fin C)
    (h : ¬((a ≤ i'.val ∧ i'.val < a + p) ∧ (b ≤ j'.val ∧ j'.val < b + q) ∧ (c ≤ k'.val ∧ k'.val < c + r))) :
    VecWindow.put (s := T3 A B C) x ![a, b, c] ![p, q, r] w (ix3 i' j' k') = x (ix3 i' j' k') := by
  unfold VecWindow.put
  exact dif_neg fun hall => h ⟨hall 0, hall 1, hall 2⟩

/-- A whole matrix read. -/
theorem window2 (x : (T2 A B).Idx → α) (inb : ∀ d : Fin 2, (![0, 0] : Fin 2 → ℕ) d + (![A, B] : Fin 2 → ℕ) d ≤ (T2 A B).size d) (i : Fin A) (j : Fin B) :
    VecWindow.window (s := T2 A B) x ![0, 0] ![A, B] inb (ix2 i j) = x (ix2 i j) :=
  congrArg x (funext fun d => Fin.ext (by
    match d with
    | 0 => show 0 + 1 * i.val = i.val; omega
    | 1 => show 0 + 1 * j.val = j.val; omega))

/-- A whole matrix stored. -/
theorem put2 (x w : (T2 A B).Idx → α) (i : Fin A) (j : Fin B) :
    VecWindow.put (s := T2 A B) x ![0, 0] ![A, B] w (ix2 i j) = w (ix2 i j) := by
  have h : ∀ d : Fin 2, (![0, 0] : Fin 2 → ℕ) d ≤ ((ix2 i j : (T2 A B).Idx) d).val ∧ ((ix2 i j : (T2 A B).Idx) d).val < (![0, 0] : Fin 2 → ℕ) d + (![A, B] : Fin 2 → ℕ) d :=
    in2 (by
      show (0 ≤ i.val ∧ i.val < 0 + A) ∧ (0 ≤ j.val ∧ j.val < 0 + B)
      have := i.isLt; have := j.isLt; omega)
  unfold VecWindow.put
  rw [dif_pos h]
  exact congrArg w (funext fun d => Fin.ext (by
    match d with
    | 0 => show i.val - 0 = i.val; omega
    | 1 => show j.val - 0 = j.val; omega))

end Windows

/-- A value handed on at once. -/
theorem ret_does {β γ : Type} {b : β} {f : β → C Ideal γ} {s : State bank (Elt Ideal)} {Q : γ → State bank (Elt Ideal) → Prop} (h : Cmd.Does (f b) s Q) : Cmd.Does ((Cmd.ret b).bind f) s Q := h

/-- A store leaves the other buffers. -/
theorem update_ne {s : State bank (Elt Ideal)} {j l : Fin 8} {x : (bank.shp j).Idx → Elt Ideal (bank.el j)} (h : l ≠ j) : Function.update s j x l = s l :=
  Function.update_of_ne h _ _

/-! ## The invariant -/

/-- What the buffers hold within a chunk: a zero memory, zero for the first `t` updates, zero predictions for the first `n` rows of the batch, and
    a zero last prediction. -/
structure Held (n t : ℕ) (s : State bank (Elt Ideal)) : Prop where
  mem : ∀ (g : Fin 32) (j i : Fin 128), s 2 (ix3 g j i) = (0 : EReal)
  ups : ∀ (g : Fin 32) (r : Fin 64) (i : Fin 128), r.val < t → s 3 (ix3 g r i) = (0 : EReal)
  preds : ∀ (g : Fin 32) (r : Fin 64) (i : Fin 128), g.val < n → s 4 (ix3 g r i) = (0 : EReal)
  last : ∀ (g : Fin 32) (d : Fin 128), s 7 (ix2 g d) = (0 : EReal)

/-- Preparing one row of the batch. -/
theorem prepare_does (n : ℕ) (hn : n < 32) (a : PUnit) (s : State bank (Elt Ideal)) (h : Held n 0 s) :
    Cmd.Does (prepare n hn a) s fun _ => Held (n + 1) 0 := by
  refine Cmd.Does.load (Cmd.Does.load (Cmd.Does.load (Cmd.Does.store (Cmd.Does.load (Cmd.Does.store (Cmd.Does.ret ?_))))))
  have hN : ∀ (j i : Fin 128), VecWindow.window (s := T3 32 128 128) (s 2) ![n, 0, 0] ![1, 128, 128] (inb3 (by omega)) (ix3 0 j i) = (0 : EReal) :=
    fun j i => (window3 _ _ 0 j i ⟨n, hn⟩ j i rfl (by omega) (by omega)).trans (h.mem ⟨n, hn⟩ j i)
  refine ⟨?_, fun g r i hr => absurd hr (Nat.not_lt_zero _), ?_, ?_⟩
  · rw [update_ne (by decide), update_ne (by decide)]; exact h.mem
  · rw [update_ne (by decide), Function.update_self]
    intro g r i hg
    by_cases e : g.val < n
    · exact (put3_out _ _ _ _ _ (by omega)).trans (h.preds g r i e)
    · obtain rfl : g = ⟨n, hn⟩ := Fin.ext (show g.val = n by omega)
      exact (put3_in _ _ 0 r i _ _ _ rfl (by omega) (by omega)).trans (predict_zero hN r i)
  · rw [update_ne (by decide), update_ne (by decide)]; exact h.last

/-- One row of the batch catches up. -/
theorem catchRow_does (j : ℕ) (hj : j + 1 < 8) (n : ℕ) (hn : n < 32) (a : PUnit) (s : State bank (Elt Ideal)) (h : Held 32 (8 * (j + 1)) s) :
    Cmd.Does (catchRow j hj n hn a) s fun _ => Held 32 (8 * (j + 1)) := by
  refine Cmd.Does.load (Cmd.Does.load (Cmd.Does.load (Cmd.Does.load (Cmd.Does.store (Cmd.Does.ret ?_)))))
  have hP : ∀ (r : Fin 8) (i : Fin 128), VecWindow.window (s := T3 32 64 128) (s 4) ![n, 8 * (j + 1), 0] ![1, 8, 128] (inb3 (by omega)) (ix3 0 r i) = (0 : EReal) :=
    fun r i => (window3 _ _ 0 r i ⟨n, hn⟩ ⟨8 * (j + 1) + r.val, by omega⟩ i rfl rfl (by omega)).trans (h.preds ⟨n, hn⟩ _ i hn)
  have hU : ∀ (x : Fin (8 * (j + 1))) (i : Fin 128), VecWindow.window (s := T3 32 64 128) (s 3) ![n, 0, 0] ![1, 8 * (j + 1), 128] (inb3 (by omega)) (ix3 0 x i) = (0 : EReal) :=
    fun x i => (window3 _ _ 0 x i ⟨n, hn⟩ ⟨x.val, by omega⟩ i rfl (by simp) (by omega)).trans (h.ups ⟨n, hn⟩ _ i x.isLt)
  refine ⟨?_, ?_, ?_, ?_⟩
  · rw [update_ne (by decide)]; exact h.mem
  · rw [update_ne (by decide)]; exact h.ups
  · rw [Function.update_self]
    intro g r i hg
    by_cases e : g.val = n ∧ 8 * (j + 1) ≤ r.val ∧ r.val < 8 * (j + 1) + 8
    · obtain ⟨e, e1, e2⟩ := e
      obtain rfl : g = ⟨n, hn⟩ := Fin.ext e
      exact (put3_in _ _ 0 ⟨r.val - 8 * (j + 1), by omega⟩ i _ _ _ rfl (by simp; omega) (by omega)).trans (catchUp_zero _ hP hU _ i)
    · exact (put3_out _ _ _ _ _ (by omega)).trans (h.preds g r i hg)
  · rw [update_ne (by decide)]; exact h.last

/-- A block catches up. -/
theorem catchBlock_does : ∀ (j : ℕ) (hj : j < 8) (s : State bank (Elt Ideal)), Held 32 (8 * j) s → Cmd.Does (catchBlock j hj) s fun _ => Held 32 (8 * j)
  | 0, _, _, h => Cmd.Does.ret h
  | j + 1, hj, _, h => Cmd.Does.loop (fun _ _ => Held 32 (8 * (j + 1))) h (fun n hn a s h => catchRow_does j hj n hn a s h) fun _ _ h => h

/-- Along a block: the waiting predictions and the last one are zero. -/
def Along (j i : ℕ) (x : Carry Ideal) (s : State bank (Elt Ideal)) : Prop :=
  Held 32 (8 * j + i) s ∧ (∀ (l : ℕ) (g : Fin 32) (d : Fin 128), i ≤ l → l < 8 → x.1 l (ix2 g d) = (0 : EReal)) ∧
    ∀ (g : Fin 32) (d : Fin 128), x.2 (ix2 g d) = (0 : EReal)

variable {th : FVec Ideal (T2 32 64) .f32} {c : BitVec 32}

/-- One row of a block. -/
theorem row_does (hth : ∀ (g : Fin 32) (t : Fin 64), (0 : EReal) < th (ix2 g t))
    (j : ℕ) (hj : j < 8) (i : ℕ) (hi : i < 8) (x : Carry Ideal) (s : State bank (Elt Ideal)) (h : Along j i x s) :
    Cmd.Does (row c th j hj i hi x) s (Along j (i + 1)) := by
  obtain ⟨h, hp, hv⟩ := h
  have hvp : ∀ (g : Fin 32) (d : Fin 128), x.1 i (ix2 g d) = (0 : EReal) := fun g d => hp i g d le_rfl hi
  have hu := update_zero (kr := VecWindow.window (s := T3 32 64 128) (s 0) ![0, 8 * j + i, 0] ![32, 1, 128] (inb3 (by omega))) (vp := x.1 i)
    (gate_zero c (t := 8 * j + i) (by omega) hth (change_zero hvp hv))
  refine Cmd.Does.load (Cmd.Does.load (Cmd.Does.store ?_))
  have hs : Held 32 (8 * j + (i + 1)) (Function.update s 3 (VecWindow.put (s := T3 32 64 128) (s 3) ![0, 8 * j + i, 0] ![32, 1, 128]
      (shapeCast (T3 32 1 128) (update (gate c (8 * j + i) (by omega) th (change (x.1 i) x.2))
        (VecWindow.window (s := T3 32 64 128) (s 0) ![0, 8 * j + i, 0] ![32, 1, 128] (inb3 (by omega))) (x.1 i)) (casts_mid' 32 128)))) := by
    refine ⟨?_, ?_, ?_, ?_⟩
    · rw [update_ne (by decide)]; exact h.mem
    · rw [Function.update_self]
      intro g r d hr
      by_cases e : r.val < 8 * j + i
      · exact (put3_out _ _ _ _ _ (by omega)).trans (h.ups g r d e)
      · have er : r.val = 8 * j + i := by omega
        refine (put3_in _ _ g 0 d _ _ _ (by omega) er (by omega)).trans ?_
        rw [shapeCast_apply _ _ (ix3 g 0 d) (ix2 g d) (by
          rw [Shape.rowMajor_val_three, Shape.rowMajor_val_two]
          show g.val * 128 + d.val = (g.val * 1 + 0) * 128 + d.val
          omega)]
        exact hu g d
    · rw [update_ne (by decide)]; exact h.preds
    · rw [update_ne (by decide)]; exact h.last
  show Cmd.Does (follow j hj i hi x.1 _ _) _ _
  unfold follow
  by_cases h7 : i = 7
  · rw [if_pos h7]
    exact Cmd.Does.ret ⟨hs, fun l g d hl hl' => absurd hl (by omega), hvp⟩
  · rw [if_neg h7]
    refine Cmd.Does.load (Cmd.Does.ret ⟨hs, fun l g d hl hl' => ?_, hvp⟩)
    show (if h : i < l ∧ l < 8 then advance _ _ (8 * j + l) _ (x.1 l) else x.1 l) (ix2 g d) = _
    rw [dif_pos ⟨by omega, hl'⟩]
    exact advance_zero hu (fun g d => hp l g d (by omega) hl') (8 * j + l) (by omega) g d

/-- Between blocks: the last prediction is zero. -/
def Between (j : ℕ) (v : FVec Ideal (T2 32 128) .f32) (s : State bank (Elt Ideal)) : Prop :=
  Held 32 (8 * j) s ∧ ∀ (g : Fin 32) (d : Fin 128), v (ix2 g d) = (0 : EReal)

/-- One block. -/
theorem block_does (hth : ∀ (g : Fin 32) (t : Fin 64), (0 : EReal) < th (ix2 g t))
    (j : ℕ) (hj : j < 8) (v : FVec Ideal (T2 32 128) .f32) (s : State bank (Elt Ideal)) (h : Between j v s) :
    Cmd.Does (block c th j hj v) s (Between (j + 1)) := by
  refine Cmd.Does.bind (catchBlock_does j hj s h.1) fun _ s' h' => Cmd.Does.load ?_
  refine Cmd.Does.bind (R := Along j 8) (Cmd.Does.loop (Along j) ⟨h', ?_, h.2⟩ (fun i hi x s h => row_does hth j hj i hi x s h) fun _ _ h => h)
    fun x s h => Cmd.Does.ret ⟨h.1, h.2.2⟩
  intro l g d _ hl
  refine pend0_zero (fun g r i => ?_) l hl g d
  exact (window3 _ _ g r i g ⟨8 * j + r.val, by omega⟩ i (by omega) rfl (by omega)).trans (h'.preds g _ i g.isLt)

/-- While the memory takes the chunk's updates. -/
structure Taking (s : State bank (Elt Ideal)) : Prop where
  mem : ∀ (g : Fin 32) (j i : Fin 128), s 2 (ix3 g j i) = (0 : EReal)
  ups : ∀ (g : Fin 32) (r : Fin 64) (i : Fin 128), s 3 (ix3 g r i) = (0 : EReal)
  last : ∀ (g : Fin 32) (d : Fin 128), s 7 (ix2 g d) = (0 : EReal)

/-- One row of the batch takes the chunk's updates. -/
theorem absorbRow_does (n : ℕ) (hn : n < 32) (a : PUnit) (s : State bank (Elt Ideal)) (h : Taking s) :
    Cmd.Does (absorbRow n hn a) s fun _ => Taking := by
  refine Cmd.Does.load (Cmd.Does.load (Cmd.Does.load (Cmd.Does.load (Cmd.Does.store (Cmd.Does.ret ?_)))))
  have hN : ∀ (j i : Fin 128), VecWindow.window (s := T3 32 128 128) (s 2) ![n, 0, 0] ![1, 128, 128] (inb3 (by omega)) (ix3 0 j i) = (0 : EReal) :=
    fun j i => (window3 _ _ 0 j i ⟨n, hn⟩ j i rfl (by omega) (by omega)).trans (h.mem ⟨n, hn⟩ j i)
  have hU : ∀ (t : Fin 64) (i : Fin 128), VecWindow.window (s := T3 32 64 128) (s 3) ![n, 0, 0] ![1, 64, 128] (inb3 (by omega)) (ix3 0 t i) = (0 : EReal) :=
    fun t i => (window3 _ _ 0 t i ⟨n, hn⟩ t i rfl (by omega) (by omega)).trans (h.ups ⟨n, hn⟩ t i)
  refine ⟨?_, ?_, ?_⟩
  · rw [Function.update_self]
    intro g j i
    by_cases e : g.val = n
    · obtain rfl : g = ⟨n, hn⟩ := Fin.ext e
      exact (put3_in _ _ 0 j i _ _ _ rfl (by omega) (by omega)).trans (absorb_zero hN hU j i)
    · exact (put3_out _ _ _ _ _ (by omega)).trans (h.mem g j i)
  · rw [update_ne (by decide)]; exact h.ups
  · rw [update_ne (by decide)]; exact h.last

/-- The tests of a chunk's number. -/
theorem chunk_tests : ∀ c : Fin 8, (isChunk (BitVec.ofNat 32 c.val) 7#32 ↔ c.val = 7) ∧ (isChunk (BitVec.ofNat 32 c.val) 0#32 ↔ c.val = 0) := by decide +kernel

/-- What chunk `c` leaves. -/
structure Left (c : ℕ) (s : State bank (Elt Ideal)) : Prop where
  mem : ∀ (g : Fin 32) (j i : Fin 128), s 2 (ix3 g j i) = (0 : EReal)
  last : ∀ (g : Fin 32) (d : Fin 128), s 7 (ix2 g d) = (0 : EReal)
  read : c = 7 → ∀ (g : Fin 32) (i : Fin 128), s 1 (ix2 g i) = (0 : EReal)

variable {fl vl : Ideal .f32} {n : ℕ}

/-- The body after its start. -/
theorem rest_does (hfl : fl = ((1 / 1000000000000 : ℝ) : EReal)) (hvl : vl = ((1 / 100 : ℝ) : EReal)) (hn : n < 8) (s : State bank (Elt Ideal))
    (hN : ∀ (g : Fin 32) (j i : Fin 128), s 2 (ix3 g j i) = (0 : EReal)) (hv : ∀ (g : Fin 32) (d : Fin 128), s 7 (ix2 g d) = (0 : EReal)) :
    Cmd.Does (rest fl vl (BitVec.ofNat 32 n)) s fun _ => Left n := by
  refine Cmd.Does.load (Cmd.Does.load (Cmd.Does.store ?_))
  have hth := thresh_pos hfl hvl (shapeCast (T3 32 64 128) (VecWindow.window (s := T3 32 64 128) (s 0) ![0, 0, 0] ![32, 64, 128] (inb3 (by decide))) rfl)
  refine ret_does (Cmd.Does.bind (R := fun _ s => Held 32 0 s) ?_ fun _ s h => Cmd.Does.load (ret_does ?_))
  · refine Cmd.Does.loop (fun n _ s => Held n 0 s) ⟨?_, ?_, ?_, ?_⟩ (fun n hn a s h => prepare_does n hn a s h) fun _ _ h => h
    · rw [update_ne (by decide)]; exact hN
    · exact fun g r i hr => absurd hr (Nat.not_lt_zero _)
    · exact fun g r i hr => absurd hr (Nat.not_lt_zero _)
    · rw [update_ne (by decide)]; exact hv
  refine Cmd.Does.bind (R := Between 8) (Cmd.Does.loop Between ⟨h, fun g d => (window2 _ _ g d).trans (h.last g d)⟩ (fun j hj v s h => block_does hth j hj v s h) fun _ _ h => h)
    fun v s h => Cmd.Does.load (Cmd.Does.store (ret_does ?_))
  obtain ⟨h, hv'⟩ := h
  have hs : Taking (Function.update s 7 (VecWindow.put (s := T2 32 128) (s 7) ![0, 0] ![32, 128] (shapeCast (T2 32 128) v rfl))) := by
    refine ⟨?_, ?_, ?_⟩
    · rw [update_ne (by decide)]; exact h.mem
    · rw [update_ne (by decide)]
      exact fun g r i => h.ups g r i r.isLt
    · rw [Function.update_self]
      intro g d
      refine (put2 _ _ g d).trans ((congrFun (shapeCast_self (s := T2 32 128) _ rfl) _).trans ?_)
      exact hv' g d
  refine Cmd.Does.bind (R := fun _ s => Taking s)
    (Cmd.Does.cond (fun _ => Cmd.Does.loop (fun _ _ => Taking) hs (fun n hn a s h => absorbRow_does n hn a s h) fun _ _ h => h)
      fun _ => Cmd.Does.ret hs) fun _ s h => ?_
  refine Cmd.Does.cond (fun _ => Cmd.Does.load (Cmd.Does.store (Cmd.Does.ret ?_))) fun h7 => Cmd.Does.ret ?_
  · refine ⟨?_, ?_, fun _ => ?_⟩
    · rw [update_ne (by decide)]; exact h.mem
    · rw [update_ne (by decide)]; exact h.last
    · rw [Function.update_self]
      intro g i
      exact (put2 _ _ g i).trans (read_zero hv' g i)
  · exact ⟨h.mem, h.last, fun e => absurd ((chunk_tests ⟨n, hn⟩).1.mpr e) h7⟩

/-- The whole body, on any keys and, past the first chunk, a zero memory and a zero last prediction. -/
theorem after_left (hfl : fl = ((1 / 1000000000000 : ℝ) : EReal)) (hvl : vl = ((1 / 100 : ℝ) : EReal)) (hn : n < 8)
    (k : FVec Ideal (T3 32 64 128) .f32) {N : FVec Ideal (T3 32 128 128) .f32} {vpp : FVec Ideal (T2 32 128) .f32}
    (hN : n ≠ 0 → ∀ (g : Fin 32) (j i : Fin 128), N (ix3 g j i) = (0 : EReal))
    (hv : n ≠ 0 → ∀ (g : Fin 32) (d : Fin 128), vpp (ix2 g d) = (0 : EReal)) :
    Left n (after fl vl (BitVec.ofNat 32 n) k N vpp) := by
  have hd : Cmd.Does (body fl vl (BitVec.ofNat 32 n)) (given k N vpp) fun _ => Left n := by
    obtain ⟨-, t0⟩ := chunk_tests ⟨n, hn⟩
    refine Cmd.Does.bind (R := fun _ s => (∀ (g : Fin 32) (j i : Fin 128), s 2 (ix3 g j i) = (0 : EReal)) ∧
      ∀ (g : Fin 32) (d : Fin 128), s 7 (ix2 g d) = (0 : EReal)) (Cmd.Does.cond (fun h0 => ?_) fun h0 => ?_)
      fun _ s h => rest_does hfl hvl hn s h.1 h.2
    · refine Cmd.Does.load (Cmd.Does.store (Cmd.Does.load (Cmd.Does.store (Cmd.Does.ret ⟨?_, ?_⟩))))
      · rw [update_ne (by decide), Function.update_self]
        intro g j i
        exact (put3_in _ _ g j i _ _ _ (by omega) (by omega) (by omega)).trans Ideal.ofBits_zero_f32
      · rw [Function.update_self]
        intro g d
        exact (put2 _ _ g d).trans Ideal.ofBits_zero_f32
    · have e0 : n ≠ 0 := fun e => h0 (t0.mpr e)
      exact Cmd.Does.ret ⟨hN e0, hv e0⟩
  obtain ⟨a, s', e, h⟩ := hd
  have e' := e.symm.trans (after_run fl vl _ k N vpp)
  obtain rfl : s' = after fl vl (BitVec.ofNat 32 n) k N vpp := by simpa using e'
  exact h

end Cert.Proof.Scan

end
-- ==== Proof.ScanValue.lean ====
/-
  What the scan's call of the idealized program leaves in its result: the memory never leaves zero, whatever the keys, and
  the read-out is zero.
-/
module

public import proofs.«01_k».proof.Proof.ScanChunk
public import proofs.«01_k».proof.Proof.ScanRegionIdeal
public import Idealize.ShloMosaic.Lib.Pipeline.ValueKit

@[expose] public section

set_option maxRecDepth 16384

noncomputable section

namespace Cert.Proof.ScanValue

open Idealize.ShloMosaic
open Idealize.ShloMosaic.TcCoe
open Idealize.ShloMosaic.Pipeline (Dat)
open Cert.KernelIdeal Cert.KernelIdeal.Gen
open Cert.Proof Cert.Proof.Body Cert.Proof.ScanRegionIdeal

/-- The read-out's place at each point. -/
theorem idx : ∀ t : Fin cfg1.N, (win1 1).index t = ![t.val / 8, 0] :=
  (by decide +kernel : ∀ t : Fin grid1.N, _)

/-- The chunk's number at each point. -/
theorem coord : ∀ t : Fin cfg1.N, (grid1.coords t 1).val = t.val % 8 := (by decide +kernel : ∀ t : Fin grid1.N, _)

/-- There are sixteen points. -/
theorem lt16 (t : Fin cfg1.N) : t.val < 16 := t.isLt

/-- Where an element of the read-out's block at a point sits. -/
theorem place1 (t : Fin cfg1.N) (g : Fin 32) (d : Fin 128) :
    (((cfg1.win 1).blk t).view.emb (ix2 g d) : S64x128.Idx) = ix2 ⟨t.val / 8 * 32 + g.val, by have := lt16 t; omega⟩ d := by
  have e := idx t
  have e0 : (win1 1).index t 0 = t.val / 8 := congrFun e 0
  have e1 : (win1 1).index t 1 = 0 := congrFun e 1
  refine funext fun (a : Fin 2) => Fin.ext ?_
  match a with
  | 0 => show (win1 1).index t 0 * 32 + 1 * g.val = t.val / 8 * 32 + g.val; rw [e0, Nat.one_mul]
  | 1 => show (win1 1).index t 1 * 128 + 1 * d.val = d.val; rw [e1, Nat.one_mul, Nat.zero_mul, Nat.zero_add]

/-- An index by its coordinates. -/
theorem pair (y : S32x128.Idx) : ∃ (g : Fin 32) (d : Fin 128), y = ix2 g d := ⟨y 0, y 1, eq_ix2 y⟩

/-- The read-out's blocks cover its array. -/
theorem covers : (cfg1.win 1).Covers := by decide +kernel

variable [Cert.KernelIdeal.Facts]

/-- The floor, named. -/
theorem floor2_eq : (fl : Ideal .f32) = ((1 / 1000000000000 : ℝ) : EReal) :=
  IdealRules.named_const.ideal_named_scalar Cert.KernelIdeal.κ "floor2" _ _ rfl
/-- The threshold, named. -/
theorem vel2_eq : (vl : Ideal .f32) = ((1 / 100 : ℝ) : EReal) :=
  IdealRules.named_const.ideal_named_scalar Cert.KernelIdeal.κ "vel2" _ _ rfl

variable (W : Dev nD → Valuation τ sig (Elt Ideal)) (c : Dev nD)

/-- What the body leaves at the points of one half of the batch. -/
theorem acc_left (p : Fin 2) : ∀ n : ℕ, n < 8 → Scan.Left n (acc W c (p.val * 8 + n + 1))
  | n, hn => by
    have hN : cfg1.N = 16 := rfl
    have ht : p.val * 8 + n < cfg1.N := by have := p.isLt; omega
    have e := acc_succ W c ⟨p.val * 8 + n, ht⟩
    have hc : chunk ⟨p.val * 8 + n, ht⟩ = BitVec.ofNat 32 n := by
      unfold chunk
      rw [coord]
      exact congrArg _ (show (p.val * 8 + n) % 8 = n by omega)
    rw [hc] at e
    show Scan.Left n (acc W c ((⟨p.val * 8 + n, ht⟩ : Fin cfg1.N).val + 1))
    rw [e]
    refine Scan.after_left floor2_eq vel2_eq hn _ ?_ ?_
    · intro h0
      obtain ⟨n, rfl⟩ := Nat.exists_eq_succ_of_ne_zero h0
      exact (acc_left p n (by omega)).mem
    · intro h0
      obtain ⟨n, rfl⟩ := Nat.exists_eq_succ_of_ne_zero h0
      exact (acc_left p n (by omega)).last

/-- What a point leaves of the read-out. -/
theorem after_1 (t : Fin cfg1.N) : (dat W c).after 1 t = acc W c (t.val + 1) 1 := rfl

/-- The read-outs of the whole batch. -/
def reads : S64x128.Idx → EReal := fun _ => 0

/-- What a point that is written back leaves. -/
theorem after_read (t : Fin cfg1.N) (h7 : t.val % 8 = 7) (g : Fin 32) (d : Fin 128) : acc W c (t.val + 1) 1 (ix2 g d) = (0 : EReal) := by
  have hp : t.val / 8 < 2 := by have := lt16 t; omega
  have ht : t.val = t.val / 8 * 8 + 7 := by omega
  have hL := (acc_left W c ⟨t.val / 8, hp⟩ 7 (by omega)).read rfl g d
  exact (congrArg (fun n => acc W c (n + 1) 1 (ix2 g d)) ht).trans hL

/-- The read-out's array after the call. -/
theorem read_eq : (dat W c).arrAt 1 cfg1.N = reads := by
  refine (dat W c).arrAt_eq_of_covers 1 _ covers fun t hf y => ?_
  blk_simp
  obtain ⟨g, d, rfl⟩ := pair y
  rw [after_1]
  exact after_read W c t ((flush1_1 t).mp hf) g d

end Cert.Proof.ScanValue

end
-- ==== Proof.OutValue.lean ====
/-
  What the logits' call of the idealized program leaves in its result.
-/
module

public import proofs.«01_k».proof.Proof.OutRegionIdeal
public import proofs.«01_k».proof.Proof.Spec
public import Idealize.ShloMosaic.Lib.Pipeline.ValueKit

@[expose] public section

set_option maxRecDepth 16384

noncomputable section

namespace Cert.Proof.OutValue

open Idealize.ShloMosaic
open Idealize.ShloMosaic.TcCoe
open Idealize.ShloMosaic.Pipeline (Dat)
open Cert.KernelIdeal Cert.KernelIdeal.Gen
open Cert.Proof Cert.Proof.Body Cert.Proof.OutRegionIdeal
open Cert.Proof.Scan (T1 T2)

/-- The windows' places at each point. -/
theorem idx : ∀ t : Fin cfg2.N, (win2 0).index t = ![0, 0] ∧ (win2 1).index t = ![0, 0] ∧ (win2 2).index t = ![0, 0]
    ∧ (win2 3).index t = ![0, t.val] ∧ (win2 4).index t = ![0, t.val] ∧ (win2 5).index t = ![0, t.val] := (by decide +kernel : ∀ t : Fin grid2.N, _)

/-- There are ten points. -/
theorem lt10 (t : Fin cfg2.N) : t.val < 10 := t.isLt

/-- The logits' blocks cover their array. -/
theorem covers : (cfg2.win 5).Covers := by decide +kernel

/-- The column of the logits at a point. -/
def col (t : Fin cfg2.N) (n : Fin 3200) : Fin 32000 := ⟨t.val * 3200 + n.val, by have := lt10 t; omega⟩

/-- Where an element of a point's block of the read-out sits. -/
theorem place0 (t : Fin cfg2.N) (b : Fin 64) (d : Fin 128) : (((cfg2.win 0).blk t).view.emb (ix2 b d) : S64x128.Idx) = ix2 b d := by
  have e := (idx t).1
  have e0 : (win2 0).index t 0 = 0 := congrFun e 0
  have e1 : (win2 0).index t 1 = 0 := congrFun e 1
  refine funext fun (a : Fin 2) => Fin.ext ?_
  match a with
  | 0 => show (win2 0).index t 0 * 64 + 1 * b.val = b.val; rw [e0]; omega
  | 1 => show (win2 0).index t 1 * 128 + 1 * d.val = d.val; rw [e1]; omega
/-- Where an element of a point's block of the read-out's weights sits. -/
theorem place1 (t : Fin cfg2.N) (b : Fin 128) (d : Fin 128) : (((cfg2.win 1).blk t).view.emb (ix2 b d) : S128x128.Idx) = ix2 b d := by
  have e := (idx t).2.1
  have e0 : (win2 1).index t 0 = 0 := congrFun e 0
  have e1 : (win2 1).index t 1 = 0 := congrFun e 1
  refine funext fun (a : Fin 2) => Fin.ext ?_
  match a with
  | 0 => show (win2 1).index t 0 * 128 + 1 * b.val = b.val; rw [e0]; omega
  | 1 => show (win2 1).index t 1 * 128 + 1 * d.val = d.val; rw [e1]; omega
/-- Where an element of a point's block of the read-out's bias sits. -/
theorem place2 (t : Fin cfg2.N) (b : Fin 1) (d : Fin 128) : (((cfg2.win 2).blk t).view.emb (ix2 b d) : S1x128.Idx) = ix2 b d := by
  have e := (idx t).2.2.1
  have e0 : (win2 2).index t 0 = 0 := congrFun e 0
  have e1 : (win2 2).index t 1 = 0 := congrFun e 1
  refine funext fun (a : Fin 2) => Fin.ext ?_
  match a with
  | 0 => show (win2 2).index t 0 * 1 + 1 * b.val = b.val; rw [e0]; omega
  | 1 => show (win2 2).index t 1 * 128 + 1 * d.val = d.val; rw [e1]; omega
/-- Where an element of a point's block of the logits' weights sits. -/
theorem place3 (t : Fin cfg2.N) (b : Fin 128) (n : Fin 3200) : (((cfg2.win 3).blk t).view.emb (ix2 b n) : S128x32000.Idx) = ix2 b (col t n) := by
  have e := (idx t).2.2.2.1
  have e0 : (win2 3).index t 0 = 0 := congrFun e 0
  have e1 : (win2 3).index t 1 = t.val := congrFun e 1
  refine funext fun (a : Fin 2) => Fin.ext ?_
  match a with
  | 0 => show (win2 3).index t 0 * 128 + 1 * b.val = b.val; rw [e0]; omega
  | 1 => show (win2 3).index t 1 * 3200 + 1 * n.val = t.val * 3200 + n.val; rw [e1]; omega
/-- Where an element of a point's block of the logits' bias sits. -/
theorem place4 (t : Fin cfg2.N) (b : Fin 1) (n : Fin 3200) : (((cfg2.win 4).blk t).view.emb (ix2 b n) : S1x32000.Idx) = ix2 b (col t n) := by
  have e := (idx t).2.2.2.2.1
  have e0 : (win2 4).index t 0 = 0 := congrFun e 0
  have e1 : (win2 4).index t 1 = t.val := congrFun e 1
  refine funext fun (a : Fin 2) => Fin.ext ?_
  match a with
  | 0 => show (win2 4).index t 0 * 1 + 1 * b.val = b.val; rw [e0]; omega
  | 1 => show (win2 4).index t 1 * 3200 + 1 * n.val = t.val * 3200 + n.val; rw [e1]; omega
/-- Where an element of a point's block of the logits sits. -/
theorem place5 (t : Fin cfg2.N) (b : Fin 64) (n : Fin 3200) : (((cfg2.win 5).blk t).view.emb (ix2 b n) : S64x32000.Idx) = ix2 b (col t n) := by
  have e := (idx t).2.2.2.2.2
  have e0 : (win2 5).index t 0 = 0 := congrFun e 0
  have e1 : (win2 5).index t 1 = t.val := congrFun e 1
  refine funext fun (a : Fin 2) => Fin.ext ?_
  match a with
  | 0 => show (win2 5).index t 0 * 64 + 1 * b.val = b.val; rw [e0]; omega
  | 1 => show (win2 5).index t 1 * 3200 + 1 * n.val = t.val * 3200 + n.val; rw [e1]; omega

/-- An index by its coordinates. -/
theorem pair (y : S64x3200.Idx) : ∃ (b : Fin 64) (n : Fin 3200), y = ix2 b n := ⟨y 0, y 1, eq_ix2 y⟩

/-- A block's logits, element by element. -/
theorem block_eq (r : FVec Ideal (T2 64 128) .f32) (wr : FVec Ideal (T2 128 128) .f32) (br : FVec Ideal (T2 1 128) .f32)
    (wo : FVec Ideal (T2 128 3200) .f32) (bo : FVec Ideal (T2 1 3200) .f32) (b : Fin 64) (n : Fin 3200) :
    Out.logits r wr br wo bo (ix2 b n)
      = (∑ d : Fin 128, ((∑ i : Fin 128, r (ix2 b i) * wr (ix2 i d)) + br (ix2 0 d)) * wo (ix2 d n)) + bo (ix2 0 n) := by
  unfold Out.logits
  pointwise

variable [Cert.KernelIdeal.Facts]
variable (W : Dev nD → Valuation τ sig (Elt Ideal)) (c : Dev nD)

/-- What a point leaves of the logits. -/
theorem after_5 (t : Fin cfg2.N) : (dat W c).after 5 t = left W c t := rfl

/-- The logits of the arrays the call reads. -/
def logits (r : S64x128.Idx → EReal) (w : S128x128.Idx → EReal) (β : S128.Idx → EReal) (v : S128x32000.Idx → EReal) (γ : S32000.Idx → EReal) :
    S64x32000.Idx → EReal := fun x => Spec.logit r w β v γ (x 0) (x 1)

variable {W c}
variable {r : S64x128.Idx → EReal} {w : S128x128.Idx → EReal} {β : S128.Idx → EReal} {v : S128x32000.Idx → EReal} {γ : S32000.Idx → EReal}

/-- What a point leaves, element by element. -/
theorem left_eq (hr : W c (Proc.devRef .tc main_v7) = r) (hw : W c (Proc.devRef .tc main_arg9) = w)
    (hβ : ∀ d : Fin 128, (W c (Proc.devRef .tc main_v8) : S1x128.Idx → EReal) (ix2 0 d) = β (ix1 d)) (hv : W c (Proc.devRef .tc main_arg11) = v)
    (hγ : ∀ n : Fin 32000, (W c (Proc.devRef .tc main_v9) : S1x32000.Idx → EReal) (ix2 0 n) = γ (ix1 n))
    (t : Fin cfg2.N) (b : Fin 64) (n : Fin 3200) : left W c t (ix2 b n) = Spec.logit r w β v γ b (col t n) := by
  have e0 : ∀ (b : Fin 64) (i : Fin 128), blk W c 0 t (ix2 b i) = r (ix2 b i) := fun b i =>
    (congrArg (W c (Proc.devRef .tc main_v7)) (place0 t b i)).trans (congrFun hr _)
  have e1 : ∀ i d : Fin 128, blk W c 1 t (ix2 i d) = w (ix2 i d) := fun i d =>
    (congrArg (W c (Proc.devRef .tc main_arg9)) (place1 t i d)).trans (congrFun hw _)
  have e2 : ∀ d : Fin 128, blk W c 2 t (ix2 0 d) = β (ix1 d) := fun d =>
    (congrArg (W c (Proc.devRef .tc main_v8)) (place2 t 0 d)).trans (hβ d)
  have e3 : ∀ d : Fin 128, blk W c 3 t (ix2 d n) = v (ix2 d (col t n)) := fun d =>
    (congrArg (W c (Proc.devRef .tc main_arg11)) (place3 t d n)).trans (congrFun hv _)
  have e4 : blk W c 4 t (ix2 0 n) = γ (ix1 (col t n)) := (congrArg (W c (Proc.devRef .tc main_v9)) (place4 t 0 n)).trans (hγ _)
  refine (block_eq _ _ _ _ _ b n).trans ?_
  unfold Spec.logit
  refine congr (congrArg HAdd.hAdd (Finset.sum_congr rfl fun d _ => ?_)) e4
  refine congr (congrArg HMul.hMul (congr (congrArg HAdd.hAdd (Finset.sum_congr rfl fun i _ => ?_)) (e2 d))) (e3 d)
  exact congr (congrArg HMul.hMul (e0 b i)) (e1 i d)

/-- The logits' array after the call. -/
theorem logits_eq (hr : W c (Proc.devRef .tc main_v7) = r) (hw : W c (Proc.devRef .tc main_arg9) = w)
    (hβ : ∀ d : Fin 128, (W c (Proc.devRef .tc main_v8) : S1x128.Idx → EReal) (ix2 0 d) = β (ix1 d)) (hv : W c (Proc.devRef .tc main_arg11) = v)
    (hγ : ∀ n : Fin 32000, (W c (Proc.devRef .tc main_v9) : S1x32000.Idx → EReal) (ix2 0 n) = γ (ix1 n)) :
    (dat W c).arrAt 5 cfg2.N = logits r w β v γ := by
  refine (dat W c).arrAt_eq_of_covers 5 _ covers fun t hf y => ?_
  blk_simp
  obtain ⟨b, n, rfl⟩ := pair y
  rw [after_5]
  refine (left_eq hr hw hβ hv hγ t b n).trans ?_
  exact (congrArg (logits r w β v γ) (place5 t b n)).symm

end Cert.Proof.OutValue

end
-- ==== Proof.KernelValue.lean ====
/-
  The kernel's result: the scan's read-out through the last call, with the reshapes between.
-/
module

public import proofs.«01_k».proof.Proof.FrameIdeal
public import proofs.«01_k».proof.Proof.ScanValue
public import proofs.«01_k».proof.Proof.OutValue
public import Idealize.ShloMosaic.Lib.StableHlo.RunRead
public import Idealize.ShloMosaic.Lib.Pointwise

@[expose] public section

noncomputable section

namespace Cert.Proof.KernelValue

open Idealize.ShloMosaic
open Idealize.ShloMosaic.TcCoe
open Idealize.ShloMosaic.StableHlo Idealize.ShloMosaic.Tactic
open Cert.KernelIdeal Cert.KernelIdeal.Gen
open Cert.Proof.LaunchIdeal (A2 A3 A4 A5 A6 next0 next1 next2 readOf logitsOf)

section Shapes
variable [Cert.KernelIdeal.Facts] {α : Type}

/-- A vector as a matrix of one row. -/
theorem row128 (x : S128.Idx → α) (j : Fin 128) : shapeCast S1x128 x shapeCasts_S128_S1x128 (ix2 0 j) = x (ix1 j) := by pointwise
/-- A vector as a matrix of one row. -/
theorem row32000 (x : S32000.Idx → α) (j : Fin 32000) : shapeCast S1x32000 x shapeCasts_S32000_S1x32000 (ix2 0 j) = x (ix1 j) := by pointwise
end Shapes

variable [Cert.KernelIdeal.Facts]
variable (m : (ℓ : Loc nD τ sig) → Buf (Elt Ideal) ℓ) (c : Dev nD)

/-- An argument on the device. -/
abbrev arg (r : Ref sig .tc) : Buf (Elt Ideal) ((c : Thread nD τ).loc r) := m ((c : Thread nD τ).loc r)

variable {m c}

/-- What neither the first two calls nor the reshapes between write is before the last call as at the start. -/
theorem A4_keeps (r : Ref sig .tc) (h0 : r ∉ hostOps0_W) (h1 : r ∉ hostOps1_W) (h5 : r ≠ main_v5) (h7 : r ≠ main_v7) :
    A4 m c (Proc.devRef .tc r) = arg m c r := by
  unfold A4 next1
  rw [Function.update_of_ne (StableHlo.devRef_ne_of_ne h7)]
  unfold A3
  rw [StableHlo.after_of_writes_sub hostOps1 _ hostOps1_writes h1]
  unfold A2 next0
  rw [Function.update_of_ne (StableHlo.devRef_ne_of_ne h5)]
  exact V1_of m c r h0

/-- The read-out's bias as the last call takes it. -/
theorem A5_beta : A5 m c main_v8 = shapeCast S1x128 (arg m c main_arg10) shapeCasts_S128_S1x128 := by
  rw [← A4_keeps (m := m) (c := c) main_arg10 (by decide) (by decide) (by decide) (by decide)]
  show StableHlo.after hostOps2 (A4 m c) (Proc.devRef .tc main_v8) = _
  generalize A4 m c = X
  after_reads_simp
  rfl
/-- The logits' bias as the last call takes it. -/
theorem A5_gamma : A5 m c main_v9 = shapeCast S1x32000 (arg m c main_arg12) shapeCasts_S32000_S1x32000 := by
  rw [← A4_keeps (m := m) (c := c) main_arg12 (by decide) (by decide) (by decide) (by decide)]
  show StableHlo.after hostOps2 (A4 m c) (Proc.devRef .tc main_v9) = _
  generalize A4 m c = X
  after_reads_simp
  rfl

/-- The kernel's result: the logits of a zero read-out. -/
theorem result : A6 m c main_v10
    = OutValue.logits ScanValue.reads (arg m c main_arg9) (arg m c main_arg10) (arg m c main_arg11) (arg m c main_arg12) := by
  refine (show A6 m c (Proc.devRef .tc main_v10) = logitsOf (A5 m) c from Function.update_self _ _ _).trans ?_
  refine OutValue.logits_eq ?_ ?_ (fun d => ?_) ?_ (fun n => ?_)
  · refine (StableHlo.after_of_writes_sub hostOps2 (A4 m c) hostOps2_writes (show main_v7 ∉ hostOps2_W by decide)).trans ?_
    exact (show A4 m c (Proc.devRef .tc main_v7) = readOf (A3 m) c from Function.update_self _ _ _).trans (ScanValue.read_eq (A3 m) c)
  · exact (StableHlo.after_of_writes_sub hostOps2 (A4 m c) hostOps2_writes (show main_arg9 ∉ hostOps2_W by decide)).trans
      (A4_keeps main_arg9 (by decide) (by decide) (by decide) (by decide))
  · rw [show A5 m c (Proc.devRef .tc main_v8) = _ from A5_beta]
    exact row128 _ d
  · exact (StableHlo.after_of_writes_sub hostOps2 (A4 m c) hostOps2_writes (show main_arg11 ∉ hostOps2_W by decide)).trans
      (A4_keeps main_arg11 (by decide) (by decide) (by decide) (by decide))
  · rw [show A5 m c (Proc.devRef .tc main_v9) = _ from A5_gamma]
    exact row32000 _ n

end Cert.Proof.KernelValue

end
-- ==== Proof.RefValue.lean ====
/-
  The reference's result.
-/
module

public import proofs.«01_k».proof.Proof.RefScan
public import proofs.«01_k».proof.Proof.KernelValue

@[expose] public section

noncomputable section

namespace Cert.Proof.RefValue

open Idealize.ShloMosaic
open Idealize.ShloMosaic.TcCoe
open Idealize.ShloMosaic.StableHlo
open Cert.ReferenceIdeal Cert.ReferenceIdeal.Gen Cert.ReferenceIdeal.Value
open Cert.Proof.Scan (T1 T2)

variable [Cert.ReferenceIdeal.Facts]
variable {m : (ℓ : Loc nD τ sig) → Buf (Elt Ideal) ℓ} {c : Dev nD}

/-- An array read through its coordinates. -/
theorem by_places {p q : ℕ} {x y : (T2 p q).Idx → EReal} (h : ∀ i j, x (ix2 i j) = y (ix2 i j)) : x = y := funext fun i => by
  have e : i = ix2 (i 0) (i 1) := by
    funext a
    match a with
    | 0 => rfl
    | 1 => rfl
  rw [e]
  exact h _ _

/-- The reference's read-out is zero. -/
theorem read : (RefFrame.final m c (Proc.devRef .tc main_v43) : S64x128.Idx → EReal) = ScanValue.reads :=
  by_places fun b i => RefScan.read_zero m c b i

/-- What no operation up to the loop's end writes is then as at the start. -/
theorem beyond_arg (r : Ref sig .tc) (h0 : r ∉ RefFrame.before) (h1 : r ∉ RefFrame.trip) :
    RefScan.beyond m c (Proc.devRef .tc r) = m ((c : Thread nD τ).loc r) :=
  (RefScan.beyond_keeps m c r h1).trans (RefFrame.entry_keeps m c r h0)

/-- The reference's result: the logits of a zero read-out. -/
theorem result : (RefFrame.final m c (Proc.devRef .tc main_v51) : S64x32000.Idx → EReal)
    = OutValue.logits ScanValue.reads (m ((c : Thread nD τ).loc main_arg9)) (m ((c : Thread nD τ).loc main_arg10))
        (m ((c : Thread nD τ).loc main_arg11)) (m ((c : Thread nD τ).loc main_arg12)) :=
  by_places fun b n => by
    refine (RefScan.logits_from (RefScan.beyond m c) b n).trans ?_
    rw [beyond_arg main_arg9 (by decide) (by decide), beyond_arg main_arg10 (by decide) (by decide),
      beyond_arg main_arg11 (by decide) (by decide), beyond_arg main_arg12 (by decide) (by decide)]
    rw [show (after hostOps0_5 (RefScan.beyond m c) (Proc.devRef .tc main_v43)) = _ from read]
    rfl

end Cert.Proof.RefValue

end
-- ==== Proof.Algebraic.lean ====
/-
  The value claim: from agreeing arguments and tokens in range, the kernel and the reference end with the same logits.
-/
module

public import proofs.«01_k».proof.Defs
public import proofs.«01_k».proof.Proof.Frames
public import proofs.«01_k».proof.Proof.Pre
public import proofs.«01_k».proof.Proof.RefValue

@[expose] public section

noncomputable section

namespace Cert.Proof.Algebraic

open Idealize.ShloMosaic Idealize.ShloMosaic.TcCoe Idealize.ShloMosaic.StableHlo
open Idealize.SL Idealize.SL.Sem

/-- The kernel and the reference compute the same logits. -/
theorem values [Cert.KernelIdeal.Facts] [Cert.ReferenceIdeal.Facts] [Cert.Pre_tokens_in_range.Facts] :
    Cert.algebraic_KernelIdeal_ReferenceIdeal := by
  intro m g m' g' hpre hargs
  refine ⟨fun c => LaunchIdeal.A6 m c Cert.KernelIdeal.main_v10, ?_, ?_⟩
  · exact θ_run_mono (FrameIdeal.run m (fun c => Pre.tokens _ _ _ _ _ _ _ _ _ _ _ _ _ (hpre c)) g) fun r hr c => ⟨hr.1.1 c, hr.1.2 c⟩
  · refine θ_run_mono (RefFrame.run m' g') fun r hr c => ⟨?_, ?_⟩
    · refine (hr.1 c Cert.ReferenceIdeal.main_v51 (by decide)).trans ?_
      obtain ⟨-, -, -, -, -, -, -, -, -, e9, e10, e11, e12⟩ := hargs c
      refine RefValue.result.trans (Eq.trans ?_ KernelValue.result.symm)
      rw [e9, e10, e11, e12]
    · refine ⟨?_, ?_, ?_, ?_, ?_, ?_, ?_, ?_, ?_, ?_, ?_, ?_, ?_⟩ <;>
        exact Frames.same m' c _ (by decide) (by decide) (by decide) (by decide) hr.1

end Cert.Proof.Algebraic

end
-- ==== Proof.lean ====
/-
  The proof of the certificate's claims: each of the parts below, proved in the modules under Proof/.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_tokens_in_range
public import proofs.«01_k».proof.Proof.Frames
public import proofs.«01_k».proof.Proof.RefWritten
public import proofs.«01_k».proof.Proof.Algebraic

@[expose] public section

noncomputable section

namespace Cert.Proof

open Idealize.ShloMosaic Idealize.SL.Sem

/-- All the claims. -/
theorem claim : Cert.Claim :=
  ⟨Cert.Kernel.Gen.facts, Cert.KernelIdeal.Gen.facts, RefWritten.facts, Cert.ReferenceIdeal.Gen.facts, Cert.Pre_tokens_in_range.Gen.facts,
    letI := Cert.Kernel.Gen.facts
    letI := Cert.KernelIdeal.Gen.facts
    letI := RefWritten.facts
    letI := Cert.ReferenceIdeal.Gen.facts
    letI := Cert.Pre_tokens_in_range.Gen.facts
    ⟨Frames.written, Frames.ideal, RefWritten.reference, Frames.reference, Frames.reference_tokens, Frames.constants, Algebraic.values⟩⟩

end Cert.Proof

end
